-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInRefIdeal (m : (ℓ : Loc Cert.BwdInRefIdeal.nD Cert.BwdInRefIdeal.τ Cert.BwdInRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_finite_ffn_in [hPre_finite_ffn_in : Cert.Pre_finite_ffn_in.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_finite_ffn_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2))) = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_finite_ffn_in [hPre_finite_ffn_in : Cert.Pre_finite_ffn_in.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_finite_ffn_in.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3))
      ∧ r.2.sem = fun _ => 0)

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ r.2.sem = fun _ => 0)

def quiescent_BwdInRefIdeal [hBwdInRefIdeal : Cert.BwdInRefIdeal.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ r.2.sem = fun _ => 0)

def quiescent_FfnInIdeal_pre_finite_ffn_in [hFfnInIdeal : Cert.FfnInIdeal.Facts] [hPre_finite_ffn_in : Cert.Pre_finite_ffn_in.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_finite_ffn_in m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2))
      ∧ r.2.sem = fun _ => 0)

def quiescent_FfnInRefIdeal_pre_finite_ffn_in [hFfnInRefIdeal : Cert.FfnInRefIdeal.Facts] [hPre_finite_ffn_in : Cert.Pre_finite_ffn_in.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_finite_ffn_in m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v95_0)) (v1 : (c : Dev Cert.KernelIdeal.nD) → Buf (Elt Ideal) ((c.tc : Thread Cert.KernelIdeal.nD Cert.KernelIdeal.τ).loc Cert.KernelIdeal.main_v95_1)) (v2 : (c : Dev Cert.KernelIdeal.nD) → Buf (Elt Ideal) ((c.tc : Thread Cert.KernelIdeal.nD Cert.KernelIdeal.τ).loc Cert.KernelIdeal.main_v95_2)) (v3 : (c : Dev Cert.KernelIdeal.nD) → Buf (Elt Ideal) ((c.tc : Thread Cert.KernelIdeal.nD Cert.KernelIdeal.τ).loc Cert.KernelIdeal.main_v95_3)) (v4 : (c : Dev Cert.KernelIdeal.nD) → Buf (Elt Ideal) ((c.tc : Thread Cert.KernelIdeal.nD Cert.KernelIdeal.τ).loc Cert.KernelIdeal.main_v95_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95_0) = v0 c
          ∧ r.2.mem ((c.tc : Thread Cert.KernelIdeal.nD Cert.KernelIdeal.τ).loc Cert.KernelIdeal.main_v95_1) = v1 c
          ∧ r.2.mem ((c.tc : Thread Cert.KernelIdeal.nD Cert.KernelIdeal.τ).loc Cert.KernelIdeal.main_v95_2) = v2 c
          ∧ r.2.mem ((c.tc : Thread Cert.KernelIdeal.nD Cert.KernelIdeal.τ).loc Cert.KernelIdeal.main_v95_3) = v3 c
          ∧ r.2.mem ((c.tc : Thread Cert.KernelIdeal.nD Cert.KernelIdeal.τ).loc Cert.KernelIdeal.main_v95_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_v94) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v8) = v0 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1))

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)
      ∧ m' ((c.tc : Thread Cert.WInRefIdeal.nD Cert.WInRefIdeal.τ).loc Cert.WInRefIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v0)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v0) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v9) = v0 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0)
          ∧ r.2.mem ((c.tc : Thread Cert.WInRefIdeal.nD Cert.WInRefIdeal.τ).loc Cert.WInRefIdeal.main_arg1) = m' ((c.tc : Thread Cert.WInRefIdeal.nD Cert.WInRefIdeal.τ).loc Cert.WInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)) →
    ∃ (v0 : (c : Dev Cert.FfnOutIdeal.nD) → Buf (Elt Ideal) ((c.tc : Thread Cert.FfnOutIdeal.nD Cert.FfnOutIdeal.τ).loc Cert.FfnOutIdeal.main_v0_0)) (v1 : (c : Dev Cert.FfnOutIdeal.nD) → Buf (Elt Ideal) ((c.tc : Thread Cert.FfnOutIdeal.nD Cert.FfnOutIdeal.τ).loc Cert.FfnOutIdeal.main_v0_1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0_0) = v0 c
          ∧ r.2.mem ((c.tc : Thread Cert.FfnOutIdeal.nD Cert.FfnOutIdeal.τ).loc Cert.FfnOutIdeal.main_v0_1) = v1 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v21) = v0 c
          ∧ r.2.mem ((c.tc : Thread Cert.FfnOutRefIdeal.nD Cert.FfnOutRefIdeal.τ).loc Cert.FfnOutRefIdeal.main_v4) = v1 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3))

def preserves_BwdIn_BwdInIdeal : Prop :=
  True

def algebraic_BwdInIdeal_BwdInRefIdeal [hBwdInIdeal : Cert.BwdInIdeal.Facts] [hBwdInRefIdeal : Cert.BwdInRefIdeal.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInRefIdeal.nD Cert.BwdInRefIdeal.τ Cert.BwdInRefIdeal.sig) → Buf (Elt Ideal) ℓ) (g' : Dev Cert.BwdInRefIdeal.nD → PrngReg), Pre_BwdInIdeal m →
    (∀ c : Dev Cert.BwdInIdeal.nD,
      m' ((c.tc : Thread Cert.BwdInRefIdeal.nD Cert.BwdInRefIdeal.τ).loc Cert.BwdInRefIdeal.main_arg0) = m ((c.tc : Thread Cert.BwdInIdeal.nD Cert.BwdInIdeal.τ).loc Cert.BwdInIdeal.main_arg0)
      ∧ m' ((c.tc : Thread Cert.BwdInRefIdeal.nD Cert.BwdInRefIdeal.τ).loc Cert.BwdInRefIdeal.main_arg1) = m ((c.tc : Thread Cert.BwdInIdeal.nD Cert.BwdInIdeal.τ).loc Cert.BwdInIdeal.main_arg1)
      ∧ m' ((c.tc : Thread Cert.BwdInRefIdeal.nD Cert.BwdInRefIdeal.τ).loc Cert.BwdInRefIdeal.main_arg2) = m ((c.tc : Thread Cert.BwdInIdeal.nD Cert.BwdInIdeal.τ).loc Cert.BwdInIdeal.main_arg2)
      ∧ m' ((c.tc : Thread Cert.BwdInRefIdeal.nD Cert.BwdInRefIdeal.τ).loc Cert.BwdInRefIdeal.main_arg3) = m ((c.tc : Thread Cert.BwdInIdeal.nD Cert.BwdInIdeal.τ).loc Cert.BwdInIdeal.main_arg3)
      ∧ m' ((c.tc : Thread Cert.BwdInRefIdeal.nD Cert.BwdInRefIdeal.τ).loc Cert.BwdInRefIdeal.main_arg4) = m ((c.tc : Thread Cert.BwdInIdeal.nD Cert.BwdInIdeal.τ).loc Cert.BwdInIdeal.main_arg4)) →
    ∃ (v0 : (c : Dev Cert.BwdInIdeal.nD) → Buf (Elt Ideal) ((c.tc : Thread Cert.BwdInIdeal.nD Cert.BwdInIdeal.τ).loc Cert.BwdInIdeal.main_v0_0)) (v1 : (c : Dev Cert.BwdInIdeal.nD) → Buf (Elt Ideal) ((c.tc : Thread Cert.BwdInIdeal.nD Cert.BwdInIdeal.τ).loc Cert.BwdInIdeal.main_v0_1)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v0_0) = v0 c
          ∧ r.2.mem ((c.tc : Thread Cert.BwdInIdeal.nD Cert.BwdInIdeal.τ).loc Cert.BwdInIdeal.main_v0_1) = v1 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ θ_run (Cert.BwdInRefIdeal.defs (F := Ideal)) (onTc (τ := Cert.BwdInRefIdeal.τ) (Cert.BwdInRefIdeal.main (F := Ideal))) ⟨m', fun _ => 0, g'⟩ (fun r => ∀ c : Dev Cert.BwdInRefIdeal.nD,
          r.2.mem ((c.tc : Thread Cert.BwdInRefIdeal.nD Cert.BwdInRefIdeal.τ).loc Cert.BwdInRefIdeal.main_v45) = v0 c
          ∧ r.2.mem ((c.tc : Thread Cert.BwdInRefIdeal.nD Cert.BwdInRefIdeal.τ).loc Cert.BwdInRefIdeal.main_v46) = v1 c
          ∧ r.2.mem ((c.tc : Thread Cert.BwdInRefIdeal.nD Cert.BwdInRefIdeal.τ).loc Cert.BwdInRefIdeal.main_arg0) = m' ((c.tc : Thread Cert.BwdInRefIdeal.nD Cert.BwdInRefIdeal.τ).loc Cert.BwdInRefIdeal.main_arg0)
          ∧ r.2.mem ((c.tc : Thread Cert.BwdInRefIdeal.nD Cert.BwdInRefIdeal.τ).loc Cert.BwdInRefIdeal.main_arg1) = m' ((c.tc : Thread Cert.BwdInRefIdeal.nD Cert.BwdInRefIdeal.τ).loc Cert.BwdInRefIdeal.main_arg1)
          ∧ r.2.mem ((c.tc : Thread Cert.BwdInRefIdeal.nD Cert.BwdInRefIdeal.τ).loc Cert.BwdInRefIdeal.main_arg2) = m' ((c.tc : Thread Cert.BwdInRefIdeal.nD Cert.BwdInRefIdeal.τ).loc Cert.BwdInRefIdeal.main_arg2)
          ∧ r.2.mem ((c.tc : Thread Cert.BwdInRefIdeal.nD Cert.BwdInRefIdeal.τ).loc Cert.BwdInRefIdeal.main_arg3) = m' ((c.tc : Thread Cert.BwdInRefIdeal.nD Cert.BwdInRefIdeal.τ).loc Cert.BwdInRefIdeal.main_arg3)
          ∧ r.2.mem ((c.tc : Thread Cert.BwdInRefIdeal.nD Cert.BwdInRefIdeal.τ).loc Cert.BwdInRefIdeal.main_arg4) = m' ((c.tc : Thread Cert.BwdInRefIdeal.nD Cert.BwdInRefIdeal.τ).loc Cert.BwdInRefIdeal.main_arg4))

def preserves_FfnIn_FfnInIdeal : Prop :=
  True

def algebraic_FfnInIdeal_FfnInRefIdeal_pre_finite_ffn_in [hFfnInIdeal : Cert.FfnInIdeal.Facts] [hFfnInRefIdeal : Cert.FfnInRefIdeal.Facts] [hPre_finite_ffn_in : Cert.Pre_finite_ffn_in.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_finite_ffn_in m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)) (v2 : (c : Dev Cert.FfnInIdeal.nD) → Buf (Elt Ideal) ((c.tc : Thread Cert.FfnInIdeal.nD Cert.FfnInIdeal.τ).loc Cert.FfnInIdeal.main_v0_2)) (v3 : (c : Dev Cert.FfnInIdeal.nD) → Buf (Elt Ideal) ((c.tc : Thread Cert.FfnInIdeal.nD Cert.FfnInIdeal.τ).loc Cert.FfnInIdeal.main_v0_3)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_v0_2) = v2 c
          ∧ r.2.mem ((c.tc : Thread Cert.FfnInIdeal.nD Cert.FfnInIdeal.τ).loc Cert.FfnInIdeal.main_v0_3) = v3 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v28) = v0 c
          ∧ r.2.mem ((c.tc : Thread Cert.FfnInRefIdeal.nD Cert.FfnInRefIdeal.τ).loc Cert.FfnInRefIdeal.main_v31) = v1 c
          ∧ r.2.mem ((c.tc : Thread Cert.FfnInRefIdeal.nD Cert.FfnInRefIdeal.τ).loc Cert.FfnInRefIdeal.main_v34) = v2 c
          ∧ r.2.mem ((c.tc : Thread Cert.FfnInRefIdeal.nD Cert.FfnInRefIdeal.τ).loc Cert.FfnInRefIdeal.main_v35) = v3 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2))

def Claim : Prop :=
  ∃ (hKernel : Cert.Kernel.Facts) (hKernelIdeal : Cert.KernelIdeal.Facts) (hReferenceIdeal : Cert.ReferenceIdeal.Facts) (hWOut : Cert.WOut.Facts) (hWOutIdeal : Cert.WOutIdeal.Facts) (hWOutRefIdeal : Cert.WOutRefIdeal.Facts) (hWIn : Cert.WIn.Facts) (hWInIdeal : Cert.WInIdeal.Facts) (hWInRefIdeal : Cert.WInRefIdeal.Facts) (hFfnOut : Cert.FfnOut.Facts) (hFfnOutIdeal : Cert.FfnOutIdeal.Facts) (hFfnOutRefIdeal : Cert.FfnOutRefIdeal.Facts) (hBwdIn : Cert.BwdIn.Facts) (hBwdInIdeal : Cert.BwdInIdeal.Facts) (hBwdInRefIdeal : Cert.BwdInRefIdeal.Facts) (hFfnIn : Cert.FfnIn.Facts) (hFfnInIdeal : Cert.FfnInIdeal.Facts) (hFfnInRefIdeal : Cert.FfnInRefIdeal.Facts) (hPre_finite : Cert.Pre_finite.Facts) (hPre_finite_ffn_in : Cert.Pre_finite_ffn_in.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_WOut (hWOut := hWOut)
    ∧ quiescent_WOutIdeal (hWOutIdeal := hWOutIdeal)
    ∧ quiescent_WOutRefIdeal (hWOutRefIdeal := hWOutRefIdeal)
    ∧ quiescent_WIn (hWIn := hWIn)
    ∧ quiescent_WInIdeal (hWInIdeal := hWInIdeal)
    ∧ quiescent_WInRefIdeal (hWInRefIdeal := hWInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_BwdIn (hBwdIn := hBwdIn)
    ∧ quiescent_BwdInIdeal (hBwdInIdeal := hBwdInIdeal)
    ∧ quiescent_BwdInRefIdeal (hBwdInRefIdeal := hBwdInRefIdeal)
    ∧ quiescent_FfnIn (hFfnIn := hFfnIn)
    ∧ quiescent_FfnInIdeal (hFfnInIdeal := hFfnInIdeal)
    ∧ quiescent_FfnInIdeal_pre_finite_ffn_in (hFfnInIdeal := hFfnInIdeal) (hPre_finite_ffn_in := hPre_finite_ffn_in)
    ∧ quiescent_FfnInRefIdeal (hFfnInRefIdeal := hFfnInRefIdeal)
    ∧ quiescent_FfnInRefIdeal_pre_finite_ffn_in (hFfnInRefIdeal := hFfnInRefIdeal) (hPre_finite_ffn_in := hPre_finite_ffn_in)
    ∧ preserves_Kernel_KernelIdeal
    ∧ algebraic_KernelIdeal_ReferenceIdeal_pre_finite (hKernelIdeal := hKernelIdeal) (hReferenceIdeal := hReferenceIdeal) (hPre_finite := hPre_finite)
    ∧ preserves_WOut_WOutIdeal
    ∧ algebraic_WOutIdeal_WOutRefIdeal (hWOutIdeal := hWOutIdeal) (hWOutRefIdeal := hWOutRefIdeal)
    ∧ preserves_WIn_WInIdeal
    ∧ algebraic_WInIdeal_WInRefIdeal (hWInIdeal := hWInIdeal) (hWInRefIdeal := hWInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_BwdIn_BwdInIdeal
    ∧ algebraic_BwdInIdeal_BwdInRefIdeal (hBwdInIdeal := hBwdInIdeal) (hBwdInRefIdeal := hBwdInRefIdeal)
    ∧ preserves_FfnIn_FfnInIdeal
    ∧ algebraic_FfnInIdeal_FfnInRefIdeal_pre_finite_ffn_in (hFfnInIdeal := hFfnInIdeal) (hFfnInRefIdeal := hFfnInRefIdeal) (hPre_finite_ffn_in := hPre_finite_ffn_in)
-- ==== Pre_finite.lean ====
abbrev S4096x2048 : Shape := ⟨2, ![4096, 2048]⟩
abbrev S4096x2176 : Shape := ⟨2, ![4096, 2176]⟩
abbrev S128x4096 : Shape := ⟨2, ![128, 4096]⟩
abbrev S4096x1024 : Shape := ⟨2, ![4096, 1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x2176 : S_.BroadcastsInDim S4096x2176 (![] : Fin 0 → Fin S4096x2176.rank)
  reducesTo_S4096x2176_S_d0_1 : S4096x2176.ReducesTo [0, 1] S_
  bcast_S_S128x4096 : S_.BroadcastsInDim S128x4096 (![] : Fin 0 → Fin S128x4096.rank)
  reducesTo_S128x4096_S_d0_1 : S128x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x2048 .f32) (main_arg1 : FVec F S4096x2176 .f32) (main_arg2 : FVec F S128x4096 .f32) (main_arg3 : FVec F S4096x1024 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2176 .f32 := Host.absf main_arg1
  let main_cst_0 : FVec F S_ .f32 := constant S_ .f32 0x7F800000#32
  let main_v5 : FVec F S4096x2176 .f32 := broadcastInDim S4096x2176 ![] bcast_S_S4096x2176 main_cst_0
  let main_v6 : IVec S4096x2176 1 := cmpf .olt main_v4 main_v5
  let main_c_1 : IVec S_ 1 := constantI S_ 1 1#1
  let main_v7 : IVec S_ 1 := (fun x v => Host.reduce IntOp.andi x v reducesTo_S4096x2176_S_d0_1 h_S_) main_v6 main_c_1
  let main_v8 : IVec S_ 1 := andi main_v3 main_v7
  let main_v9 : FVec F S128x4096 .f32 := Host.absf main_arg2
  let main_cst_2 : FVec F S_ .f32 := constant S_ .f32 0x7F800000#32
  let main_v10 : FVec F S128x4096 .f32 := broadcastInDim S128x4096 ![] bcast_S_S128x4096 main_cst_2
  let main_v11 : IVec S128x4096 1 := cmpf .olt main_v9 main_v10
  let main_c_3 : IVec S_ 1 := constantI S_ 1 1#1
  let main_v12 : IVec S_ 1 := (fun x v => Host.reduce IntOp.andi x v reducesTo_S128x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite_ffn_in.lean ====
abbrev S4096x1024 : Shape := ⟨2, ![4096, 1024]⟩
abbrev S1x1024 : Shape := ⟨2, ![1, 1024]⟩
abbrev S8x704x1024 : Shape := ⟨3, ![8, 704, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S8x704x1024 : S_.BroadcastsInDim S8x704x1024 (![] : Fin 0 → Fin S8x704x1024.rank)
  reducesTo_S8x704x1024_S_d0_1_2 : S8x704x1024.ReducesTo [0, 1, 2] S_

variable [Facts]

def fn {F : FTy → Type} [FloatOps F] (main_arg0 : FVec F S4096x1024 .f32) (main_arg1 : FVec F S1x1024 .f32) (main_arg2 : FVec F S8x704x1024 .bf16) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S8x704x1024 .bf16 := Host.absf main_arg2
  let main_cst_0 : FVec F S_ .bf16 := constant S_ .bf16 0x7F80#16
  let main_v5 : FVec F S8x704x1024 .bf16 := broadcastInDim S8x704x1024 ![] bcast_S_S8x704x1024 main_cst_0
  let main_v6 : IVec S8x704x1024 1 := cmpf .olt main_v4 main_v5
  let main_c_1 : IVec S_ 1 := constantI S_ 1 1#1
  let main_v7 : IVec S_ 1 := (fun x v => Host.reduce IntOp.andi x v reducesTo_S8x704x1024_S_d0_1_2 h_S_) main_v6 main_c_1
  let main_v8 : IVec S_ 1 := andi main_v3 main_v7
  main_v8
-- ==== Kernel.lean ====
abbrev S4096x2048 : Shape := ⟨2, ![4096, 2048]⟩
abbrev S4096x2176 : Shape := ⟨2, ![4096, 2176]⟩
abbrev S128x4096 : Shape := ⟨2, ![128, 4096]⟩
abbrev S4096x1024 : Shape := ⟨2, ![4096, 1024]⟩
abbrev S4096x16x64 : Shape := ⟨3, ![4096, 16, 64]⟩
abbrev S16x4096x4096 : Shape := ⟨3, ![16, 4096, 4096]⟩
abbrev S_ : Shape := ⟨0, ![]⟩
abbrev S16x4096 : Shape := ⟨2, ![16, 4096]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x4096x1 : Shape := ⟨3, ![16, 4096, 1]⟩
abbrev S8x2x8x512 : Shape := ⟨4, ![8, 2, 8, 512]⟩
abbrev S8x8x2x512 : Shape := ⟨4, ![8, 8, 2, 512]⟩
abbrev S16x64x4096 : Shape := ⟨3, ![16, 64, 4096]⟩
abbrev S4096x16 : Shape := ⟨2, ![4096, 16]⟩
abbrev S4096x8x2x64 : Shape := ⟨4, ![4096, 8, 2, 64]⟩
abbrev S4096x8x2 : Shape := ⟨3, ![4096, 8, 2]⟩
abbrev S4096x8x2x1 : Shape := ⟨4, ![4096, 8, 2, 1]⟩
abbrev S4096x8x2x3 : Shape := ⟨4, ![4096, 8, 2, 3]⟩
abbrev S4096x8x61 : Shape := ⟨3, ![4096, 8, 61]⟩
abbrev S4096x8x1x64 : Shape := ⟨4, ![4096, 8, 1, 64]⟩
abbrev S4096x8x64 : Shape := ⟨3, ![4096, 8, 64]⟩
abbrev S4096x8x1x3 : Shape := ⟨4, ![4096, 8, 1, 3]⟩
abbrev S4096x8x3 : Shape := ⟨3, ![4096, 8, 3]⟩
abbrev S4096x8x128 : Shape := ⟨3, ![4096, 8, 128]⟩
abbrev S4x1024x8x128 : Shape := ⟨4, ![4, 1024, 8, 128]⟩
abbrev S8x4x128x1024 : Shape := ⟨4, ![8, 4, 128, 1024]⟩
abbrev S8x512x8x128 : Shape := ⟨4, ![8, 512, 8, 128]⟩
abbrev S8x8x128x512 : Shape := ⟨4, ![8, 8, 128, 512]⟩
abbrev S4096x128 : Shape := ⟨2, ![4096, 128]⟩
abbrev S1x8x128x512 : Shape := ⟨4, ![1, 8, 128, 512]⟩
abbrev S1x1x128x512 : Shape := ⟨4, ![1, 1, 128, 512]⟩
abbrev S512x128 : Shape := ⟨2, ![512, 128]⟩
abbrev S1x8x2x512 : Shape := ⟨4, ![1, 8, 2, 512]⟩
abbrev S1x1x2x512 : Shape := ⟨4, ![1, 1, 2, 512]⟩
abbrev S2x512x128 : Shape := ⟨3, ![2, 512, 128]⟩
abbrev S8x128x512 : Shape := ⟨3, ![8, 128, 512]⟩
abbrev S8x2x512 : Shape := ⟨3, ![8, 2, 512]⟩
abbrev S128x512 : Shape := ⟨2, ![128, 512]⟩
abbrev S64x512 : Shape := ⟨2, ![64, 512]⟩
abbrev S512x512 : Shape := ⟨2, ![512, 512]⟩
abbrev S1x1x1x512 : Shape := ⟨4, ![1, 1, 1, 512]⟩
abbrev S1x512 : Shape := ⟨2, ![1, 512]⟩
abbrev S512 : Shape := ⟨1, ![512]⟩
abbrev S1x512x128 : Shape := ⟨3, ![1, 512, 128]⟩
abbrev S1x1x64x512 : Shape := ⟨4, ![1, 1, 64, 512]⟩

abbrev nBuf : Space → Nat
  | .hbm => 115
  | .vmem => 33
  | .smem => 0
  | _ => 0

abbrev bufTy : (tb : Table) → Fin (tcTables nBuf tb) → BufTy
  | .hbm, ⟨0, _⟩ => ⟨S4096x2048, .f32⟩
  | .hbm, ⟨1, _⟩ => ⟨S4096x2176, .f32⟩
  | .hbm, ⟨2, _⟩ => ⟨S128x4096, .f32⟩
  | .hbm, ⟨3, _⟩ => ⟨S4096x1024, .f32⟩
  | .hbm, ⟨4, _⟩ => ⟨S4096x1024, .f32⟩
  | .hbm, ⟨5, _⟩ => ⟨S4096x16x64, .f32⟩
  | .hbm, ⟨6, _⟩ => ⟨S4096x1024, .f32⟩
  | .hbm, ⟨7, _⟩ => ⟨S4096x16x64, .f32⟩
  | .hbm, ⟨8, _⟩ => ⟨S4096x1024, .f32⟩
  | .hbm, ⟨9, _⟩ => ⟨S4096x16x64, .f32⟩
  | .hbm, ⟨10, _⟩ => ⟨S16x4096x4096, .f32⟩
  | .hbm, ⟨11, _⟩ => ⟨S_, .f32⟩
  | .hbm, ⟨12, _⟩ => ⟨S16x4096x4096, .f32⟩
  | .hbm, ⟨13, _⟩ => ⟨S16x4096x4096, .f32⟩
  | .hbm, ⟨14, _⟩ => ⟨S16x4096, .f32⟩
  | .hbm, ⟨15, _⟩ => ⟨S16x1x4096, .f32⟩
  | .hbm, ⟨16, _⟩ => ⟨S16x4096x4096, .f32⟩
  | .hbm, ⟨17, _⟩ => ⟨S16x4096x4096, .f32⟩
  | .hbm, ⟨18, _⟩ => ⟨S4096, .i32⟩
  | .hbm, ⟨19, _⟩ => ⟨S4096x1, .i32⟩
  | .hbm, ⟨20, _⟩ => ⟨S4096, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S16x4096x4096, .i1⟩
  | .hbm, ⟨28, _⟩ => ⟨S16x4096x4096, .f32⟩
  | .hbm, ⟨29, _⟩ => ⟨S16x4096x4096, .f32⟩
  | .hbm, ⟨30, _⟩ => ⟨S_, .f32⟩
  | .hbm, ⟨31, _⟩ => ⟨S16x4096, .f32⟩
  | .hbm, ⟨32, _⟩ => ⟨S16x4096x1, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S_, .f32⟩
  | .hbm, ⟨37, _⟩ => ⟨S16x4096, .f32⟩
  | .hbm, ⟨38, _⟩ => ⟨S16x4096x1, .f32⟩
  | .hbm, ⟨39, _⟩ => ⟨S16x4096x1, .f32⟩
  | .hbm, ⟨40, _⟩ => ⟨S16x4096x1, .f32⟩
  | .hbm, ⟨41, _⟩ => ⟨S16x4096, .f32⟩
  | .hbm, ⟨42, _⟩ => ⟨S8x2x8x512, .f32⟩
  | .hbm, ⟨43, _⟩ => ⟨S8x8x2x512, .f32⟩
  | .hbm, ⟨44, _⟩ => ⟨S16x4096x4096, .f32⟩
  | .hbm, ⟨45, _⟩ => ⟨S16x4096x4096, .f32⟩
  | .hbm, ⟨46, _⟩ => ⟨S16x64x4096, .f32⟩
  | .hbm, ⟨47, _⟩ => ⟨S4096x16x64, .f32⟩
  | .hbm, ⟨48, _⟩ => ⟨S4096x16x64, .f32⟩
  | .hbm, ⟨49, _⟩ => ⟨S4096x16x64, .f32⟩
  | .hbm, ⟨50, _⟩ => ⟨S_, .f32⟩
  | .hbm, ⟨51, _⟩ => ⟨S4096x16, .f32⟩
  | .hbm, ⟨52, _⟩ => ⟨S4096x1024, .f32⟩
  | .hbm, ⟨53, _⟩ => ⟨S4096x1024, .bf16⟩
  | .hbm, ⟨54, _⟩ => ⟨S4096x8x2x64, .bf16⟩
  | .hbm, ⟨55, _⟩ => ⟨S16x4096, .f32⟩
  | .hbm, ⟨56, _⟩ => ⟨S4096x16, .f32⟩
  | .hbm, ⟨57, _⟩ => ⟨S4096x8x2, .f32⟩
  | .hbm, ⟨58, _⟩ => ⟨S4096x8x2, .bf16⟩
  | .hbm, ⟨59, _⟩ => ⟨S4096x8x2, .f32⟩
  | .hbm, ⟨60, _⟩ => ⟨S4096x8x2, .f32⟩
  | .hbm, ⟨61, _⟩ => ⟨S4096x8x2, .bf16⟩
  | .hbm, ⟨62, _⟩ => ⟨S4096x8x2, .f32⟩
  | .hbm, ⟨63, _⟩ => ⟨S4096x8x2, .f32⟩
  | .hbm, ⟨64, _⟩ => ⟨S4096x8x2, .f32⟩
  | .hbm, ⟨65, _⟩ => ⟨S4096x8x2x1, .f32⟩
  | .hbm, ⟨66, _⟩ => ⟨S4096x8x2x1, .f32⟩
  | .hbm, ⟨67, _⟩ => ⟨S4096x8x2x1, .f32⟩
  | .hbm, ⟨68, _⟩ => ⟨S4096x8x2x3, .f32⟩
  | .hbm, ⟨69, _⟩ => ⟨S4096x8x2x3, .bf16⟩
  | .hbm, ⟨70, _⟩ => ⟨S_, .bf16⟩
  | .hbm, ⟨71, _⟩ => ⟨S4096x8x61, .bf16⟩
  | .hbm, ⟨72, _⟩ => ⟨S4096x8x1x64, .bf16⟩
  | .hbm, ⟨73, _⟩ => ⟨S4096x8x64, .bf16⟩
  | .hbm, ⟨74, _⟩ => ⟨S4096x8x1x3, .bf16⟩
  | .hbm, ⟨75, _⟩ => ⟨S4096x8x3, .bf16⟩
  | .hbm, ⟨76, _⟩ => ⟨S4096x8x128, .bf16⟩
  | .hbm, ⟨77, _⟩ => ⟨S4096x1024, .bf16⟩
  | .hbm, ⟨78, _⟩ => ⟨S4096x8x1x3, .bf16⟩
  | .hbm, ⟨79, _⟩ => ⟨S4096x8x3, .bf16⟩
  | .hbm, ⟨80, _⟩ => ⟨S4096x8x1x64, .bf16⟩
  | .hbm, ⟨81, _⟩ => ⟨S4096x8x64, .bf16⟩
  | .hbm, ⟨82, _⟩ => ⟨S4096x8x128, .bf16⟩
  | .hbm, ⟨83, _⟩ => ⟨S4096x1024, .bf16⟩
  | .hbm, ⟨84, _⟩ => ⟨S4096x1024, .f32⟩
  | .hbm, ⟨85, _⟩ => ⟨S4096x1024, .bf16⟩
  | .hbm, ⟨86, _⟩ => ⟨S4x1024x8x128, .bf16⟩
  | .hbm, ⟨87, _⟩ => ⟨S8x4x128x1024, .bf16⟩
  | .hbm, ⟨88, _⟩ => ⟨S16x4096, .f32⟩
  | .hbm, ⟨89, _⟩ => ⟨S8x2x8x512, .f32⟩
  | .hbm, ⟨90, _⟩ => ⟨S8x8x2x512, .f32⟩
  | .hbm, ⟨91, _⟩ => ⟨S4096x1024, .f32⟩
  | .hbm, ⟨92, _⟩ => ⟨S_, .f32⟩
  | .hbm, ⟨93, _⟩ => ⟨S4096x1024, .f32⟩
  | .hbm, ⟨94, _⟩ => ⟨S4096x1024, .f32⟩
  | .hbm, ⟨95, _⟩ => ⟨S4096x1024, .bf16⟩
  | .hbm, ⟨96, _⟩ => ⟨S4096x1024, .bf16⟩
  | .hbm, ⟨97, _⟩ => ⟨S4096x1024, .f32⟩
  | .hbm, ⟨98, _⟩ => ⟨S8x512x8x128, .bf16⟩
  | .hbm, ⟨99, _⟩ => ⟨S8x8x128x512, .bf16⟩
  | .hbm, ⟨100, _⟩ => ⟨S8x512x8x128, .bf16⟩
  | .hbm, ⟨101, _⟩ => ⟨S8x8x128x512, .bf16⟩
  | .hbm, ⟨102, _⟩ => ⟨S_, .f32⟩
  | .hbm, ⟨103, _⟩ => ⟨S4096x1024, .f32⟩
  | .hbm, ⟨104, _⟩ => ⟨S4096x1024, .f32⟩
  | .hbm, ⟨105, _⟩ => ⟨S4096x1024, .bf16⟩
  | .hbm, ⟨106, _⟩ => ⟨S8x512x8x128, .bf16⟩
  | .hbm, ⟨107, _⟩ => ⟨S8x8x128x512, .bf16⟩
  | .hbm, ⟨108, _⟩ => ⟨S4096x1024, .f32⟩
  | .hbm, ⟨109, _⟩ => ⟨S4096x1024, .bf16⟩
  | .hbm, ⟨110, _⟩ => ⟨S8x8x128x512, .f32⟩
  | .hbm, ⟨111, _⟩ => ⟨S4096x1024, .bf16⟩
  | .hbm, ⟨112, _⟩ => ⟨S4096x1024, .bf16⟩
  | .hbm, ⟨113, _⟩ => ⟨S8x8x2x512, .f32⟩
  | .hbm, ⟨114, _⟩ => ⟨S8x8x2x512, .f32⟩
  | .local _ .vmem, ⟨0, _⟩ => ⟨S4096x128, .bf16⟩
  | .local _ .vmem, ⟨1, _⟩ => ⟨S4096x128, .bf16⟩
  | .local _ .vmem, ⟨2, _⟩ => ⟨S1x8x128x512, .bf16⟩
  | .local _ .vmem, ⟨3, _⟩ => ⟨S1x8x128x512, .bf16⟩
  | .local _ .vmem, ⟨4, _⟩ => ⟨S4096x128, .bf16⟩
  | .local _ .vmem, ⟨5, _⟩ => ⟨S4096x128, .bf16⟩
  | .local _ .vmem, ⟨6, _⟩ => ⟨S1x8x128x512, .bf16⟩
  | .local _ .vmem, ⟨7, _⟩ => ⟨S1x8x128x512, .bf16⟩
  | .local _ .vmem, ⟨8, _⟩ => ⟨S1x1x128x512, .bf16⟩
  | .local _ .vmem, ⟨9, _⟩ => ⟨S1x1x128x512, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S1x8x2x512, .f32⟩
  | .local _ .vmem, ⟨17, _⟩ => ⟨S1x8x2x512, .f32⟩
  | .local _ .vmem, ⟨18, _⟩ => ⟨S1x8x2x512, .f32⟩
  | .local _ .vmem, ⟨19, _⟩ => ⟨S1x8x2x512, .f32⟩
  | .local _ .vmem, ⟨20, _⟩ => ⟨S1x8x128x512, .f32⟩
  | .local _ .vmem, ⟨21, _⟩ => ⟨S1x8x128x512, .f32⟩
  | .local _ .vmem, ⟨22, _⟩ => ⟨S512x128, .bf16⟩
  | .local _ .vmem, ⟨23, _⟩ => ⟨S512x128, .bf16⟩
  | .local _ .vmem, ⟨24, _⟩ => ⟨S512x128, .bf16⟩
  | .local _ .vmem, ⟨25, _⟩ => ⟨S512x128, .bf16⟩
  | .local _ .vmem, ⟨26, _⟩ => ⟨S1x1x2x512, .f32⟩
  | .local _ .vmem, ⟨27, _⟩ => ⟨S1x1x2x512, .f32⟩
  | .local _ .vmem, ⟨28, _⟩ => ⟨S1x8x2x512, .f32⟩
  | .local _ .vmem, ⟨29, _⟩ => ⟨S1x8x2x512, .f32⟩
  | .local _ .vmem, ⟨30, _⟩ => ⟨S512x128, .f32⟩
  | .local _ .vmem, ⟨31, _⟩ => ⟨S512x128, .f32⟩
  | .local _ .vmem, ⟨32, _⟩ => ⟨S2x512x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_4 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_5 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_6 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95_0 : Ref sig .tc := ⟨.hbm, 110, rfl⟩
abbrev main_v95_1 : Ref sig .tc := ⟨.hbm, 111, rfl⟩
abbrev main_v95_2 : Ref sig .tc := ⟨.hbm, 112, rfl⟩
abbrev main_v95_3 : Ref sig .tc := ⟨.hbm, 113, rfl⟩
abbrev main_v95_4 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v37 : BitVec 32 := Scalar.muli arg1 c512_i32
  v37
def k0_off1 (i : grid0.Coords) : Fin 4 → Nat :=
  let c0_22 : Index := 0#32
  let arg1 : BitVec 32 := BitVec.ofNat 32 (i 1).val
  let v39 : Index := Scalar.indexCast arg1
  let c0_23 : Index := 0#32
  let c0_24 : Index := 0#32
  ![0, v39.toNat, 0, 0]
def k0_off2 (i : grid0.Coords) : Fin 2 → Nat :=
  let arg1 : BitVec 32 := BitVec.ofNat 32 (i 1).val
  let c512_i32 : BitVec 32 := 512#32
  let v37 : BitVec 32 := Scalar.muli arg1 c512_i32
  let v38 : BitVec 32 := v37
  let v45 : Index := Scalar.indexCast v38
  let c0_28 : Index := 0#32
  ![v45.toNat, 0]
def k0_off3 (i : grid0.Coords) : Fin 4 → Nat :=
  let c0_40 : Index := 0#32
  let arg1 : BitVec 32 := BitVec.ofNat 32 (i 1).val
  let v71 : Index := Scalar.indexCast arg1
  let c0_41 : Index := 0#32
  let c0_42 : Index := 0#32
  ![0, v71.toNat, 0, 0]
def k0_off4 (i : grid0.Coords) : Fin 4 → Nat :=
  let c0_60 : Index := 0#32
  let arg1 : BitVec 32 := BitVec.ofNat 32 (i 1).val
  let v111 : Index := Scalar.indexCast arg1
  let c1 : Index := 1#32
  let c0_61 : Index := 0#32
  ![0, v111.toNat, 1, 0]
def k0_off5 (i : grid0.Coords) : Fin 4 → Nat :=
  let c0_95 : Index := 0#32
  let arg1 : BitVec 32 := BitVec.ofNat 32 (i 1).val
  let v175 : Index := Scalar.indexCast arg1
  let c0_96 : Index := 0#32
  let c0_97 : Index := 0#32
  ![0, v175.toNat, 0, 0]
def k0_off6 (i : grid0.Coords) : Fin 4 → Nat :=
  let c0_102 : Index := 0#32
  let arg1 : BitVec 32 := BitVec.ofNat 32 (i 1).val
  let v184 : Index := Scalar.indexCast arg1
  let c64 : Index := 64#32
  let c0_103 : Index := 0#32
  ![0, v184.toNat, 64, 0]
@[reducible] def k0_t1_loop (i : grid0.Coords) : Scf.Loop 32 :=
  let arg1 : BitVec 32 := BitVec.ofNat 32 (i 1).val
  let c1_i32 : BitVec 32 := 1#32
  let v193 : BitVec 32 := Scalar.addi arg1 c1_i32
  let c8_i32 : BitVec 32 := 8#32
  let v194 : BitVec 32 := Scalar.subi c8_i32 v193
  let c1_i32_111 : BitVec 32 := 1#32
  let v196 : BitVec 32 := Scalar.divsi v194 c1_i32_111
  let v197 : BitVec 32 := Scalar.muli v196 c1_i32_111
  let v198 : BitVec 32 := Scalar.addi v193 v197
  let c1_i32_112 : BitVec 32 := 1#32
  ⟨v193, v198, c1_i32_112⟩
def k0_mult2 (i : grid0.Coords) (k0_t1 : Fin (k0_t1_loop i).trips) : BitVec 32 :=
  let arg1 : BitVec 32 := BitVec.ofNat 32 (i 1).val
  let c1_i32 : BitVec 32 := 1#32
  let v193 : BitVec 32 := Scalar.addi arg1 c1_i32
  let c1_i32_112 : BitVec 32 := 1#32
  let arg20 : BitVec 32 := Scf.iv v193 c1_i32_112 k0_t1
  let c512_i32_140 : BitVec 32 := 512#32
  let v225 : BitVec 32 := Scalar.muli arg20 c512_i32_140
  v225
def k0_off7 (i : grid0.Coords) (k0_t1 : Fin (k0_t1_loop i).trips) : Fin 4 → Nat :=
  let c0_141 : Index := 0#32
  let arg1 : BitVec 32 := BitVec.ofNat 32 (i 1).val
  let c1_i32 : BitVec 32 := 1#32
  let v193 : BitVec 32 := Scalar.addi arg1 c1_i32
  let c1_i32_112 : BitVec 32 := 1#32
  let arg20 : BitVec 32 := Scf.iv v193 c1_i32_112 k0_t1
  let v227 : Index := Scalar.indexCast arg20
  let c0_142 : Index := 0#32
  let c0_143 : Index := 0#32
  ![0, v227.toNat, 0, 0]
def k0_off8 (i : grid0.Coords) (k0_t1 : Fin (k0_t1_loop i).trips) : Fin 2 → Nat :=
  let arg1 : BitVec 32 := BitVec.ofNat 32 (i 1).val
  let c1_i32 : BitVec 32 := 1#32
  let v193 : BitVec 32 := Scalar.addi arg1 c1_i32
  let c1_i32_112 : BitVec 32 := 1#32
  let arg20 : BitVec 32 := Scf.iv v193 c1_i32_112 k0_t1
  let c512_i32_140 : BitVec 32 := 512#32
  let v225 : BitVec 32 := Scalar.muli arg20 c512_i32_140
  let v226 : BitVec 32 := v225
  let v233 : Index := Scalar.indexCast v226
  let c0_147 : Index := 0#32
  ![v233.toNat, 0]
def k0_off9 (i : grid0.Coords) (k0_t1 : Fin (k0_t1_loop i).trips) : Fin 4 → Nat :=
  let c0_157 : Index := 0#32
  let arg1 : BitVec 32 := BitVec.ofNat 32 (i 1).val
  let c1_i32 : BitVec 32 := 1#32
  let v193 : BitVec 32 := Scalar.addi arg1 c1_i32
  let c1_i32_112 : BitVec 32 := 1#32
  let arg20 : BitVec 32 := Scf.iv v193 c1_i32_112 k0_t1
  let v259 : Index := Scalar.indexCast arg20
  let c0_158 : Index := 0#32
  let c0_159 : Index := 0#32
  ![0, v259.toNat, 0, 0]
def k0_off10 (i : grid0.Coords) (k0_t1 : Fin (k0_t1_loop i).trips) : Fin 4 → Nat :=
  let c0_176 : Index := 0#32
  let arg1 : BitVec 32 := BitVec.ofNat 32 (i 1).val
  let c1_i32 : BitVec 32 := 1#32
  let v193 : BitVec 32 := Scalar.addi arg1 c1_i32
  let c1_i32_112 : BitVec 32 := 1#32
  let arg20 : BitVec 32 := Scf.iv v193 c1_i32_112 k0_t1
  let v296 : Index := Scalar.indexCast arg20
  let c1_177 : Index := 1#32
  let c0_178 : Index := 0#32
  ![0, v296.toNat, 1, 0]
def k0_off11 (i : grid0.Coords) (k0_t1 : Fin (k0_t1_loop i).trips) : Fin 4 → Nat :=
  let c0_207 : Index := 0#32
  let arg1 : BitVec 32 := BitVec.ofNat 32 (i 1).val
  let c1_i32 : BitVec 32 := 1#32
  let v193 : BitVec 32 := Scalar.addi arg1 c1_i32
  let c1_i32_112 : BitVec 32 := 1#32
  let arg20 : BitVec 32 := Scf.iv v193 c1_i32_112 k0_t1
  let v357 : Index := Scalar.indexCast arg20
  let c0_208 : Index := 0#32
  let c0_209 : Index := 0#32
  ![0, v357.toNat, 0, 0]
def k0_off12 (i : grid0.Coords) (k0_t1 : Fin (k0_t1_loop i).trips) : Fin 4 → Nat :=
  let c0_214 : Index := 0#32
  let arg1 : BitVec 32 := BitVec.ofNat 32 (i 1).val
  let c1_i32 : BitVec 32 := 1#32
  let v193 : BitVec 32 := Scalar.addi arg1 c1_i32
  let c1_i32_112 : BitVec 32 := 1#32
  let arg20 : BitVec 32 := Scf.iv v193 c1_i32_112 k0_t1
  let v366 : Index := Scalar.indexCast arg20
  let c64_215 : Index := 64#32
  let c0_216 : Index := 0#32
  ![0, v366.toNat, 64, 0]
@[reducible] def k0_t2_loop (i : grid0.Coords) : Scf.Loop 32 :=
  let arg1 : BitVec 32 := BitVec.ofNat 32 (i 1).val
  let c1_i32 : BitVec 32 := 1#32
  let v193 : BitVec 32 := Scalar.addi arg1 c1_i32
  let c8_i32 : BitVec 32 := 8#32
  let v194 : BitVec 32 := Scalar.subi c8_i32 v193
  let c1_i32_111 : BitVec 32 := 1#32
  let v196 : BitVec 32 := Scalar.divsi v194 c1_i32_111
  let v197 : BitVec 32 := Scalar.muli v196 c1_i32_111
  let v198 : BitVec 32 := Scalar.addi v193 v197
  let v195 : BitVec 32 := Scalar.addi v193 v194
  let c1_i32_113 : BitVec 32 := 1#32
  ⟨v198, v195, c1_i32_113⟩
def k0_mult3 (i : grid0.Coords) (k0_t2 : Fin (k0_t2_loop i).trips) : BitVec 32 :=
  let arg1 : BitVec 32 := BitVec.ofNat 32 (i 1).val
  let c1_i32 : BitVec 32 := 1#32
  let v193 : BitVec 32 := Scalar.addi arg1 c1_i32
  let c8_i32 : BitVec 32 := 8#32
  let v194 : BitVec 32 := Scalar.subi c8_i32 v193
  let c1_i32_111 : BitVec 32 := 1#32
  let v196 : BitVec 32 := Scalar.divsi v194 c1_i32_111
  let v197 : BitVec 32 := Scalar.muli v196 c1_i32_111
  let v198 : BitVec 32 := Scalar.addi v193 v197
  let c1_i32_113 : BitVec 32 := 1#32
  let arg20 : BitVec 32 := Scf.iv v198 c1_i32_113 k0_t2
  let c512_i32_140 : BitVec 32 := 512#32
  let v225 : BitVec 32 := Scalar.muli arg20 c512_i32_140
  v225
def k0_off13 (i : grid0.Coords) (k0_t2 : Fin (k0_t2_loop i).trips) : Fin 4 → Nat :=
  let c0_141 : Index := 0#32
  let arg1 : BitVec 32 := BitVec.ofNat 32 (i 1).val
  let c1_i32 : BitVec 32 := 1#32
  let v193 : BitVec 32 := Scalar.addi arg1 c1_i32
  let c8_i32 : BitVec 32 := 8#32
  let v194 : BitVec 32 := Scalar.subi c8_i32 v193
  let c1_i32_111 : BitVec 32 := 1#32
  let v196 : BitVec 32 := Scalar.divsi v194 c1_i32_111
  let v197 : BitVec 32 := Scalar.muli v196 c1_i32_111
  let v198 : BitVec 32 := Scalar.addi v193 v197
  let c1_i32_113 : BitVec 32 := 1#32
  let arg20 : BitVec 32 := Scf.iv v198 c1_i32_113 k0_t2
  let v227 : Index := Scalar.indexCast arg20
  let c0_142 : Index := 0#32
  let c0_143 : Index := 0#32
  ![0, v227.toNat, 0, 0]
def k0_off14 (i : grid0.Coords) (k0_t2 : Fin (k0_t2_loop i).trips) : Fin 2 → Nat :=
  let arg1 : BitVec 32 := BitVec.ofNat 32 (i 1).val
  let c1_i32 : BitVec 32 := 1#32
  let v193 : BitVec 32 := Scalar.addi arg1 c1_i32
  let c8_i32 : BitVec 32 := 8#32
  let v194 : BitVec 32 := Scalar.subi c8_i32 v193
  let c1_i32_111 : BitVec 32 := 1#32
  let v196 : BitVec 32 := Scalar.divsi v194 c1_i32_111
  let v197 : BitVec 32 := Scalar.muli v196 c1_i32_111
  let v198 : BitVec 32 := Scalar.addi v193 v197
  let c1_i32_113 : BitVec 32 := 1#32
  let arg20 : BitVec 32 := Scf.iv v198 c1_i32_113 k0_t2
  let c512_i32_140 : BitVec 32 := 512#32
  let v225 : BitVec 32 := Scalar.muli arg20 c512_i32_140
  let v226 : BitVec 32 := v225
  let v233 : Index := Scalar.indexCast v226
  let c0_147 : Index := 0#32
  ![v233.toNat, 0]
def k0_off15 (i : grid0.Coords) (k0_t2 : Fin (k0_t2_loop i).trips) : Fin 4 → Nat :=
  let c0_157 : Index := 0#32
  let arg1 : BitVec 32 := BitVec.ofNat 32 (i 1).val
  let c1_i32 : BitVec 32 := 1#32
  let v193 : BitVec 32 := Scalar.addi arg1 c1_i32
  let c8_i32 : BitVec 32 := 8#32
  let v194 : BitVec 32 := Scalar.subi c8_i32 v193
  let c1_i32_111 : BitVec 32 := 1#32
  let v196 : BitVec 32 := Scalar.divsi v194 c1_i32_111
  let v197 : BitVec 32 := Scalar.muli v196 c1_i32_111
  let v198 : BitVec 32 := Scalar.addi v193 v197
  let c1_i32_113 : BitVec 32 := 1#32
  let arg20 : BitVec 32 := Scf.iv v198 c1_i32_113 k0_t2
  let v259 : Index := Scalar.indexCast arg20
  let c0_158 : Index := 0#32
  let c0_159 : Index := 0#32
  ![0, v259.toNat, 0, 0]
def k0_off16 (i : grid0.Coords) (k0_t2 : Fin (k0_t2_loop i).trips) : Fin 4 → Nat :=
  let c0_176 : Index := 0#32
  let arg1 : BitVec 32 := BitVec.ofNat 32 (i 1).val
  let c1_i32 : BitVec 32 := 1#32
  let v193 : BitVec 32 := Scalar.addi arg1 c1_i32
  let c8_i32 : BitVec 32 := 8#32
  let v194 : BitVec 32 := Scalar.subi c8_i32 v193
  let c1_i32_111 : BitVec 32 := 1#32
  let v196 : BitVec 32 := Scalar.divsi v194 c1_i32_111
  let v197 : BitVec 32 := Scalar.muli v196 c1_i32_111
  let v198 : BitVec 32 := Scalar.addi v193 v197
  let c1_i32_113 : BitVec 32 := 1#32
  let arg20 : BitVec 32 := Scf.iv v198 c1_i32_113 k0_t2
  let v296 : Index := Scalar.indexCast arg20
  let c1_177 : Index := 1#32
  let c0_178 : Index := 0#32
  ![0, v296.toNat, 1, 0]
def k0_off17 (i : grid0.Coords) (k0_t2 : Fin (k0_t2_loop i).trips) : Fin 4 → Nat :=
  let c0_207 : Index := 0#32
  let arg1 : BitVec 32 := BitVec.ofNat 32 (i 1).val
  let c1_i32 : BitVec 32 := 1#32
  let v193 : BitVec 32 := Scalar.addi arg1 c1_i32
  let c8_i32 : BitVec 32 := 8#32
  let v194 : BitVec 32 := Scalar.subi c8_i32 v193
  let c1_i32_111 : BitVec 32 := 1#32
  let v196 : BitVec 32 := Scalar.divsi v194 c1_i32_111
  let v197 : BitVec 32 := Scalar.muli v196 c1_i32_111
  let v198 : BitVec 32 := Scalar.addi v193 v197
  let c1_i32_113 : BitVec 32 := 1#32
  let arg20 : BitVec 32 := Scf.iv v198 c1_i32_113 k0_t2
  let v357 : Index := Scalar.indexCast arg20
  let c0_208 : Index := 0#32
  let c0_209 : Index := 0#32
  ![0, v357.toNat, 0, 0]
def k0_off18 (i : grid0.Coords) (k0_t2 : Fin (k0_t2_loop i).trips) : Fin 4 → Nat :=
  let c0_214 : Index := 0#32
  let arg1 : BitVec 32 := BitVec.ofNat 32 (i 1).val
  let c1_i32 : BitVec 32 := 1#32
  let v193 : BitVec 32 := Scalar.addi arg1 c1_i32
  let c8_i32 : BitVec 32 := 8#32
  let v194 : BitVec 32 := Scalar.subi c8_i32 v193
  let c1_i32_111 : BitVec 32 := 1#32
  let v196 : BitVec 32 := Scalar.divsi v194 c1_i32_111
  let v197 : BitVec 32 := Scalar.muli v196 c1_i32_111
  let v198 : BitVec 32 := Scalar.addi v193 v197
  let c1_i32_113 : BitVec 32 := 1#32
  let arg20 : BitVec 32 := Scf.iv v198 c1_i32_113 k0_t2
  let v366 : Index := Scalar.indexCast arg20
  let c64_215 : Index := 64#32
  let c0_216 : Index := 0#32
  ![0, v366.toNat, 64, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x2x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x2x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x2x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S4096x2048 : Shape := ⟨2, ![4096, 2048]⟩
abbrev S4096x2176 : Shape := ⟨2, ![4096, 2176]⟩
abbrev S128x4096 : Shape := ⟨2, ![128, 4096]⟩
abbrev S4096x1024 : Shape := ⟨2, ![4096, 1024]⟩
abbrev S4096x16x64 : Shape := ⟨3, ![4096, 16, 64]⟩
abbrev S16x4096 : Shape := ⟨2, ![16, 4096]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x64x4096 : Shape := ⟨3, ![16, 64, 4096]⟩
abbrev S16x4096x64 : Shape := ⟨3, ![16, 4096, 64]⟩
abbrev S8x512x8x128 : Shape := ⟨4, ![8, 512, 8, 128]⟩
abbrev S8x8x128x512 : Shape := ⟨4, ![8, 8, 128, 512]⟩
abbrev S8x2x8x512 : Shape := ⟨4, ![8, 2, 8, 512]⟩
abbrev S8x8x2x512 : Shape := ⟨4, ![8, 8, 2, 512]⟩

abbrev nBuf : Space → Nat
  | .hbm => 125
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2176, .f32⟩
  | .hbm, ⟨2, _⟩ => ⟨S128x4096, .f32⟩
  | .hbm, ⟨3, _⟩ => ⟨S4096x1024, .f32⟩
  | .hbm, ⟨4, _⟩ => ⟨S4096x1024, .f32⟩
  | .hbm, ⟨5, _⟩ => ⟨S4096x16x64, .f32⟩
  | .hbm, ⟨6, _⟩ => ⟨S4096x1024, .f32⟩
  | .hbm, ⟨7, _⟩ => ⟨S4096x16x64, .f32⟩
  | .hbm, ⟨8, _⟩ => ⟨S4096x1024, .f32⟩
  | .hbm, ⟨9, _⟩ => ⟨S4096x16x64, .f32⟩
  | .hbm, ⟨10, _⟩ => ⟨S16x4096, .f32⟩
  | .hbm, ⟨11, _⟩ => ⟨S16x4096x4096, .f32⟩
  | .hbm, ⟨12, _⟩ => ⟨S_, .f32⟩
  | .hbm, ⟨13, _⟩ => ⟨S16x4096x4096, .f32⟩
  | .hbm, ⟨14, _⟩ => ⟨S16x4096x4096, .f32⟩
  | .hbm, ⟨15, _⟩ => ⟨S16x4096x1, .f32⟩
  | .hbm, ⟨16, _⟩ => ⟨S16x4096x4096, .f32⟩
  | .hbm, ⟨17, _⟩ => ⟨S16x4096x4096, .f32⟩
  | .hbm, ⟨18, _⟩ => ⟨S16x1x4096, .f32⟩
  | .hbm, ⟨19, _⟩ => ⟨S16x4096x4096, .f32⟩
  | .hbm, ⟨20, _⟩ => ⟨S16x4096x4096, .f32⟩
  | .hbm, ⟨21, _⟩ => ⟨S4096, .i32⟩
  | .hbm, ⟨22, _⟩ => ⟨S4096x1, .i32⟩
  | .hbm, ⟨23, _⟩ => ⟨S4096, .i32⟩
  | .hbm, ⟨24, _⟩ => ⟨S1x4096, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S16x4096x4096, .i1⟩
  | .hbm, ⟨31, _⟩ => ⟨S16x4096x4096, .f32⟩
  | .hbm, ⟨32, _⟩ => ⟨S16x4096x4096, .f32⟩
  | .hbm, ⟨33, _⟩ => ⟨S_, .f32⟩
  | .hbm, ⟨34, _⟩ => ⟨S16x4096x4096, .f32⟩
  | .hbm, ⟨35, _⟩ => ⟨S_, .f32⟩
  | .hbm, ⟨36, _⟩ => ⟨S16x4096, .f32⟩
  | .hbm, ⟨37, _⟩ => ⟨S16x4096x1, .f32⟩
  | .hbm, ⟨38, _⟩ => ⟨S16x4096x4096, .f32⟩
  | .hbm, ⟨39, _⟩ => ⟨S16x4096x4096, .i1⟩
  | .hbm, ⟨40, _⟩ => ⟨S16x4096x4096, .f32⟩
  | .hbm, ⟨41, _⟩ => ⟨S_, .f32⟩
  | .hbm, ⟨42, _⟩ => ⟨S16x4096, .f32⟩
  | .hbm, ⟨43, _⟩ => ⟨S_, .f32⟩
  | .hbm, ⟨44, _⟩ => ⟨S16x4096, .f32⟩
  | .hbm, ⟨45, _⟩ => ⟨S16x4096, .f32⟩
  | .hbm, ⟨46, _⟩ => ⟨S_, .f32⟩
  | .hbm, ⟨47, _⟩ => ⟨S16x4096, .f32⟩
  | .hbm, ⟨48, _⟩ => ⟨S16x4096, .i1⟩
  | .hbm, ⟨49, _⟩ => ⟨S_, .f32⟩
  | .hbm, ⟨50, _⟩ => ⟨S16x4096, .f32⟩
  | .hbm, ⟨51, _⟩ => ⟨S16x4096, .i1⟩
  | .hbm, ⟨52, _⟩ => ⟨S_, .f32⟩
  | .hbm, ⟨53, _⟩ => ⟨S16x4096, .f32⟩
  | .hbm, ⟨54, _⟩ => ⟨S_, .f32⟩
  | .hbm, ⟨55, _⟩ => ⟨S16x4096, .f32⟩
  | .hbm, ⟨56, _⟩ => ⟨S_, .f32⟩
  | .hbm, ⟨57, _⟩ => ⟨S16x4096, .f32⟩
  | .hbm, ⟨58, _⟩ => ⟨S16x4096, .f32⟩
  | .hbm, ⟨59, _⟩ => ⟨S16x4096, .f32⟩
  | .hbm, ⟨60, _⟩ => ⟨S16x4096x1, .f32⟩
  | .hbm, ⟨61, _⟩ => ⟨S16x4096x4096, .f32⟩
  | .hbm, ⟨62, _⟩ => ⟨S16x4096x4096, .f32⟩
  | .hbm, ⟨63, _⟩ => ⟨S16x4096x4096, .f32⟩
  | .hbm, ⟨64, _⟩ => ⟨S_, .f32⟩
  | .hbm, ⟨65, _⟩ => ⟨S16x4096, .f32⟩
  | .hbm, ⟨66, _⟩ => ⟨S16x4096x1, .f32⟩
  | .hbm, ⟨67, _⟩ => ⟨S16x4096x4096, .f32⟩
  | .hbm, ⟨68, _⟩ => ⟨S16x4096x4096, .f32⟩
  | .hbm, ⟨69, _⟩ => ⟨S16x4096x1, .f32⟩
  | .hbm, ⟨70, _⟩ => ⟨S_, .f32⟩
  | .hbm, ⟨71, _⟩ => ⟨S16x4096x1, .f32⟩
  | .hbm, ⟨72, _⟩ => ⟨S16x4096x1, .f32⟩
  | .hbm, ⟨73, _⟩ => ⟨S16x64x4096, .f32⟩
  | .hbm, ⟨74, _⟩ => ⟨S4096x16x64, .f32⟩
  | .hbm, ⟨75, _⟩ => ⟨S4096x16x64, .f32⟩
  | .hbm, ⟨76, _⟩ => ⟨S16x64x4096, .f32⟩
  | .hbm, ⟨77, _⟩ => ⟨S16x4096x4096, .f32⟩
  | .hbm, ⟨78, _⟩ => ⟨S16x64x4096, .f32⟩
  | .hbm, ⟨79, _⟩ => ⟨S4096x16x64, .f32⟩
  | .hbm, ⟨80, _⟩ => ⟨S16x4096x4096, .f32⟩
  | .hbm, ⟨81, _⟩ => ⟨S16x4096x4096, .f32⟩
  | .hbm, ⟨82, _⟩ => ⟨S16x4096x4096, .f32⟩
  | .hbm, ⟨83, _⟩ => ⟨S_, .f32⟩
  | .hbm, ⟨84, _⟩ => ⟨S16x4096, .f32⟩
  | .hbm, ⟨85, _⟩ => ⟨S16x4096x1, .f32⟩
  | .hbm, ⟨86, _⟩ => ⟨S16x4096x1, .f32⟩
  | .hbm, ⟨87, _⟩ => ⟨S16x4096x4096, .f32⟩
  | .hbm, ⟨88, _⟩ => ⟨S16x4096x4096, .f32⟩
  | .hbm, ⟨89, _⟩ => ⟨S_, .f32⟩
  | .hbm, ⟨90, _⟩ => ⟨S16x4096, .f32⟩
  | .hbm, ⟨91, _⟩ => ⟨S16x4096x4096, .f32⟩
  | .hbm, ⟨92, _⟩ => ⟨S16x4096x4096, .f32⟩
  | .hbm, ⟨93, _⟩ => ⟨S16x4096x4096, .f32⟩
  | .hbm, ⟨94, _⟩ => ⟨S_, .f32⟩
  | .hbm, ⟨95, _⟩ => ⟨S16x4096x4096, .f32⟩
  | .hbm, ⟨96, _⟩ => ⟨S16x4096x4096, .f32⟩
  | .hbm, ⟨97, _⟩ => ⟨S16x4096x4096, .f32⟩
  | .hbm, ⟨98, _⟩ => ⟨S_, .f32⟩
  | .hbm, ⟨99, _⟩ => ⟨S16x4096, .f32⟩
  | .hbm, ⟨100, _⟩ => ⟨S16x1x4096, .f32⟩
  | .hbm, ⟨101, _⟩ => ⟨S_, .f32⟩
  | .hbm, ⟨102, _⟩ => ⟨S16x4096, .f32⟩
  | .hbm, ⟨103, _⟩ => ⟨S_, .f32⟩
  | .hbm, ⟨104, _⟩ => ⟨S16x4096, .f32⟩
  | .hbm, ⟨105, _⟩ => ⟨S16x4096x1, .f32⟩
  | .hbm, ⟨106, _⟩ => ⟨S_, .f32⟩
  | .hbm, ⟨107, _⟩ => ⟨S16x4096, .f32⟩
  | .hbm, ⟨108, _⟩ => ⟨S_, .f32⟩
  | .hbm, ⟨109, _⟩ => ⟨S16x4096x4096, .f32⟩
  | .hbm, ⟨110, _⟩ => ⟨S16x4096x4096, .f32⟩
  | .hbm, ⟨111, _⟩ => ⟨S16x4096x64, .f32⟩
  | .hbm, ⟨112, _⟩ => ⟨S4096x16x64, .f32⟩
  | .hbm, ⟨113, _⟩ => ⟨S16x4096x64, .f32⟩
  | .hbm, ⟨114, _⟩ => ⟨S4096x16x64, .f32⟩
  | .hbm, ⟨115, _⟩ => ⟨S8x512x8x128, .f32⟩
  | .hbm, ⟨116, _⟩ => ⟨S8x8x128x512, .f32⟩
  | .hbm, ⟨117, _⟩ => ⟨S4096x1024, .f32⟩
  | .hbm, ⟨118, _⟩ => ⟨S4096x1024, .bf16⟩
  | .hbm, ⟨119, _⟩ => ⟨S4096x1024, .f32⟩
  | .hbm, ⟨120, _⟩ => ⟨S4096x1024, .bf16⟩
  | .hbm, ⟨121, _⟩ => ⟨S8x2x8x512, .f32⟩
  | .hbm, ⟨122, _⟩ => ⟨S8x8x2x512, .f32⟩
  | .hbm, ⟨123, _⟩ => ⟨S8x2x8x512, .f32⟩
  | .hbm, ⟨124, _⟩ => ⟨S8x8x2x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_v23_1 : Ref sig .tc := ⟨.hbm, 30, rfl⟩
abbrev main_call0_v2 : Ref sig .tc := ⟨.hbm, 31, rfl⟩
abbrev main_v23_0 : Ref sig .tc := ⟨.hbm, 32, rfl⟩
abbrev main_call0_cst : Ref sig .tc := ⟨.hbm, 33, rfl⟩
abbrev main_v23_2 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_call1_cst : Ref sig .tc := ⟨.hbm, 94, rfl⟩
abbrev main_call1_v0 : Ref sig .tc := ⟨.hbm, 95, rfl⟩
abbrev main_v71 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_cst_17 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]
-- ==== WOut.lean ====
abbrev S4x4096x704 : Shape := ⟨3, ![4, 4096, 704]⟩
abbrev S4096x1024 : Shape := ⟨2, ![4096, 1024]⟩
abbrev S2816x1024 : Shape := ⟨2, ![2816, 1024]⟩
abbrev S1x2048x704 : Shape := ⟨3, ![1, 2048, 704]⟩
abbrev S2048x1024 : Shape := ⟨2, ![2048, 1024]⟩
abbrev S704x1024 : Shape := ⟨2, ![704, 1024]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S2816x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S704x1024, .bf16⟩
  | .local _ .vmem, ⟨5, _⟩ => ⟨S704x1024, .bf16⟩
  | .local _ .vmem, ⟨6, _⟩ => ⟨S704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WOutRefIdeal.lean ====
abbrev S4x4096x704 : Shape := ⟨3, ![4, 4096, 704]⟩
abbrev S4096x1024 : Shape := ⟨2, ![4096, 1024]⟩
abbrev S4096x4x704 : Shape := ⟨3, ![4096, 4, 704]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x4096x704, .f32⟩
  | .hbm, ⟨3, _⟩ => ⟨S4096x4x704, .f32⟩
  | .hbm, ⟨4, _⟩ => ⟨S4096x2816, .f32⟩
  | .hbm, ⟨5, _⟩ => ⟨S_, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== WIn.lean ====
abbrev S8x4096x704 : Shape := ⟨3, ![8, 4096, 704]⟩
abbrev S4096x1024 : Shape := ⟨2, ![4096, 1024]⟩
abbrev S5632x1024 : Shape := ⟨2, ![5632, 1024]⟩
abbrev S1x2048x704 : Shape := ⟨3, ![1, 2048, 704]⟩
abbrev S2048x1024 : Shape := ⟨2, ![2048, 1024]⟩
abbrev S704x1024 : Shape := ⟨2, ![704, 1024]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x4096x704, .bf16⟩
  | .hbm, ⟨1, _⟩ => ⟨S4096x1024, .bf16⟩
  | .hbm, ⟨2, _⟩ => ⟨S5632x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S704x1024, .bf16⟩
  | .local _ .vmem, ⟨5, _⟩ => ⟨S704x1024, .bf16⟩
  | .local _ .vmem, ⟨6, _⟩ => ⟨S704x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WInRefIdeal.lean ====
abbrev S8x4096x704 : Shape := ⟨3, ![8, 4096, 704]⟩
abbrev S4096x1024 : Shape := ⟨2, ![4096, 1024]⟩
abbrev S4096x8x704 : Shape := ⟨3, ![4096, 8, 704]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x1024, .bf16⟩
  | .hbm, ⟨2, _⟩ => ⟨S4096x1024, .f32⟩
  | .hbm, ⟨3, _⟩ => ⟨S8x4096x704, .f32⟩
  | .hbm, ⟨4, _⟩ => ⟨S4096x8x704, .f32⟩
  | .hbm, ⟨5, _⟩ => ⟨S4096x5632, .f32⟩
  | .hbm, ⟨6, _⟩ => ⟨S_, .f32⟩
  | .hbm, ⟨7, _⟩ => ⟨S1024x5632, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S5632x1024, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== FfnOut.lean ====
abbrev S4x4096x704 : Shape := ⟨3, ![4, 4096, 704]⟩
abbrev S2816x1024 : Shape := ⟨2, ![2816, 1024]⟩
abbrev S1x1024 : Shape := ⟨2, ![1, 1024]⟩
abbrev S4096x1024 : Shape := ⟨2, ![4096, 1024]⟩
abbrev S1x1024x704 : Shape := ⟨3, ![1, 1024, 704]⟩
abbrev S704x1024 : Shape := ⟨2, ![704, 1024]⟩
abbrev S1024x1024 : Shape := ⟨2, ![1024, 1024]⟩
abbrev S1024x704 : Shape := ⟨2, ![1024, 704]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x4096x704, .bf16⟩
  | .hbm, ⟨1, _⟩ => ⟨S2816x1024, .bf16⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S704x1024, .bf16⟩
  | .local _ .vmem, ⟨3, _⟩ => ⟨S704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnOutRefIdeal.lean ====
abbrev S4x4096x704 : Shape := ⟨3, ![4, 4096, 704]⟩
abbrev S2816x1024 : Shape := ⟨2, ![2816, 1024]⟩
abbrev S1x1024 : Shape := ⟨2, ![1, 1024]⟩
abbrev S4096x1024 : Shape := ⟨2, ![4096, 1024]⟩
abbrev S4096x4x704 : Shape := ⟨3, ![4096, 4, 704]⟩
abbrev S4096x2816 : Shape := ⟨2, ![4096, 2816]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S2816x1024, .bf16⟩
  | .hbm, ⟨2, _⟩ => ⟨S1x1024, .f32⟩
  | .hbm, ⟨3, _⟩ => ⟨S4096x1024, .f32⟩
  | .hbm, ⟨4, _⟩ => ⟨S4x4096x704, .f32⟩
  | .hbm, ⟨5, _⟩ => ⟨S4096x4x704, .f32⟩
  | .hbm, ⟨6, _⟩ => ⟨S4096x2816, .f32⟩
  | .hbm, ⟨7, _⟩ => ⟨S2816x1024, .f32⟩
  | .hbm, ⟨8, _⟩ => ⟨S4096x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== BwdIn.lean ====
abbrev S8x4096x704 : Shape := ⟨3, ![8, 4096, 704]⟩
abbrev S8x704x1024 : Shape := ⟨3, ![8, 704, 1024]⟩
abbrev S4096x1024 : Shape := ⟨2, ![4096, 1024]⟩
abbrev S1x1024 : Shape := ⟨2, ![1, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S8x4096x704, .bf16⟩
  | .hbm, ⟨1, _⟩ => ⟨S8x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_13 : BitVec 32 := 0#32
  let v20 : BitVec 1 := Scalar.cmpi .ne v19 c0_i32_13
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== BwdInRefIdeal.lean ====
abbrev S8x4096x704 : Shape := ⟨3, ![8, 4096, 704]⟩
abbrev S8x704x1024 : Shape := ⟨3, ![8, 704, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S5632x1024 : Shape := ⟨2, ![5632, 1024]⟩
abbrev S1024x5632 : Shape := ⟨2, ![1024, 5632]⟩
abbrev S4096x5632 : Shape := ⟨2, ![4096, 5632]⟩
abbrev S4096x8x704 : Shape := ⟨3, ![4096, 8, 704]⟩

abbrev nBuf : Space → Nat
  | .hbm => 62
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S8x704x1024, .f32⟩
  | .hbm, ⟨30, _⟩ => ⟨S5632x1024, .f32⟩
  | .hbm, ⟨31, _⟩ => ⟨S1024x5632, .f32⟩
  | .hbm, ⟨32, _⟩ => ⟨S4096x5632, .f32⟩
  | .hbm, ⟨33, _⟩ => ⟨S8x4096x704, .f32⟩
  | .hbm, ⟨34, _⟩ => ⟨S4096x8x704, .f32⟩
  | .hbm, ⟨35, _⟩ => ⟨S4096x5632, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== FfnIn.lean ====
abbrev S4096x1024 : Shape := ⟨2, ![4096, 1024]⟩
abbrev S1x1024 : Shape := ⟨2, ![1, 1024]⟩
abbrev S8x704x1024 : Shape := ⟨3, ![8, 704, 1024]⟩
abbrev S4x4096x704 : Shape := ⟨3, ![4, 4096, 704]⟩
abbrev S1024x1024 : Shape := ⟨2, ![1024, 1024]⟩
abbrev S1x704x1024 : Shape := ⟨3, ![1, 704, 1024]⟩
abbrev S1x1024x704 : Shape := ⟨3, ![1, 1024, 704]⟩
abbrev S1024 : Shape := ⟨1, ![1024]⟩
abbrev S1024x1 : Shape := ⟨2, ![1024, 1]⟩
abbrev S704x1024 : Shape := ⟨2, ![704, 1024]⟩
abbrev S1024x704 : Shape := ⟨2, ![1024, 704]⟩

abbrev nBuf : Space → Nat
  | .hbm => 7
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S8x704x1024, .bf16⟩
  | .hbm, ⟨3, _⟩ => ⟨S4x4096x704, .bf16⟩
  | .hbm, ⟨4, _⟩ => ⟨S4x4096x704, .bf16⟩
  | .hbm, ⟨5, _⟩ => ⟨S4x4096x704, .bf16⟩
  | .hbm, ⟨6, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x1024x704, .bf16⟩
  | .local _ .vmem, ⟨13, _⟩ => ⟨S1024x1024, .bf16⟩
  | .local _ .vmem, ⟨14, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnInRefIdeal.lean ====
abbrev S4096x1024 : Shape := ⟨2, ![4096, 1024]⟩
abbrev S1x1024 : Shape := ⟨2, ![1, 1024]⟩
abbrev S8x704x1024 : Shape := ⟨3, ![8, 704, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S5632x1024 : Shape := ⟨2, ![5632, 1024]⟩
abbrev S1024x5632 : Shape := ⟨2, ![1024, 5632]⟩
abbrev S4096x5632 : Shape := ⟨2, ![4096, 5632]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S8x704x1024, .bf16⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S8x704x1024, .f32⟩
  | .hbm, ⟨21, _⟩ => ⟨S5632x1024, .f32⟩
  | .hbm, ⟨22, _⟩ => ⟨S1024x5632, .f32⟩
  | .hbm, ⟨23, _⟩ => ⟨S4096x5632, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x4x704, .f32⟩
  | .hbm, ⟨49, _⟩ => ⟨S4x4096x704, .f32⟩
  | .hbm, ⟨50, _⟩ => ⟨S4x4096x704, .bf16⟩
  | .hbm, ⟨51, _⟩ => ⟨S4096x4x704, .f32⟩
  | .hbm, ⟨52, _⟩ => ⟨S4x4096x704, .f32⟩
  | .hbm, ⟨53, _⟩ => ⟨S4x4096x704, .bf16⟩
  | .hbm, ⟨54, _⟩ => ⟨S4096x4x704, .f32⟩
  | .hbm, ⟨55, _⟩ => ⟨S4x4096x704, .f32⟩
  | .hbm, ⟨56, _⟩ => ⟨S4x4096x704, .bf16⟩
  | .hbm, ⟨57, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v20_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v20_1 : Ref sig .tc := ⟨.hbm, 37, rfl⟩
abbrev main_v20_0 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== Proof.Hand.KRuns.lean ====
/- The kernel over float words: what its host code leaves, each window's block, the conditions of its body. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Quiet

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

abbrev ms0_0 (t : Fin cfg0.N) : Memref sig .tc .vmem S4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x2x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x2x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x8x128x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x128 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x2x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x8x2x512 .f32 := win0_14.stage (cfg0.slots t 14)
abbrev hs0_14 (t : Fin cfg0.N) : (ms0_14 t).IsWhole := hstage0_14 ((cfg0.slots t 14).cast nbuf0_14)

abbrev scM0_0 : Memref sig .tc .vmem S512x128 .f32 := Memref.whole cc0_scratch0
abbrev scM0_1 : Memref sig .tc .vmem S512x128 .f32 := Memref.whole cc0_scratch1
abbrev scM0_2 : Memref sig .tc .vmem S2x512x128 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Quiet

end
-- ==== Proof.Hand.KRunA.lean ====
/- The kernel over float words: its body at the first tile of a pair of heads. -/
module

public import proofs.«01_k».proof.Proof.Hand.KRuns

@[expose] public section

set_option maxRecDepth 16384

noncomputable section

namespace Cert.Kernel.Quiet

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

theorem kernelRun0_A (c : Dev nD) (i : grid0.Coords) (arg2 : Memref sig .tc .vmem S4096x128 .bf16) (harg2 : arg2.IsWhole) (arg3 : Memref sig .tc .vmem S1x8x128x512 .bf16) (harg3 : arg3.IsWhole) (arg4 : Memref sig .tc .vmem S4096x128 .bf16) (harg4 : arg4.IsWhole) (arg5 : Memref sig .tc .vmem S1x8x128x512 .bf16) (harg5 : arg5.IsWhole) (arg6 : Memref sig .tc .vmem S1x1x128x512 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S1x8x2x512 .f32) (harg10 : arg10.IsWhole) (arg11 : Memref sig .tc .vmem S1x8x2x512 .f32) (harg11 : arg11.IsWhole) (arg12 : Memref sig .tc .vmem S1x8x128x512 .f32) (harg12 : arg12.IsWhole) (arg13 : Memref sig .tc .vmem S512x128 .bf16) (harg13 : arg13.IsWhole) (arg14 : Memref sig .tc .vmem S512x128 .bf16) (harg14 : arg14.IsWhole) (arg15 : Memref sig .tc .vmem S1x1x2x512 .f32) (harg15 : arg15.IsWhole) (arg16 : Memref sig .tc .vmem S1x8x2x512 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S2x512x128 .f32) (harg19 : arg19.IsWhole) (hc0 : cond0_0 i)
    (x0 : Vec F S4096x128 .bf16) (x1 : Vec F S1x8x128x512 .bf16) (x2 : Vec F S4096x128 .bf16) (x3 : Vec F S1x8x128x512 .bf16) (x4 : Vec F S1x1x128x512 .bf16) (x5 : Vec F S512x128 .bf16) (x6 : Vec F S512x128 .bf16) (x7 : Vec F S512x128 .bf16) (x8 : Vec F S1x8x2x512 .f32) (x9 : Vec F S1x8x2x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_fox_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_fox_attn_bwd_eq_skeleton]; unfold cc0_fox_attn_bwd_skel
    simp only [k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Quiet

end
-- ==== Proof.Hand.KRunB.lean ====
/- The kernel over float words: its body at the later tiles. -/
module

public import proofs.«01_k».proof.Proof.Hand.KRunA

@[expose] public section

set_option maxRecDepth 16384

noncomputable section

namespace Cert.Kernel.Quiet

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

theorem kernelRun0_B (c : Dev nD) (i : grid0.Coords) (arg2 : Memref sig .tc .vmem S4096x128 .bf16) (harg2 : arg2.IsWhole) (arg3 : Memref sig .tc .vmem S1x8x128x512 .bf16) (harg3 : arg3.IsWhole) (arg4 : Memref sig .tc .vmem S4096x128 .bf16) (harg4 : arg4.IsWhole) (arg5 : Memref sig .tc .vmem S1x8x128x512 .bf16) (harg5 : arg5.IsWhole) (arg6 : Memref sig .tc .vmem S1x1x128x512 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S1x8x2x512 .f32) (harg10 : arg10.IsWhole) (arg11 : Memref sig .tc .vmem S1x8x2x512 .f32) (harg11 : arg11.IsWhole) (arg12 : Memref sig .tc .vmem S1x8x128x512 .f32) (harg12 : arg12.IsWhole) (arg13 : Memref sig .tc .vmem S512x128 .bf16) (harg13 : arg13.IsWhole) (arg14 : Memref sig .tc .vmem S512x128 .bf16) (harg14 : arg14.IsWhole) (arg15 : Memref sig .tc .vmem S1x1x2x512 .f32) (harg15 : arg15.IsWhole) (arg16 : Memref sig .tc .vmem S1x8x2x512 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S2x512x128 .f32) (harg19 : arg19.IsWhole) (hc0 : ¬cond0_0 i)
    (x0 : Vec F S4096x128 .bf16) (x1 : Vec F S1x8x128x512 .bf16) (x2 : Vec F S4096x128 .bf16) (x3 : Vec F S1x8x128x512 .bf16) (x4 : Vec F S1x1x128x512 .bf16) (x5 : Vec F S512x128 .bf16) (x6 : Vec F S512x128 .bf16) (x7 : Vec F S512x128 .bf16) (x8 : Vec F S1x8x2x512 .f32) (x9 : Vec F S1x8x2x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_fox_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_fox_attn_bwd_eq_skeleton]; unfold cc0_fox_attn_bwd_skel
    simp only [k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Quiet

end
-- ==== Proof.Hand.KFrame.lean ====
/- The kernel over float words: its frame. Nothing is said of what its results hold. -/
module

public import proofs.«01_k».proof.Proof.Hand.KRunB
public import Idealize.ShloMosaic.Lib.Claim

@[expose] public section

set_option maxRecDepth 16384

noncomputable section

namespace Cert.Kernel.Quiet

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def forgets0 : Fin 15 → Bool := fun w => w.val == 10 || w.val == 11 || w.val == 12 || w.val == 13 || w.val == 14

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 3200000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  have hN : t.val < 64 := lt_of_lt_of_eq t.isLt (show cfg0.N = 64 from N_0)
  by_cases h0 : t.val % 8 = 0
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_A c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    iintro ⟨H0, H1, H2, H3, H4, H5, H6, H7, H8, H9, H10, H11, H12, H13, H14, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_B c (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    iintro ⟨H0, H1, H2, H3, H4, H5, H6, H7, H8, H9, H10, H11, H12, H13, H14, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in

theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Quiet

end
-- ==== Proof.Hand.Step.lean ====
module

public import proofs.«01_k».proof.Proof.Gen.KernelIdeal.Skeleton
public import Idealize.ShloMosaic.Lib.Pointwise
public import Idealize.ShloMosaic.Lib.WordCmp

@[expose] public section

noncomputable section

namespace Cert.KernelIdeal.Hand

open Idealize.ShloMosaic Cert.KernelIdeal Cert.KernelIdeal.Gen

/-- Which of the pair's two heads a lane belongs to. -/
def hd (l : Fin 128) : Fin 2 := if l.val < 64 then 0 else 1

/-- Row `t` of row block `i`. -/
def row (i : Fin 8) (t : Fin 512) : Fin 4096 := ⟨512 * i.val + t.val, by omega⟩

/-- The ten input blocks of a grid point. -/
structure Blk where
  q : S4096x128.Idx → EReal
  qt : S1x8x128x512.Idx → EReal
  dob : S4096x128.Idx → EReal
  dot : S1x8x128x512.Idx → EReal
  kt : S1x1x128x512.Idx → EReal
  v : S512x128.Idx → EReal
  ka : S512x128.Idx → EReal
  kb : S512x128.Idx → EReal
  lse : S1x8x2x512.Idx → EReal
  dsum : S1x8x2x512.Idx → EReal

namespace Blk

variable (B : Blk)

/-- The left factor of head `a`'s score product. -/
def kx (a : Fin 2) : S512x128.Idx → EReal := if a = 0 then B.ka else B.kb

/-- The right factor of head `a`'s score product: the head's lanes of q, −1 against the three parts of c, 0. -/
def ext (a : Fin 2) (i : Fin 8) (l : Fin 128) (t : Fin 512) : EReal :=
  if hd l = a then B.qt (ix4 0 i l t) else if l.val < (if a = 0 then 67 else 3) then -1 else 0

/-- Scores (keys `s`, queries `t` of row block `i`). -/
def St (a : Fin 2) (i : Fin 8) (s t : Fin 512) : EReal := ∑ l : Fin 128, B.kx a (ix2 s l) * B.ext a i l t

/-- The product of head `a`'s values with the output's gradient. -/
def Dp (a : Fin 2) (i : Fin 8) (s t : Fin 512) : EReal :=
  ∑ l : Fin 128, (if hd l = a then B.v (ix2 s l) else 0) * B.dot (ix4 0 i l t)

/-- The weights, masked on the diagonal block. -/
def Pm (a : Fin 2) (j i : Fin 8) (s t : Fin 512) : EReal :=
  if j < i ∨ s ≤ t then Ideal.exp (B.St a i s t - B.lse (ix4 0 i a t)) else 0

/-- The scores' gradient. -/
def Ds (a : Fin 2) (j i : Fin 8) (s t : Fin 512) : EReal :=
  B.Pm a j i s t * (B.Dp a i s t - B.dsum (ix4 0 i a t))

/-- Row block `i`'s part of q's gradient. -/
def cq (j i : Fin 8) (r : Fin 128) (t : Fin 512) : EReal := ∑ s : Fin 512, B.kt (ix4 0 0 r s) * B.Ds (hd r) j i s t

/-- Row block `i`'s part of k's gradient. -/
def ck (j i : Fin 8) (s : Fin 512) (l : Fin 128) : EReal :=
  (∑ t : Fin 512, B.Ds 0 j i s t * (if hd l = 0 then B.q (ix2 (row i t) l) else 0))
    + ∑ t : Fin 512, B.Ds 1 j i s t * (if hd l = 1 then B.q (ix2 (row i t) l) else 0)

/-- Row block `i`'s part of v's gradient. -/
def cv (j i : Fin 8) (s : Fin 512) (l : Fin 128) : EReal :=
  (∑ t : Fin 512, B.Pm 0 j i s t * (if hd l = 0 then B.dob (ix2 (row i t) l) else 0))
    + ∑ t : Fin 512, B.Pm 1 j i s t * (if hd l = 1 then B.dob (ix2 (row i t) l) else 0)

/-- Row block `i`'s part of the gradient of the query's c. -/
def cc (a : Fin 2) (j i : Fin 8) (t : Fin 512) : EReal := ∑ s : Fin 512, B.Ds a j i s t

/-- Row block `i`'s part of the gradient of the key's c, its four groups of 128 columns added up. -/
def cl (a : Fin 2) (j i : Fin 8) (s : Fin 512) (l : Fin 128) : EReal :=
  B.Ds a j i s ⟨l.val, by omega⟩ + B.Ds a j i s ⟨128 + l.val, by omega⟩ + B.Ds a j i s ⟨256 + l.val, by omega⟩
    + B.Ds a j i s ⟨384 + l.val, by omega⟩

end Blk

theorem select_ofBool {α : Type} (p : Prop) [Decidable p] (a b : α) :
    Scalar.select (BitVec.ofBool (decide p)) a b = if p then a else b := by
  unfold Scalar.select
  by_cases h : p <;> simp [h]

theorem cmp_slt {n k : ℕ} (hn : n < 2 ^ 31) (hk : k < 2 ^ 31) :
    IntOp.cmpi .slt (BitVec.ofNat 32 n) (BitVec.ofNat 32 k) = BitVec.ofBool (decide (n < k)) := WordCmp.cmpi_slt_ofNat hn hk

theorem cmp_sge {n k : ℕ} (hn : n < 2 ^ 31) (hk : k < 2 ^ 31) :
    IntOp.cmpi .sge (BitVec.ofNat 32 n) (BitVec.ofNat 32 k) = BitVec.ofBool (decide (k ≤ n)) := WordCmp.cmpi_sle_ofNat hk hn

theorem cmp_sle {n k : ℕ} (hn : n < 2 ^ 31) (hk : k < 2 ^ 31) :
    IntOp.cmpi .sle (BitVec.ofNat 32 n) (BitVec.ofNat 32 k) = BitVec.ofBool (decide (n ≤ k)) := WordCmp.cmpi_sle_ofNat hn hk

theorem hd_zero (l : Fin 128) : hd l = 0 ↔ l.val < 64 := by
  unfold hd; split <;> simp_all

theorem hd_one (l : Fin 128) : hd l = 1 ↔ 64 ≤ l.val := by
  unfold hd; split <;> simp_all

/-- What the step reads of the values bound before it. -/
structure Ctx (B : Blk) (v16 : IVec S128x512 32) (v18 v20 : IVec S512x128 1) (v26 v28 : FVec Ideal S512x128 .bf16)
    (v29 v30 : FVec Ideal S64x512 .bf16) (v32 v34 : FVec Ideal S512x128 .bf16) (c109 c110 : Ideal .bf16) : Prop where
  h16 : ∀ l t, v16 (ix2 l t) = BitVec.ofNat 32 l.val
  h18 : ∀ s l, v18 (ix2 s l) = BitVec.ofBool (decide (hd l = 0))
  h20 : ∀ s l, v20 (ix2 s l) = BitVec.ofBool (decide (hd l = 1))
  h26 : ∀ s l, v26 (ix2 s l) = if hd l = 0 then B.v (ix2 s l) else 0
  h28 : ∀ s l, v28 (ix2 s l) = if hd l = 1 then B.v (ix2 s l) else 0
  h29 : ∀ (r : Fin 64) s, v29 (ix2 r s) = B.kt (ix4 0 0 ⟨r.val, by omega⟩ s)
  h30 : ∀ (r : Fin 64) s, v30 (ix2 r s) = B.kt (ix4 0 0 ⟨64 + r.val, by omega⟩ s)
  h32 : ∀ s l, v32 (ix2 s l) = B.ka (ix2 s l)
  h34 : ∀ s l, v34 (ix2 s l) = B.kb (ix2 s l)
  h109 : c109 = (-1 : EReal)
  h110 : c110 = (0 : EReal)

/-- The windows the step loads for row block `i`. -/
structure Win (B : Blk) (i : Fin 8) (qt dot : Vec Ideal S1x1x128x512 .bf16) (q dob : Vec Ideal S512x128 .bf16)
    (l0 l1 d0 d1 : Vec Ideal S1x1x1x512 .f32) : Prop where
  qt : ∀ l t, qt (ix4 0 0 l t) = B.qt (ix4 0 i l t)
  dot : ∀ l t, dot (ix4 0 0 l t) = B.dot (ix4 0 i l t)
  q : ∀ t l, q (ix2 t l) = B.q (ix2 (row i t) l)
  dob : ∀ t l, dob (ix2 t l) = B.dob (ix2 (row i t) l)
  l0 : ∀ t, l0 (ix4 0 0 0 t) = B.lse (ix4 0 i 0 t)
  l1 : ∀ t, l1 (ix4 0 0 0 t) = B.lse (ix4 0 i 1 t)
  d0 : ∀ t, d0 (ix4 0 0 0 t) = B.dsum (ix4 0 i 0 t)
  d1 : ∀ t, d1 (ix4 0 0 0 t) = B.dsum (ix4 0 i 1 t)

section

variable {B : Blk} {i j : Fin 8} {v16 : IVec S128x512 32} {v18 v20 : IVec S512x128 1} {v26 v28 : FVec Ideal S512x128 .bf16}
  {v29 v30 : FVec Ideal S64x512 .bf16} {v32 v34 : FVec Ideal S512x128 .bf16} {c109 c110 : Ideal .bf16}
  {qt dot : Vec Ideal S1x1x128x512 .bf16} {q dob : Vec Ideal S512x128 .bf16} {l0 l1 d0 d1 : Vec Ideal S1x1x1x512 .f32}
  (hc : Ctx B v16 v18 v20 v26 v28 v29 v30 v32 v34 c109 c110) (hw : Win B i qt dot q dob l0 l1 d0 d1)

include hc hw

theorem ext0_eq (l : Fin 128) (t : Fin 512) :
    Scalar.select (IntOp.cmpi CmpIPredicate.slt (v16 (ix2 l t)) 64#32) (qt (ix4 0 0 l t))
      (Scalar.select (IntOp.cmpi CmpIPredicate.slt (v16 (ix2 l t)) 67#32) c109 c110) = B.ext 0 i l t := by
  rw [hc.h16, cmp_slt (by omega) (by omega), cmp_slt (by omega) (by omega), select_ofBool, select_ofBool, hw.qt, hc.h109, hc.h110]
  simp only [Blk.ext, hd_zero, if_true]

theorem ext1_eq (l : Fin 128) (t : Fin 512) :
    Scalar.select (IntOp.cmpi CmpIPredicate.sge (v16 (ix2 l t)) 64#32) (qt (ix4 0 0 l t))
      (Scalar.select (IntOp.cmpi CmpIPredicate.slt (v16 (ix2 l t)) 3#32) c109 c110) = B.ext 1 i l t := by
  rw [hc.h16, cmp_sge (by omega) (by omega), cmp_slt (by omega) (by omega), select_ofBool, select_ofBool, hw.qt, hc.h109, hc.h110]
  simp only [Blk.ext, hd_one, one_ne_zero, if_false]

theorem pay10_apply (s t : Fin 512) :
    k0_pay10 v16 v32 c109 c110 qt l0 (ix2 s t) = B.St 0 i s t - B.lse (ix4 0 i 0 t) := by
  pointwise [k0_pay10, k0_pay3]
  rw [hw.l0]
  simp only [ext0_eq hc hw, hc.h32, Blk.St, Blk.kx, if_true]

theorem pay7_apply (s t : Fin 512) : k0_pay7 v16 v34 c109 c110 qt (ix2 s t) = B.St 1 i s t := by
  pointwise [k0_pay7, k0_pay3]
  simp only [ext1_eq hc hw, hc.h34, Blk.St, Blk.kx, one_ne_zero, if_false]

theorem pay8_apply (s t : Fin 512) : k0_pay8 v26 dot (ix2 s t) = B.Dp 0 i s t := by
  pointwise [k0_pay8, k0_pay4]
  simp only [hc.h26, hw.dot, Blk.Dp]

theorem pay9_apply (s t : Fin 512) : k0_pay9 v28 dot (ix2 s t) = B.Dp 1 i s t := by
  pointwise [k0_pay9, k0_pay4]
  simp only [hc.h28, hw.dot, Blk.Dp]

theorem pay11_apply (h : j < i) (s t : Fin 512) :
    k0_pay11 (k0_pay10 v16 v32 c109 c110 qt l0) (ix2 s t) = B.Pm 0 j i s t := by
  pointwise [k0_pay11]
  rw [pay10_apply hc hw, Blk.Pm, if_pos (.inl h)]

theorem pay12_apply (h : j < i) (s t : Fin 512) :
    k0_pay12 (k0_pay8 v26 dot) (k0_pay10 v16 v32 c109 c110 qt l0) d0 (ix2 s t) = B.Ds 0 j i s t := by
  pointwise [k0_pay12]
  rw [pay11_apply hc hw h, pay8_apply hc hw, hw.d0, Blk.Ds]

theorem pay17_apply (h : j < i) (s t : Fin 512) :
    k0_pay17 (k0_pay7 v16 v34 c109 c110 qt) l1 (ix2 s t) = B.Pm 1 j i s t := by
  pointwise [k0_pay17]
  rw [pay7_apply hc hw, hw.l1, Blk.Pm, if_pos (.inl h)]

theorem pay18_apply (h : j < i) (s t : Fin 512) :
    k0_pay18 (k0_pay9 v28 dot) (k0_pay17 (k0_pay7 v16 v34 c109 c110 qt) l1) d1 (ix2 s t) = B.Ds 1 j i s t := by
  pointwise [k0_pay18]
  rw [pay17_apply hc hw h, pay9_apply hc hw, hw.d1, Blk.Ds]

theorem pay13_apply (h : j < i) (x : Vec Ideal S1x1x1x512 .f32) (t : Fin 512) :
    k0_pay13 (k0_pay8 v26 dot) (k0_pay10 v16 v32 c109 c110 qt l0) d0 x (ix4 0 0 0 t) = x (ix4 0 0 0 t) + B.cc 0 j i t := by
  pointwise [k0_pay13]
  simp only [pay12_apply hc hw h, Blk.cc]

theorem pay19_apply (h : j < i) (x : Vec Ideal S1x1x1x512 .f32) (t : Fin 512) :
    k0_pay19 (k0_pay9 v28 dot) (k0_pay17 (k0_pay7 v16 v34 c109 c110 qt) l1) d1 x (ix4 0 0 0 t) = x (ix4 0 0 0 t) + B.cc 1 j i t := by
  pointwise [k0_pay19]
  simp only [pay18_apply hc hw h, Blk.cc]

theorem pay14_apply (h : j < i) (x : Vec Ideal S1x512x128 .f32) (s : Fin 512) (l : Fin 128) :
    k0_pay14 (k0_pay8 v26 dot) (k0_pay10 v16 v32 c109 c110 qt l0) d0 x (ix3 0 s l) = x (ix3 0 s l) + B.cl 0 j i s l := by
  pointwise [k0_pay14]
  simp only [pay12_apply hc hw h, Blk.cl]

theorem pay20_apply (h : j < i) (x : Vec Ideal S1x512x128 .f32) (s : Fin 512) (l : Fin 128) :
    k0_pay20 (k0_pay9 v28 dot) (k0_pay17 (k0_pay7 v16 v34 c109 c110 qt) l1) d1 x (ix3 0 s l) = x (ix3 0 s l) + B.cl 1 j i s l := by
  pointwise [k0_pay20]
  simp only [pay18_apply hc hw h, Blk.cl]

theorem pay27_apply (h : j < i) (x : Vec Ideal S512x128 .f32) (s : Fin 512) (l : Fin 128) :
    k0_pay27 (k0_pay15 (k0_pay10 v16 v32 c109 c110 qt l0)) (k0_pay21 (k0_pay17 (k0_pay7 v16 v34 c109 c110 qt) l1))
      (k0_pay25 v18 c110 (k0_pay6 dob)) (k0_pay26 v20 c110 (k0_pay6 dob)) x (constant S512x128 .f32 0x00000000#32) (ix2 s l)
      = x (ix2 s l) + B.cv j i s l := by
  pointwise [k0_pay27, k0_pay15, k0_pay21, k0_pay25, k0_pay26, k0_pay6]
  simp only [pay11_apply hc hw h, pay17_apply hc hw h, hc.h18, hc.h20, select_ofBool, hw.dob, Blk.cv, mul_ite, mul_zero]
  simp only [hc.h110, mul_zero]

theorem pay28_apply (h : j < i) (x : Vec Ideal S512x128 .f32) (s : Fin 512) (l : Fin 128) :
    k0_pay28 (k0_pay16 (k0_pay8 v26 dot) (k0_pay10 v16 v32 c109 c110 qt l0) d0)
      (k0_pay22 (k0_pay9 v28 dot) (k0_pay17 (k0_pay7 v16 v34 c109 c110 qt) l1) d1)
      (k0_pay23 v18 c110 (k0_pay5 q)) (k0_pay24 v20 c110 (k0_pay5 q)) x (ix2 s l)
      = x (ix2 s l) + B.ck j i s l := by
  pointwise [k0_pay28, k0_pay16, k0_pay22, k0_pay23, k0_pay24, k0_pay5]
  simp only [pay12_apply hc hw h, pay18_apply hc hw h, hc.h18, hc.h20, select_ofBool, hw.q, Blk.ck, mul_ite, mul_zero]
  simp only [hc.h110, mul_zero]

theorem pay29_apply (h : j < i) (x : Vec Ideal S1x1x64x512 .f32) (r : Fin 64) (t : Fin 512) :
    k0_pay29 v29 (k0_pay16 (k0_pay8 v26 dot) (k0_pay10 v16 v32 c109 c110 qt l0) d0) x (ix4 0 0 r t)
      = x (ix4 0 0 r t) + B.cq j i ⟨r.val, by omega⟩ t := by
  have e : hd ⟨r.val, by omega⟩ = 0 := (hd_zero _).2 r.isLt
  pointwise [k0_pay29, k0_pay16]
  simp only [pay12_apply hc hw h, hc.h29, Blk.cq, e]

theorem pay30_apply (h : j < i) (x : Vec Ideal S1x1x64x512 .f32) (r : Fin 64) (t : Fin 512) :
    k0_pay30 v30 (k0_pay22 (k0_pay9 v28 dot) (k0_pay17 (k0_pay7 v16 v34 c109 c110 qt) l1) d1) x (ix4 0 0 r t)
      = x (ix4 0 0 r t) + B.cq j i ⟨64 + r.val, by omega⟩ t := by
  have e : hd ⟨64 + r.val, by omega⟩ = 1 := (hd_one _).2 (Nat.le_add_right 64 _)
  pointwise [k0_pay30, k0_pay22]
  simp only [pay18_apply hc hw h, hc.h30, Blk.cq, e]

end

section

variable {B : Blk} {j : Fin 8} {v16 : IVec S128x512 32} {v18 v20 : IVec S512x128 1} {v26 v28 : FVec Ideal S512x128 .bf16}
  {v29 v30 : FVec Ideal S64x512 .bf16} {v31 v33 : Vec Ideal S512x128 .bf16} {c109 c110 : Ideal .bf16}
  {qt dot : Vec Ideal S1x1x128x512 .bf16} {q dob : Vec Ideal S512x128 .bf16} {l0 l1 d0 d1 : Vec Ideal S1x1x1x512 .f32}
  {v35 v36 : IVec S512x512 32}
  (hc : Ctx B v16 v18 v20 v26 v28 v29 v30 (k0_pay72 v31) (k0_pay73 v33) (Scalar.ofBits .bf16 0xBF80#16) (Scalar.ofBits .bf16 0x0000#16))
  (hw : Win B j qt dot q dob l0 l1 d0 d1)
  (h35 : ∀ s t, v35 (ix2 s t) = BitVec.ofNat 32 s.val) (h36 : ∀ s t, v36 (ix2 s t) = BitVec.ofNat 32 t.val)

include hc hw

theorem pay78_apply (s t : Fin 512) : k0_pay78 v16 v31 qt (ix2 s t) = B.St 0 j s t := by
  have e := pay7_apply (v34 := k0_pay73 v33) hc hw s t
  have := ext0_eq hc hw
  pointwise [k0_pay78, k0_pay74]
  pointwise [] at this
  simp only [this, hc.h32, Blk.St, Blk.kx, if_true]

theorem pay79_apply (s t : Fin 512) : k0_pay79 v16 v33 qt (ix2 s t) = B.St 1 j s t := by
  have := ext1_eq hc hw
  pointwise [k0_pay79, k0_pay74]
  pointwise [] at this
  simp only [this, hc.h34, Blk.St, Blk.kx, one_ne_zero, if_false]

theorem pay80_apply (s t : Fin 512) : k0_pay80 v28 (k0_pay75 dot) (ix2 s t) = B.Dp 1 j s t := by
  pointwise [k0_pay80, k0_pay75]
  simp only [hc.h28, hw.dot, Blk.Dp]

include h35 h36

theorem pay81_apply (s t : Fin 512) : k0_pay81 v35 v36 (k0_pay78 v16 v31 qt) l0 (ix2 s t) = B.Pm 0 j j s t := by
  pointwise [k0_pay81]
  rw [h35, h36, cmp_sle (by omega) (by omega), select_ofBool, pay78_apply hc hw, hw.l0, Blk.Pm]
  simp only [lt_irrefl, false_or, Fin.le_def]

theorem pay82_apply (s t : Fin 512) :
    k0_pay82 v26 v35 v36 (k0_pay75 dot) (k0_pay78 v16 v31 qt) l0 d0 (ix2 s t) = B.Ds 0 j j s t := by
  pointwise [k0_pay82, k0_pay75]
  rw [pay81_apply hc hw h35 h36, hw.d0, Blk.Ds]
  simp only [hc.h26, hw.dot, Blk.Dp]

theorem pay88_apply (s t : Fin 512) : k0_pay88 v35 v36 (k0_pay79 v16 v33 qt) l1 (ix2 s t) = B.Pm 1 j j s t := by
  pointwise [k0_pay88]
  rw [h35, h36, cmp_sle (by omega) (by omega), select_ofBool, pay79_apply hc hw, hw.l1, Blk.Pm]
  simp only [lt_irrefl, false_or, Fin.le_def]

theorem pay89_apply (s t : Fin 512) :
    k0_pay89 v35 v36 (k0_pay79 v16 v33 qt) (k0_pay80 v28 (k0_pay75 dot)) l1 d1 (ix2 s t) = B.Ds 1 j j s t := by
  pointwise [k0_pay89]
  rw [pay88_apply hc hw h35 h36, hw.d1, pay80_apply hc hw, Blk.Ds]

theorem pay83_apply (x : Vec Ideal S1x1x1x512 .f32) (t : Fin 512) :
    k0_pay83 v26 v35 v36 (k0_pay75 dot) (k0_pay78 v16 v31 qt) l0 d0 x (ix4 0 0 0 t) = x (ix4 0 0 0 t) + B.cc 0 j j t := by
  pointwise [k0_pay83]
  simp only [pay82_apply hc hw h35 h36, Blk.cc]

theorem pay90_apply (x : Vec Ideal S1x1x1x512 .f32) (t : Fin 512) :
    k0_pay90 v35 v36 (k0_pay79 v16 v33 qt) (k0_pay80 v28 (k0_pay75 dot)) l1 d1 x (ix4 0 0 0 t)
      = x (ix4 0 0 0 t) + B.cc 1 j j t := by
  pointwise [k0_pay90]
  simp only [pay89_apply hc hw h35 h36, Blk.cc]

theorem pay85_apply (x : Vec Ideal S1x512x128 .f32) (s : Fin 512) (l : Fin 128) :
    k0_pay85 (k0_pay84 v26 v35 v36 (k0_pay75 dot) (k0_pay78 v16 v31 qt) l0 d0 x) (ix3 0 s l)
      = x (ix3 0 s l) + B.cl 0 j j s l := by
  pointwise [k0_pay85, k0_pay84]
  simp only [pay82_apply hc hw h35 h36, Blk.cl]

theorem pay92_apply (x : Vec Ideal S1x512x128 .f32) (s : Fin 512) (l : Fin 128) :
    k0_pay92 (k0_pay91 v35 v36 (k0_pay79 v16 v33 qt) (k0_pay80 v28 (k0_pay75 dot)) l1 d1 x) (ix3 0 s l)
      = x (ix3 0 s l) + B.cl 1 j j s l := by
  pointwise [k0_pay92, k0_pay91]
  simp only [pay89_apply hc hw h35 h36, Blk.cl]

theorem pay94_apply (x : Vec Ideal S512x128 .f32) (s : Fin 512) (l : Fin 128) :
    k0_pay94 v18 v20 (k0_pay77 dob) (k0_pay86 (k0_pay81 v35 v36 (k0_pay78 v16 v31 qt) l0))
      (k0_pay88 v35 v36 (k0_pay79 v16 v33 qt) l1) x (ix2 s l) = x (ix2 s l) + B.cv j j s l := by
  pointwise [k0_pay94, k0_pay77, k0_pay86]
  simp only [pay81_apply hc hw h35 h36, pay88_apply hc hw h35 h36, hc.h18, hc.h20, select_ofBool, hw.dob, Blk.cv, mul_ite, mul_zero]

theorem pay95_apply (x : Vec Ideal S512x128 .f32) (s : Fin 512) (l : Fin 128) :
    k0_pay95 v18 v20 (k0_pay76 q) (k0_pay87 (k0_pay82 v26 v35 v36 (k0_pay75 dot) (k0_pay78 v16 v31 qt) l0 d0))
      (k0_pay89 v35 v36 (k0_pay79 v16 v33 qt) (k0_pay80 v28 (k0_pay75 dot)) l1 d1) x (ix2 s l)
      = x (ix2 s l) + B.ck j j s l := by
  pointwise [k0_pay95, k0_pay76, k0_pay87, k0_pay93]
  simp only [pay82_apply hc hw h35 h36, pay89_apply hc hw h35 h36, hc.h18, hc.h20, select_ofBool, hw.q, Blk.ck, mul_ite, mul_zero]

theorem pay97_apply (x : Vec Ideal S1x1x64x512 .f32) (r : Fin 64) (t : Fin 512) :
    k0_pay97 (k0_pay96 v29 (k0_pay87 (k0_pay82 v26 v35 v36 (k0_pay75 dot) (k0_pay78 v16 v31 qt) l0 d0)) x) (ix4 0 0 r t)
      = x (ix4 0 0 r t) + B.cq j j ⟨r.val, by omega⟩ t := by
  have e : hd ⟨r.val, by omega⟩ = 0 := (hd_zero _).2 r.isLt
  pointwise [k0_pay97, k0_pay96, k0_pay87]
  simp only [pay82_apply hc hw h35 h36, hc.h29, Blk.cq, e]

theorem pay98_apply (x : Vec Ideal S1x1x64x512 .f32) (r : Fin 64) (t : Fin 512) :
    k0_pay98 v30 (k0_pay93 (k0_pay89 v35 v36 (k0_pay79 v16 v33 qt) (k0_pay80 v28 (k0_pay75 dot)) l1 d1)) x (ix4 0 0 r t)
      = x (ix4 0 0 r t) + B.cq j j ⟨64 + r.val, by omega⟩ t := by
  have e : hd ⟨64 + r.val, by omega⟩ = 1 := (hd_one _).2 (Nat.le_add_right 64 _)
  pointwise [k0_pay98, k0_pay93]
  simp only [pay89_apply hc hw h35 h36, hc.h30, Blk.cq, e]

end

theorem pay1_apply (x : Vec Ideal S1x512x128 .f32) (s : Fin 512) :
    k0_pay1 x (ix4 0 0 0 s) = 0 - ∑ l : Fin 128, x (ix3 0 s l) := by
  pointwise [k0_pay1]

theorem pay2_apply (x : Vec Ideal S1x512x128 .f32) (s : Fin 512) :
    k0_pay2 x (ix4 0 0 0 s) = 0 - ∑ l : Fin 128, x (ix3 0 s l) := by
  pointwise [k0_pay2]

end Cert.KernelIdeal.Hand
-- ==== Proof.Hand.Offs.lean ====
module

public import proofs.«01_k».proof.Proof.Gen.KernelIdeal.Skeleton

@[expose] public section

namespace Cert.KernelIdeal.Hand

open Idealize.ShloMosaic Cert.KernelIdeal

/-- The loop over the later row blocks makes `7 - j` trips at key block `j`. -/
theorem trips_t1 (i : grid0.Coords) : (k0_t1_loop i).trips = 7 - (i 1).val := by
  unfold k0_t1_loop
  generalize hj : i 1 = j
  clear hj
  revert j
  decide +kernel

/-- The loop's remainder makes no trip. -/
theorem trips_t2 (i : grid0.Coords) : (k0_t2_loop i).trips = 0 := by
  unfold k0_t2_loop
  generalize hj : i 1 = j
  clear hj
  revert j
  decide +kernel

/-- The row block of trip `k`, as a word. -/
theorem iv_words : ∀ (j : Fin 8) (n : Fin 7),
    (Scalar.indexCast (Scf.iv (Scalar.addi (BitVec.ofNat 32 j.val) 1#32) 1#32 n.val)).toNat = j.val + 1 + n.val
    ∧ (Scalar.indexCast (Scalar.muli (Scf.iv (Scalar.addi (BitVec.ofNat 32 j.val) 1#32) 1#32 n.val) 512#32)).toNat
        = 512 * (j.val + 1 + n.val) := by
  decide +kernel

theorem j_words : ∀ (j : Fin 8),
    (Scalar.indexCast (BitVec.ofNat 32 j.val)).toNat = j.val
    ∧ (Scalar.indexCast (Scalar.muli (BitVec.ofNat 32 j.val) 512#32)).toNat = 512 * j.val := by
  decide +kernel

variable (i : grid0.Coords)

theorem off1_eq : k0_off1 i = ![0, (i 1).val, 0, 0] := by
  unfold k0_off1; dsimp only; rw [(j_words (i 1)).1]
theorem off2_eq : k0_off2 i = ![512 * (i 1).val, 0] := by
  unfold k0_off2; dsimp only; rw [(j_words (i 1)).2]
theorem off3_eq : k0_off3 i = ![0, (i 1).val, 0, 0] := by
  unfold k0_off3; dsimp only; rw [(j_words (i 1)).1]
theorem off4_eq : k0_off4 i = ![0, (i 1).val, 1, 0] := by
  unfold k0_off4; dsimp only; rw [(j_words (i 1)).1]
theorem off5_eq : k0_off5 i = ![0, (i 1).val, 0, 0] := by
  unfold k0_off5; dsimp only; rw [(j_words (i 1)).1]
theorem off6_eq : k0_off6 i = ![0, (i 1).val, 64, 0] := by
  unfold k0_off6; dsimp only; rw [(j_words (i 1)).1]

variable (k : Fin (k0_t1_loop i).trips)

theorem k_lt : k.val < 7 - (i 1).val := k.isLt.trans_eq (trips_t1 i)

/-- The row block of trip `k`. -/
def blk : Fin 8 := ⟨(i 1).val + 1 + k.val, by have := k_lt i k; omega⟩

theorem lt_blk : i 1 < blk i k := Fin.lt_def.2 (by show (i 1).val < (i 1).val + 1 + k.val; omega)

theorem iv1 : (Scalar.indexCast (Scf.iv (Scalar.addi (BitVec.ofNat 32 (i 1).val) 1#32) 1#32 k.val)).toNat = (blk i k).val :=
  (iv_words (i 1) ⟨k.val, by have := k_lt i k; omega⟩).1
theorem iv2 : (Scalar.indexCast (Scalar.muli (Scf.iv (Scalar.addi (BitVec.ofNat 32 (i 1).val) 1#32) 1#32 k.val) 512#32)).toNat
    = 512 * (blk i k).val :=
  (iv_words (i 1) ⟨k.val, by have := k_lt i k; omega⟩).2

theorem off7_eq : k0_off7 i k = ![0, (blk i k).val, 0, 0] := by unfold k0_off7; dsimp only; rw [iv1]
theorem off8_eq : k0_off8 i k = ![512 * (blk i k).val, 0] := by unfold k0_off8; dsimp only; rw [iv2]
theorem off9_eq : k0_off9 i k = ![0, (blk i k).val, 0, 0] := by unfold k0_off9; dsimp only; rw [iv1]
theorem off10_eq : k0_off10 i k = ![0, (blk i k).val, 1, 0] := by unfold k0_off10; dsimp only; rw [iv1]
theorem off11_eq : k0_off11 i k = ![0, (blk i k).val, 0, 0] := by unfold k0_off11; dsimp only; rw [iv1]
theorem off12_eq : k0_off12 i k = ![0, (blk i k).val, 64, 0] := by unfold k0_off12; dsimp only; rw [iv1]

end Cert.KernelIdeal.Hand
-- ==== Proof.Hand.Puts.lean ====
module

public import proofs.«01_k».proof.Proof.Gen.KernelIdeal.Skeleton
public import Idealize.ShloMosaic.Lib.Pointwise
public import Idealize.ShloMosaic.Lib.VecWindow

@[expose] public section

namespace Cert.KernelIdeal.Hand

open Idealize.ShloMosaic Cert.KernelIdeal

variable {α : Type}

/-- A store of 64 rows of row block `b` from row `o`, read at an index. -/
theorem put_rows (x : S1x8x128x512.Idx → α) (b o : ℕ) (w : S1x1x64x512.Idx → α) (i : Fin 8) (l : Fin 128) (t : Fin 512) :
    VecWindow.put (s := S1x8x128x512) x ![0, b, o, 0] S1x1x64x512.size w (ix4 0 i l t)
      = if h : i.val = b ∧ o ≤ l.val ∧ l.val < o + 64 then w (ix4 0 0 ⟨l.val - o, by omega⟩ t) else x (ix4 0 i l t) := by
  unfold VecWindow.put
  by_cases h : i.val = b ∧ o ≤ l.val ∧ l.val < o + 64
  · have h' : ∀ a : Fin 4, (![0, b, o, 0] : Fin 4 → ℕ) a ≤ ((ix4 0 i l t : S1x8x128x512.Idx) a).val
        ∧ ((ix4 0 i l t : S1x8x128x512.Idx) a).val < (![0, b, o, 0] : Fin 4 → ℕ) a + S1x1x64x512.size a := by
      intro a
      fin_cases a
      · exact ⟨Nat.le_refl 0, Nat.lt_succ_self 0⟩
      · show b ≤ i.val ∧ i.val < b + 1; omega
      · exact h.2
      · show 0 ≤ t.val ∧ t.val < 0 + 512; omega
    rw [dif_pos h', dif_pos h]
    refine congrArg w (funext fun a => Fin.ext ?_)
    fin_cases a
    · rfl
    · show i.val - b = 0; omega
    · rfl
    · rfl
  · rw [dif_neg h, dif_neg]
    intro h'
    have h1 : b ≤ i.val ∧ i.val < b + 1 := h' 1
    have h2 : o ≤ l.val ∧ l.val < o + 64 := h' 2
    exact h ⟨by omega, h2⟩

/-- A store of one row `o` of row block `b`, read at an index. -/
theorem put_row (x : S1x8x2x512.Idx → α) (b o : ℕ) (w : S1x1x1x512.Idx → α) (i : Fin 8) (a : Fin 2) (t : Fin 512) :
    VecWindow.put (s := S1x8x2x512) x ![0, b, o, 0] S1x1x1x512.size w (ix4 0 i a t)
      = if i.val = b ∧ a.val = o then w (ix4 0 0 0 t) else x (ix4 0 i a t) := by
  unfold VecWindow.put
  by_cases h : i.val = b ∧ a.val = o
  · have h' : ∀ d : Fin 4, (![0, b, o, 0] : Fin 4 → ℕ) d ≤ ((ix4 0 i a t : S1x8x2x512.Idx) d).val
        ∧ ((ix4 0 i a t : S1x8x2x512.Idx) d).val < (![0, b, o, 0] : Fin 4 → ℕ) d + S1x1x1x512.size d := by
      intro d
      fin_cases d
      · exact ⟨Nat.le_refl 0, Nat.lt_succ_self 0⟩
      · show b ≤ i.val ∧ i.val < b + 1; omega
      · show o ≤ a.val ∧ a.val < o + 1; omega
      · show 0 ≤ t.val ∧ t.val < 0 + 512; omega
    rw [dif_pos h', if_pos h]
    refine congrArg w (funext fun d => Fin.ext ?_)
    fin_cases d
    · rfl
    · show i.val - b = 0; omega
    · show a.val - o = 0; omega
    · rfl
  · rw [if_neg h, dif_neg]
    intro h'
    have h1 : b ≤ i.val ∧ i.val < b + 1 := h' 1
    have h2 : o ≤ a.val ∧ a.val < o + 1 := h' 2
    exact h ⟨by omega, by omega⟩

/-- A store of one row `o` of the two-row block, read at an index. -/
theorem put_row1 (x : S1x1x2x512.Idx → α) (o : ℕ) (w : S1x1x1x512.Idx → α) (a : Fin 2) (t : Fin 512) :
    VecWindow.put (s := S1x1x2x512) x ![0, 0, o, 0] S1x1x1x512.size w (ix4 0 0 a t)
      = if a.val = o then w (ix4 0 0 0 t) else x (ix4 0 0 a t) := by
  unfold VecWindow.put
  by_cases h : a.val = o
  · have h' : ∀ d : Fin 4, (![0, 0, o, 0] : Fin 4 → ℕ) d ≤ ((ix4 0 0 a t : S1x1x2x512.Idx) d).val
        ∧ ((ix4 0 0 a t : S1x1x2x512.Idx) d).val < (![0, 0, o, 0] : Fin 4 → ℕ) d + S1x1x1x512.size d := by
      intro d
      fin_cases d
      · exact ⟨Nat.le_refl 0, Nat.lt_succ_self 0⟩
      · exact ⟨Nat.le_refl 0, Nat.lt_succ_self 0⟩
      · show o ≤ a.val ∧ a.val < o + 1; omega
      · show 0 ≤ t.val ∧ t.val < 0 + 512; omega
    rw [dif_pos h', if_pos h]
    refine congrArg w (funext fun d => Fin.ext ?_)
    fin_cases d
    · rfl
    · rfl
    · show a.val - o = 0; omega
    · rfl
  · rw [if_neg h, dif_neg]
    intro h'
    have h2 : o ≤ a.val ∧ a.val < o + 1 := h' 2
    exact h (by omega)

/-- A store of head `o`'s half of the pair's scratch, read at an index. -/
theorem put_head (x : S2x512x128.Idx → α) (o : ℕ) (w : S1x512x128.Idx → α) (a : Fin 2) (s : Fin 512) (l : Fin 128) :
    VecWindow.put (s := S2x512x128) x ![o, 0, 0] S1x512x128.size w (ix3 a s l)
      = if a.val = o then w (ix3 0 s l) else x (ix3 a s l) := by
  unfold VecWindow.put
  by_cases h : a.val = o
  · have h' : ∀ d : Fin 3, (![o, 0, 0] : Fin 3 → ℕ) d ≤ ((ix3 a s l : S2x512x128.Idx) d).val
        ∧ ((ix3 a s l : S2x512x128.Idx) d).val < (![o, 0, 0] : Fin 3 → ℕ) d + S1x512x128.size d := by
      intro d
      fin_cases d
      · show o ≤ a.val ∧ a.val < o + 1; omega
      · show 0 ≤ s.val ∧ s.val < 0 + 512; omega
      · show 0 ≤ l.val ∧ l.val < 0 + 128; omega
    rw [dif_pos h', if_pos h]
    refine congrArg w (funext fun d => Fin.ext ?_)
    fin_cases d
    · show a.val - o = 0; omega
    · rfl
    · rfl
  · rw [if_neg h, dif_neg]
    intro h'
    have h2 : o ≤ a.val ∧ a.val < o + 1 := h' 0
    exact h (by omega)

section

variable {sig : RefSig} {κ : Kind} {sp : Space} {e : EltTy} {Val : EltTy → Type}

theorem read_blk (v : View sig κ sp S1x8x128x512 e) (f : v.ty.Contents Val) {off : Fin 4 → ℕ}
    (inb : ∀ a, off a + S1x1x128x512.size a ≤ S1x8x128x512.size a) (b : Fin 8) (h : off = ![0, b.val, 0, 0]) (l : Fin 128) (t : Fin 512) :
    v.readAt Val (Rect.unit (s := S1x8x128x512) off S1x1x128x512.size inb).toLoadRect f (ix4 0 0 l t) = v.read Val f (ix4 0 b l t) := by
  subst h
  refine congrArg (v.read Val f) (funext fun a => Fin.ext ?_)
  fin_cases a
  · rfl
  · rfl
  · show 0 + 1 * l.val = l.val; omega
  · show 0 + 1 * t.val = t.val; omega

theorem read_half (v : View sig κ sp S1x8x128x512 e) (f : v.ty.Contents Val) {off : Fin 4 → ℕ}
    (inb : ∀ a, off a + S1x1x64x512.size a ≤ S1x8x128x512.size a) (b : Fin 8) (o : ℕ) (ho : o + 64 ≤ 128) (h : off = ![0, b.val, o, 0])
    (l : Fin 64) (t : Fin 512) :
    v.readAt Val (Rect.unit (s := S1x8x128x512) off S1x1x64x512.size inb).toLoadRect f (ix4 0 0 l t)
      = v.read Val f (ix4 0 b ⟨o + l.val, by omega⟩ t) := by
  subst h
  refine congrArg (v.read Val f) (funext fun a => Fin.ext ?_)
  fin_cases a
  · rfl
  · rfl
  · show o + 1 * l.val = o + l.val; omega
  · show 0 + 1 * t.val = t.val; omega

theorem read_rowblk (v : View sig κ sp S4096x128 e) (f : v.ty.Contents Val) {off : Fin 2 → ℕ}
    (inb : ∀ a, off a + S512x128.size a ≤ S4096x128.size a) (b : Fin 8) (h : off = ![512 * b.val, 0]) (t : Fin 512) (l : Fin 128) :
    v.readAt Val (Rect.unit (s := S4096x128) off S512x128.size inb).toLoadRect f (ix2 t l)
      = v.read Val f (ix2 ⟨512 * b.val + t.val, by omega⟩ l) := by
  subst h
  refine congrArg (v.read Val f) (funext fun a => Fin.ext ?_)
  fin_cases a
  · show 512 * b.val + 1 * t.val = 512 * b.val + t.val; omega
  · show 0 + 1 * l.val = l.val; omega

theorem read_row (v : View sig κ sp S1x8x2x512 e) (f : v.ty.Contents Val) {off : Fin 4 → ℕ}
    (inb : ∀ a, off a + S1x1x1x512.size a ≤ S1x8x2x512.size a) (b : Fin 8) (o : Fin 2) (h : off = ![0, b.val, o.val, 0]) (t : Fin 512) :
    v.readAt Val (Rect.unit (s := S1x8x2x512) off S1x1x1x512.size inb).toLoadRect f (ix4 0 0 0 t) = v.read Val f (ix4 0 b o t) := by
  subst h
  refine congrArg (v.read Val f) (funext fun a => Fin.ext ?_)
  fin_cases a
  · rfl
  · rfl
  · rfl
  · show 0 + 1 * t.val = t.val; omega

theorem read_head (v : View sig κ sp S2x512x128 e) (f : v.ty.Contents Val) {off : Fin 3 → ℕ}
    (inb : ∀ a, off a + S1x512x128.size a ≤ S2x512x128.size a) (o : Fin 2) (h : off = ![o.val, 0, 0]) (s : Fin 512) (l : Fin 128) :
    v.readAt Val (Rect.unit (s := S2x512x128) off S1x512x128.size inb).toLoadRect f (ix3 0 s l) = v.read Val f (ix3 o s l) := by
  subst h
  refine congrArg (v.read Val f) (funext fun a => Fin.ext ?_)
  fin_cases a
  · rfl
  · show 0 + 1 * s.val = s.val; omega
  · show 0 + 1 * l.val = l.val; omega

end

end Cert.KernelIdeal.Hand
-- ==== Proof.Hand.Trip.lean ====
module

public import proofs.«01_k».proof.Proof.Gen.KernelIdeal.Loops
public import proofs.«01_k».proof.Proof.Hand.Step
public import proofs.«01_k».proof.Proof.Hand.Offs
public import proofs.«01_k».proof.Proof.Hand.Puts

@[expose] public section

set_option maxRecDepth 8192
set_option maxHeartbeats 4000000

noncomputable section

namespace Cert.KernelIdeal.Hand

open Idealize.ShloMosaic Idealize.ShloMosaic.Tactic Cert.KernelIdeal Cert.KernelIdeal.Gen

section

variable (𝒱 : Variants) (c : Dev nD) (bd : Option 𝒱.V) (i : grid0.Coords) (arg2 : Memref sig .tc .vmem S4096x128 .bf16) (harg2 : arg2.IsWhole) (arg3 : Memref sig .tc .vmem S1x8x128x512 .bf16) (harg3 : arg3.IsWhole) (arg4 : Memref sig .tc .vmem S4096x128 .bf16) (harg4 : arg4.IsWhole) (arg5 : Memref sig .tc .vmem S1x8x128x512 .bf16) (harg5 : arg5.IsWhole) (arg6 : Memref sig .tc .vmem S1x1x128x512 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S1x8x2x512 .f32) (harg10 : arg10.IsWhole) (arg11 : Memref sig .tc .vmem S1x8x2x512 .f32) (harg11 : arg11.IsWhole) (arg12 : Memref sig .tc .vmem S1x8x128x512 .f32) (harg12 : arg12.IsWhole) (arg13 : Memref sig .tc .vmem S512x128 .bf16) (harg13 : arg13.IsWhole) (arg14 : Memref sig .tc .vmem S512x128 .bf16) (harg14 : arg14.IsWhole) (arg15 : Memref sig .tc .vmem S1x1x2x512 .f32) (harg15 : arg15.IsWhole) (arg16 : Memref sig .tc .vmem S1x8x2x512 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S2x512x128 .f32) (harg19 : arg19.IsWhole) (arg1 : BitVec 32) (v16 : IVec S128x512 32) (v18 : IVec S512x128 1) (v20 : IVec S512x128 1) (v26 : FVec Ideal S512x128 .bf16) (v28 : FVec Ideal S512x128 .bf16) (v29 : FVec Ideal S64x512 .bf16) (v30 : FVec Ideal S64x512 .bf16) (v32 : FVec Ideal S512x128 .bf16) (v34 : FVec Ideal S512x128 .bf16) (v150 : FVec Ideal S512x512 .bf16) (v179 : FVec Ideal S64x512 .f32) (v193 : BitVec 32) (cst_109 : Ideal .bf16) (cst_110 : Ideal .bf16) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg10 : BufTy.Contents (Elt Ideal) arg10.view.ty) (X_arg11 : BufTy.Contents (Elt Ideal) arg11.view.ty) (k : Fin (k0_t1_loop i).trips) (B : Blk)

/-- The windows a trip loads. -/
theorem trip_win (h2 : arg2.view.read (Elt Ideal) X_arg2 = B.q) (h3 : arg3.view.read (Elt Ideal) X_arg3 = B.qt)
    (h4 : arg4.view.read (Elt Ideal) X_arg4 = B.dob)
    (h5 : arg5.view.read (Elt Ideal) X_arg5 = B.dot) (h10 : arg10.view.read (Elt Ideal) X_arg10 = B.lse)
    (h11 : arg11.view.read (Elt Ideal) X_arg11 = B.dsum) :
    Win B (blk i k)
      (arg3.view.readAt (Elt Ideal) (Rect.unit (s := S1x8x128x512) (k0_off7 i k) S1x1x128x512.size (k0_off7_inb i k)).toLoadRect X_arg3)
      (arg5.view.readAt (Elt Ideal) (Rect.unit (s := S1x8x128x512) (k0_off7 i k) S1x1x128x512.size (k0_off7_inb i k)).toLoadRect X_arg5)
      (arg2.view.readAt (Elt Ideal) (Rect.unit (s := S4096x128) (k0_off8 i k) S512x128.size (k0_off8_inb i k)).toLoadRect X_arg2)
      (arg4.view.readAt (Elt Ideal) (Rect.unit (s := S4096x128) (k0_off8 i k) S512x128.size (k0_off8_inb i k)).toLoadRect X_arg4)
      (arg10.view.readAt (Elt Ideal) (Rect.unit (s := S1x8x2x512) (k0_off9 i k) S1x1x1x512.size (k0_off9_inb i k)).toLoadRect X_arg10)
      (arg10.view.readAt (Elt Ideal) (Rect.unit (s := S1x8x2x512) (k0_off10 i k) S1x1x1x512.size (k0_off10_inb i k)).toLoadRect X_arg10)
      (arg11.view.readAt (Elt Ideal) (Rect.unit (s := S1x8x2x512) (k0_off9 i k) S1x1x1x512.size (k0_off9_inb i k)).toLoadRect X_arg11)
      (arg11.view.readAt (Elt Ideal) (Rect.unit (s := S1x8x2x512) (k0_off10 i k) S1x1x1x512.size (k0_off10_inb i k)).toLoadRect X_arg11) where
  qt l t := (read_blk _ _ _ _ (off7_eq i k) l t).trans (congrFun h3 _)
  dot l t := (read_blk _ _ _ _ (off7_eq i k) l t).trans (congrFun h5 _)
  q t l := (read_rowblk _ _ _ _ (off8_eq i k) t l).trans (congrFun h2 _)
  dob t l := (read_rowblk _ _ _ _ (off8_eq i k) t l).trans (congrFun h4 _)
  l0 t := (read_row _ _ _ _ 0 (off9_eq i k) t).trans (congrFun h10 _)
  l1 t := (read_row _ _ _ _ 1 (off10_eq i k) t).trans (congrFun h10 _)
  d0 t := (read_row _ _ _ _ 0 (off9_eq i k) t).trans (congrFun h11 _)
  d1 t := (read_row _ _ _ _ 1 (off10_eq i k) t).trans (congrFun h11 _)

variable {B} (hc : Ctx B v16 v18 v20 v26 v28 v29 v30 v32 v34 cst_109 cst_110)
    (h2 : arg2.view.read (Elt Ideal) X_arg2 = B.q) (h3 : arg3.view.read (Elt Ideal) X_arg3 = B.qt) (h4 : arg4.view.read (Elt Ideal) X_arg4 = B.dob)
    (h5 : arg5.view.read (Elt Ideal) X_arg5 = B.dot) (h10 : arg10.view.read (Elt Ideal) X_arg10 = B.lse) (h11 : arg11.view.read (Elt Ideal) X_arg11 = B.dsum)
  (f12 : BufTy.Contents (Elt Ideal) arg12.view.ty) (f16 : BufTy.Contents (Elt Ideal) arg16.view.ty) (f17 : BufTy.Contents (Elt Ideal) arg17.view.ty)
  (f18 : BufTy.Contents (Elt Ideal) arg18.view.ty) (f19 : BufTy.Contents (Elt Ideal) arg19.view.ty)

include hc h2 h3 h4 h5 h10 h11

theorem trip17 (s : Fin 512) (l : Fin 128) :
    arg17.view.read (Elt Ideal) (arg17.view.writes (Elt Ideal) f17 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 k).2.2.1 f12 f16 f17 f18 f19)) (ix2 s l)
      = arg17.view.read (Elt Ideal) f17 (ix2 s l) + B.ck (i 1) (blk i k) s l := by
  have hw := trip_win i arg2 arg3 arg4 arg5 arg10 arg11 X_arg2 X_arg3 X_arg4 X_arg5 X_arg10 X_arg11 k B h2 h3 h4 h5 h10 h11
  have hl := lt_blk i k
  unfold trip_k0_t1
  dsimp only
  sl_unfold_words
  refine (congrFun (View.read_writes_full _ _ _ _ _) _).trans ?_
  refine (pay28_apply hc hw hl _ s l).trans ?_
  exact congrArg₂ (· + ·) (congrFun (View.readAt_full _ _ _) _) rfl

theorem trip18 (s : Fin 512) (l : Fin 128) :
    arg18.view.read (Elt Ideal) (arg18.view.writes (Elt Ideal) f18 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 k).2.2.2.1 f12 f16 f17 f18 f19)) (ix2 s l)
      = arg18.view.read (Elt Ideal) f18 (ix2 s l) + B.cv (i 1) (blk i k) s l := by
  have hw := trip_win i arg2 arg3 arg4 arg5 arg10 arg11 X_arg2 X_arg3 X_arg4 X_arg5 X_arg10 X_arg11 k B h2 h3 h4 h5 h10 h11
  have hl := lt_blk i k
  unfold trip_k0_t1
  dsimp only
  sl_unfold_words
  refine (congrFun (View.read_writes_full _ _ _ _ _) _).trans ?_
  refine (pay27_apply hc hw hl _ s l).trans ?_
  exact congrArg₂ (· + ·) (congrFun (View.readAt_full _ _ _) _) rfl

theorem trip12 (i' : Fin 8) (l : Fin 128) (t : Fin 512) :
    arg12.view.read (Elt Ideal) (arg12.view.writes (Elt Ideal) f12 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 k).1 f12 f16 f17 f18 f19)) (ix4 0 i' l t)
      = arg12.view.read (Elt Ideal) f12 (ix4 0 i' l t) + if i' = blk i k then B.cq (i 1) (blk i k) l t else 0 := by
  have hw := trip_win i arg2 arg3 arg4 arg5 arg10 arg11 X_arg2 X_arg3 X_arg4 X_arg5 X_arg10 X_arg11 k B h2 h3 h4 h5 h10 h11
  have hl := lt_blk i k
  by_cases hi : i' = blk i k
  · subst hi
    rw [if_pos rfl]
    by_cases ho : 64 ≤ l.val
    · have e : (⟨64 + (l.val - 64), by omega⟩ : Fin 128) = l := Fin.ext (Nat.add_sub_cancel' ho)
      unfold trip_k0_t1
      dsimp only
      sl_unfold_words
      refine (congrFun (View.read_writes_cons_put _ _ _ _ _ (off12_eq i k)) _).trans ?_
      refine (put_rows _ _ _ _ _ _ _).trans ?_
      refine (dif_pos ⟨rfl, ho, by omega⟩).trans ?_
      refine (pay30_apply hc hw hl _ _ t).trans ?_
      refine congrArg₂ (· + ·) ((read_half _ _ _ _ 64 (by omega) (off12_eq i k) _ t).trans ?_) ?_
      · exact congrArg (fun l => arg12.view.read (Elt Ideal) f12 (ix4 0 (blk i k) l t)) e
      · exact congrArg (fun l => B.cq (i 1) (blk i k) l t) e
    · have e : (⟨0 + (l.val - 0), by omega⟩ : Fin 128) = l := Fin.ext (Nat.zero_add _)
      unfold trip_k0_t1
      dsimp only
      sl_unfold_words
      refine (congrFun (View.read_writes_cons_put _ _ _ _ _ (off12_eq i k)) _).trans ?_
      refine (put_rows _ _ _ _ _ _ _).trans ?_
      refine (dif_neg (fun h => ho h.2.1)).trans ?_
      refine (congrFun (View.read_writes_cons_put _ _ _ _ _ (off11_eq i k)) _).trans ?_
      refine (put_rows _ _ _ _ _ _ _).trans ?_
      refine (dif_pos ⟨rfl, Nat.zero_le _, by omega⟩).trans ?_
      refine (pay29_apply hc hw hl _ _ t).trans ?_
      refine congrArg₂ (· + ·) ((read_half _ _ _ _ 0 (by omega) (off11_eq i k) _ t).trans ?_) rfl
      exact congrArg (fun l => arg12.view.read (Elt Ideal) f12 (ix4 0 (blk i k) l t)) e
  · have hi' : i'.val ≠ (blk i k).val := fun h => hi (Fin.ext h)
    rw [if_neg hi, add_zero]
    unfold trip_k0_t1
    dsimp only
    sl_unfold_words
    refine (congrFun (View.read_writes_cons_put _ _ _ _ _ (off12_eq i k)) _).trans ?_
    refine (put_rows _ _ _ _ _ _ _).trans ?_
    refine (dif_neg (fun h => hi' h.1)).trans ?_
    refine (congrFun (View.read_writes_cons_put _ _ _ _ _ (off11_eq i k)) _).trans ?_
    refine (put_rows _ _ _ _ _ _ _).trans ?_
    exact dif_neg (fun h => hi' h.1)

theorem trip16 (i' : Fin 8) (a : Fin 2) (t : Fin 512) :
    arg16.view.read (Elt Ideal) (arg16.view.writes (Elt Ideal) f16 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 k).2.1 f12 f16 f17 f18 f19)) (ix4 0 i' a t)
      = arg16.view.read (Elt Ideal) f16 (ix4 0 i' a t) + if i' = blk i k then B.cc a (i 1) (blk i k) t else 0 := by
  have hw := trip_win i arg2 arg3 arg4 arg5 arg10 arg11 X_arg2 X_arg3 X_arg4 X_arg5 X_arg10 X_arg11 k B h2 h3 h4 h5 h10 h11
  have hl := lt_blk i k
  by_cases hi : i' = blk i k
  · subst hi
    rw [if_pos rfl]
    obtain rfl | rfl : a = 0 ∨ a = 1 := by omega
    · unfold trip_k0_t1
      dsimp only
      sl_unfold_words
      refine (congrFun (View.read_writes_cons_put _ _ _ _ _ (off10_eq i k)) _).trans ?_
      refine (put_row _ _ _ _ _ _ _).trans ?_
      refine (if_neg (fun h => absurd h.2 (by decide))).trans ?_
      refine (congrFun (View.read_writes_cons_put _ _ _ _ _ (off9_eq i k)) _).trans ?_
      refine (put_row _ _ _ _ _ _ _).trans ?_
      refine (if_pos ⟨rfl, rfl⟩).trans ?_
      refine (pay13_apply hc hw hl _ t).trans ?_
      exact congrArg₂ (· + ·) (read_row _ _ _ _ 0 (off9_eq i k) t) rfl
    · unfold trip_k0_t1
      dsimp only
      sl_unfold_words
      refine (congrFun (View.read_writes_cons_put _ _ _ _ _ (off10_eq i k)) _).trans ?_
      refine (put_row _ _ _ _ _ _ _).trans ?_
      refine (if_pos ⟨rfl, rfl⟩).trans ?_
      refine (pay19_apply hc hw hl _ t).trans ?_
      exact congrArg₂ (· + ·) (read_row _ _ _ _ 1 (off10_eq i k) t) rfl
  · have hi' : i'.val ≠ (blk i k).val := fun h => hi (Fin.ext h)
    rw [if_neg hi, add_zero]
    unfold trip_k0_t1
    dsimp only
    sl_unfold_words
    refine (congrFun (View.read_writes_cons_put _ _ _ _ _ (off10_eq i k)) _).trans ?_
    refine (put_row _ _ _ _ _ _ _).trans ?_
    refine (if_neg (fun h => hi' h.1)).trans ?_
    refine (congrFun (View.read_writes_cons_put _ _ _ _ _ (off9_eq i k)) _).trans ?_
    refine (put_row _ _ _ _ _ _ _).trans ?_
    exact if_neg (fun h => hi' h.1)

theorem trip19 (a : Fin 2) (s : Fin 512) (l : Fin 128) :
    arg19.view.read (Elt Ideal) (arg19.view.writes (Elt Ideal) f19 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 k).2.2.2.2.1 f12 f16 f17 f18 f19)) (ix3 a s l)
      = arg19.view.read (Elt Ideal) f19 (ix3 a s l) + B.cl a (i 1) (blk i k) s l := by
  have hw := trip_win i arg2 arg3 arg4 arg5 arg10 arg11 X_arg2 X_arg3 X_arg4 X_arg5 X_arg10 X_arg11 k B h2 h3 h4 h5 h10 h11
  have hl := lt_blk i k
  unfold trip_k0_t1
  dsimp only
  sl_unfold_words
  refine (congrFun (View.read_writes_cons_put _ _ _ _ _ rfl) _).trans ?_
  refine (put_head _ _ _ _ _ _).trans ?_
  obtain rfl | rfl : a = 0 ∨ a = 1 := by omega
  · refine (if_neg (by decide)).trans ?_
    refine (congrFun (View.read_writes_cons_put _ _ _ _ _ rfl) _).trans ?_
    refine (put_head _ _ _ _ _ _).trans ?_
    refine (if_pos rfl).trans ?_
    refine (pay14_apply hc hw hl _ s l).trans ?_
    exact congrArg₂ (· + ·) (read_head _ _ _ 0 rfl s l) rfl
  · refine (if_pos rfl).trans ?_
    refine (pay20_apply hc hw hl _ s l).trans ?_
    exact congrArg₂ (· + ·) (read_head _ _ _ 1 rfl s l) rfl

end

end Cert.KernelIdeal.Hand
-- ==== Proof.Hand.Loop.lean ====
module

public import proofs.«01_k».proof.Proof.Hand.Trip

@[expose] public section

set_option maxRecDepth 8192
set_option maxHeartbeats 4000000

noncomputable section

namespace Cert.KernelIdeal.Hand

open Idealize.ShloMosaic Idealize.ShloMosaic.Tactic Cert.KernelIdeal Cert.KernelIdeal.Gen

/-- The row blocks after `j` that the first `n` trips take. -/
def taken (j : ℕ) (n : ℕ) : Finset (Fin 8) := Finset.univ.filter fun i => j < i.val ∧ i.val < j + 1 + n

theorem taken_zero (j : ℕ) : taken j 0 = ∅ := by
  ext i
  simp only [taken, Finset.mem_filter, Finset.mem_univ, true_and, Finset.notMem_empty, iff_false]
  omega

theorem sum_taken (j : ℕ) (n : ℕ) (b : Fin 8) (hb : b.val = j + 1 + n) (c : Fin 8 → EReal) :
    ∑ i ∈ taken j (n + 1), c i = (∑ i ∈ taken j n, c i) + c b := by
  have e : taken j (n + 1) = insert b (taken j n) := by
    ext i
    simp only [taken, Finset.mem_filter, Finset.mem_univ, true_and, Finset.mem_insert, Fin.ext_iff]
    omega
  rw [e, Finset.sum_insert, add_comm]
  simp only [taken, Finset.mem_filter, Finset.mem_univ, true_and]
  omega

section

variable (𝒱 : Variants) (c : Dev nD) (bd : Option 𝒱.V) (i : grid0.Coords) (arg2 : Memref sig .tc .vmem S4096x128 .bf16) (harg2 : arg2.IsWhole) (arg3 : Memref sig .tc .vmem S1x8x128x512 .bf16) (harg3 : arg3.IsWhole) (arg4 : Memref sig .tc .vmem S4096x128 .bf16) (harg4 : arg4.IsWhole) (arg5 : Memref sig .tc .vmem S1x8x128x512 .bf16) (harg5 : arg5.IsWhole) (arg6 : Memref sig .tc .vmem S1x1x128x512 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S1x8x2x512 .f32) (harg10 : arg10.IsWhole) (arg11 : Memref sig .tc .vmem S1x8x2x512 .f32) (harg11 : arg11.IsWhole) (arg12 : Memref sig .tc .vmem S1x8x128x512 .f32) (harg12 : arg12.IsWhole) (arg13 : Memref sig .tc .vmem S512x128 .bf16) (harg13 : arg13.IsWhole) (arg14 : Memref sig .tc .vmem S512x128 .bf16) (harg14 : arg14.IsWhole) (arg15 : Memref sig .tc .vmem S1x1x2x512 .f32) (harg15 : arg15.IsWhole) (arg16 : Memref sig .tc .vmem S1x8x2x512 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S2x512x128 .f32) (harg19 : arg19.IsWhole) (arg1 : BitVec 32) (v16 : IVec S128x512 32) (v18 : IVec S512x128 1) (v20 : IVec S512x128 1) (v26 : FVec Ideal S512x128 .bf16) (v28 : FVec Ideal S512x128 .bf16) (v29 : FVec Ideal S64x512 .bf16) (v30 : FVec Ideal S64x512 .bf16) (v32 : FVec Ideal S512x128 .bf16) (v34 : FVec Ideal S512x128 .bf16) (v150 : FVec Ideal S512x512 .bf16) (v179 : FVec Ideal S64x512 .f32) (v193 : BitVec 32) (cst_109 : Ideal .bf16) (cst_110 : Ideal .bf16) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg10 : BufTy.Contents (Elt Ideal) arg10.view.ty) (X_arg11 : BufTy.Contents (Elt Ideal) arg11.view.ty)  {B : Blk} (hc : Ctx B v16 v18 v20 v26 v28 v29 v30 v32 v34 cst_109 cst_110)
    (h2 : arg2.view.read (Elt Ideal) X_arg2 = B.q) (h3 : arg3.view.read (Elt Ideal) X_arg3 = B.qt) (h4 : arg4.view.read (Elt Ideal) X_arg4 = B.dob)
    (h5 : arg5.view.read (Elt Ideal) X_arg5 = B.dot) (h10 : arg10.view.read (Elt Ideal) X_arg10 = B.lse) (h11 : arg11.view.read (Elt Ideal) X_arg11 = B.dsum)
  (f12 : BufTy.Contents (Elt Ideal) arg12.view.ty) (f16 : BufTy.Contents (Elt Ideal) arg16.view.ty) (f17 : BufTy.Contents (Elt Ideal) arg17.view.ty)
  (f18 : BufTy.Contents (Elt Ideal) arg18.view.ty) (f19 : BufTy.Contents (Elt Ideal) arg19.view.ty)

include hc h2 h3 h4 h5 h10 h11

theorem loop17 (s : Fin 512) (l : Fin 128) (n : ℕ) (hn : n ≤ (k0_t1_loop i).trips) :
    arg17.view.read (Elt Ideal) (arg17.view.writes (Elt Ideal) f17 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 f12 f16 f17 f18 f19 n).2.2.1) (ix2 s l)
      = arg17.view.read (Elt Ideal) f17 (ix2 s l) + ∑ i' ∈ taken (i 1).val n, B.ck (i 1) i' s l := by
  induction n with
  | zero => rw [pb_k0_t1.eq_1, taken_zero, Finset.sum_empty, add_zero]; rfl
  | succ n ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 f12 f16 f17 f18 f19 ⟨n, hn⟩
    dsimp only at e
    rw [e]
    dsimp only
    rw [View.writes_append, sum_taken _ _ (blk i ⟨n, hn⟩) rfl, ← add_assoc, ← ih (Nat.le_of_succ_le hn)]
    exact trip17 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 ⟨n, hn⟩ hc h2 h3 h4 h5 h10 h11 _ _ _ _ _ s l

theorem loop18 (s : Fin 512) (l : Fin 128) (n : ℕ) (hn : n ≤ (k0_t1_loop i).trips) :
    arg18.view.read (Elt Ideal) (arg18.view.writes (Elt Ideal) f18 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 f12 f16 f17 f18 f19 n).2.2.2.1) (ix2 s l)
      = arg18.view.read (Elt Ideal) f18 (ix2 s l) + ∑ i' ∈ taken (i 1).val n, B.cv (i 1) i' s l := by
  induction n with
  | zero => rw [pb_k0_t1.eq_1, taken_zero, Finset.sum_empty, add_zero]; rfl
  | succ n ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 f12 f16 f17 f18 f19 ⟨n, hn⟩
    dsimp only at e
    rw [e]
    dsimp only
    rw [View.writes_append, sum_taken _ _ (blk i ⟨n, hn⟩) rfl, ← add_assoc, ← ih (Nat.le_of_succ_le hn)]
    exact trip18 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 ⟨n, hn⟩ hc h2 h3 h4 h5 h10 h11 _ _ _ _ _ s l

theorem loop19 (a : Fin 2) (s : Fin 512) (l : Fin 128) (n : ℕ) (hn : n ≤ (k0_t1_loop i).trips) :
    arg19.view.read (Elt Ideal) (arg19.view.writes (Elt Ideal) f19 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 f12 f16 f17 f18 f19 n).2.2.2.2) (ix3 a s l)
      = arg19.view.read (Elt Ideal) f19 (ix3 a s l) + ∑ i' ∈ taken (i 1).val n, B.cl a (i 1) i' s l := by
  induction n with
  | zero => rw [pb_k0_t1.eq_1, taken_zero, Finset.sum_empty, add_zero]; rfl
  | succ n ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 f12 f16 f17 f18 f19 ⟨n, hn⟩
    dsimp only at e
    rw [e]
    dsimp only
    rw [View.writes_append, sum_taken _ _ (blk i ⟨n, hn⟩) rfl, ← add_assoc, ← ih (Nat.le_of_succ_le hn)]
    exact trip19 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 ⟨n, hn⟩ hc h2 h3 h4 h5 h10 h11 _ _ _ _ _ a s l

theorem loop12 (i' : Fin 8) (l : Fin 128) (t : Fin 512) (n : ℕ) (hn : n ≤ (k0_t1_loop i).trips) :
    arg12.view.read (Elt Ideal) (arg12.view.writes (Elt Ideal) f12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 f12 f16 f17 f18 f19 n).1) (ix4 0 i' l t)
      = arg12.view.read (Elt Ideal) f12 (ix4 0 i' l t) + if i' ∈ taken (i 1).val n then B.cq (i 1) i' l t else 0 := by
  induction n with
  | zero => rw [pb_k0_t1.eq_1, taken_zero, if_neg (Finset.notMem_empty _), add_zero]; rfl
  | succ n ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 f12 f16 f17 f18 f19 ⟨n, hn⟩
    dsimp only at e
    rw [e]
    dsimp only
    rw [View.writes_append]
    refine (trip12 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 ⟨n, hn⟩ hc h2 h3 h4 h5 h10 h11 _ _ _ _ _ i' l t).trans ?_
    rw [ih (Nat.le_of_succ_le hn), add_assoc]
    refine congrArg _ ?_
    by_cases h : i' = blk i ⟨n, hn⟩
    · have hv : i'.val = (i 1).val + 1 + n := congrArg Fin.val h
      rw [if_neg (by simp only [taken, Finset.mem_filter]; omega), if_pos h, zero_add, if_pos, ← h]
      simp only [taken, Finset.mem_filter, Finset.mem_univ, true_and]; omega
    · have hv : i'.val ≠ (i 1).val + 1 + n := fun hh => h (Fin.ext hh)
      rw [if_neg h, add_zero]
      refine if_congr ?_ rfl rfl
      simp only [taken, Finset.mem_filter, Finset.mem_univ, true_and]; omega

theorem loop16 (i' : Fin 8) (a : Fin 2) (t : Fin 512) (n : ℕ) (hn : n ≤ (k0_t1_loop i).trips) :
    arg16.view.read (Elt Ideal) (arg16.view.writes (Elt Ideal) f16 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 f12 f16 f17 f18 f19 n).2.1) (ix4 0 i' a t)
      = arg16.view.read (Elt Ideal) f16 (ix4 0 i' a t) + if i' ∈ taken (i 1).val n then B.cc a (i 1) i' t else 0 := by
  induction n with
  | zero => rw [pb_k0_t1.eq_1, taken_zero, if_neg (Finset.notMem_empty _), add_zero]; rfl
  | succ n ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 f12 f16 f17 f18 f19 ⟨n, hn⟩
    dsimp only at e
    rw [e]
    dsimp only
    rw [View.writes_append]
    refine (trip16 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 ⟨n, hn⟩ hc h2 h3 h4 h5 h10 h11 _ _ _ _ _ i' a t).trans ?_
    rw [ih (Nat.le_of_succ_le hn), add_assoc]
    refine congrArg _ ?_
    by_cases h : i' = blk i ⟨n, hn⟩
    · have hv : i'.val = (i 1).val + 1 + n := congrArg Fin.val h
      rw [if_neg (by simp only [taken, Finset.mem_filter]; omega), if_pos h, zero_add, if_pos, ← h]
      simp only [taken, Finset.mem_filter, Finset.mem_univ, true_and]; omega
    · have hv : i'.val ≠ (i 1).val + 1 + n := fun hh => h (Fin.ext hh)
      rw [if_neg h, add_zero]
      refine if_congr ?_ rfl rfl
      simp only [taken, Finset.mem_filter, Finset.mem_univ, true_and]; omega

end

end Cert.KernelIdeal.Hand
-- ==== Proof.Hand.Diag.lean ====
module

public import proofs.«01_k».proof.Proof.Hand.Loop
public import Idealize.ShloMosaic.Lib.IdealHost

@[expose] public section

set_option maxRecDepth 8192
set_option maxHeartbeats 4000000

noncomputable section

namespace Cert.KernelIdeal.Hand

open Idealize.ShloMosaic Idealize.ShloMosaic.Tactic Cert.KernelIdeal Cert.KernelIdeal.Gen

/-- The row blocks from `j` on. -/
def later (j : ℕ) : Finset (Fin 8) := Finset.univ.filter fun i => j ≤ i.val

theorem mem_taken (i : grid0.Coords) (b : Fin 8) : b ∈ taken (i 1).val (k0_t1_loop i).trips ↔ (i 1).val < b.val := by
  have := b.isLt
  rw [trips_t1]
  simp only [taken, Finset.mem_filter, Finset.mem_univ, true_and]
  omega

theorem sum_later_aux (j : Fin 8) (c : Fin 8 → EReal) :
    c j + ∑ b ∈ taken j.val (7 - j.val), c b = ∑ b ∈ later j.val, c b := by
  have e : later j.val = insert j (taken j.val (7 - j.val)) := by
    ext b
    have := b.isLt
    simp only [later, taken, Finset.mem_filter, Finset.mem_univ, true_and, Finset.mem_insert, Fin.ext_iff]
    omega
  rw [e, Finset.sum_insert]
  simp only [taken, Finset.mem_filter, Finset.mem_univ, true_and]
  omega

theorem sum_later (i : grid0.Coords) (c : Fin 8 → EReal) :
    c (i 1) + ∑ b ∈ taken (i 1).val (k0_t1_loop i).trips, c b = ∑ b ∈ later (i 1).val, c b := by
  rw [trips_t1]
  exact sum_later_aux (i 1) c

theorem join_later (i : grid0.Coords) (b : Fin 8) (x z C : EReal) (C' : EReal) (hC : b.val = (i 1).val → C' = C)
    (h : x = z + if b.val = (i 1).val then C' else 0) :
    x + (if b ∈ taken (i 1).val (k0_t1_loop i).trips then C else 0) = z + if (i 1).val ≤ b.val then C else 0 := by
  rw [h, add_assoc]
  refine congrArg _ ?_
  by_cases e : b.val = (i 1).val
  · rw [if_pos e, if_neg, if_pos e.ge, add_zero, hC e]
    rw [mem_taken, e]; exact lt_irrefl _
  · rw [if_neg e, zero_add]
    refine if_congr ((mem_taken i b).trans ?_) rfl rfl
    omega

theorem trips_t2' (i : grid0.Coords) : Scf.trips (k0_t2_loop i).lb (k0_t2_loop i).ub (k0_t2_loop i).st = 0 := trips_t2 i

theorem zero59 (x : S1x8x128x512.Idx) : (k0_pay59 (F := Ideal)) x = (0 : EReal) := by
  show (Scalar.ofBits (F := Ideal) .f32 0x00000000#32 : EReal) = 0
  pointwise []
theorem zero60 (x : S1x8x2x512.Idx) : (k0_pay60 (F := Ideal)) x = (0 : EReal) := by
  show (Scalar.ofBits (F := Ideal) .f32 0x00000000#32 : EReal) = 0
  pointwise []
theorem zero61 (x : S512x128.Idx) : (k0_pay61 (F := Ideal)) x = (0 : EReal) := by
  show (Scalar.ofBits (F := Ideal) .f32 0x00000000#32 : EReal) = 0
  pointwise []
theorem zero62 (x : S512x128.Idx) : (k0_pay62 (F := Ideal)) x = (0 : EReal) := by
  show (Scalar.ofBits (F := Ideal) .f32 0x00000000#32 : EReal) = 0
  pointwise []
theorem zero63 (x : S2x512x128.Idx) : (k0_pay63 (F := Ideal)) x = (0 : EReal) := by
  show (Scalar.ofBits (F := Ideal) .f32 0x00000000#32 : EReal) = 0
  pointwise []

theorem pay99_apply (x : Vec Ideal S512x128 .f32) (s : Fin 512) (l : Fin 128) : k0_pay99 x (ix2 s l) = x (ix2 s l) := by
  pointwise [k0_pay99]
theorem pay100_apply (x : Vec Ideal S512x128 .f32) (s : Fin 512) (l : Fin 128) : k0_pay100 x (ix2 s l) = x (ix2 s l) := by
  pointwise [k0_pay100]

theorem neg_one_word : (Scalar.ofBits .bf16 0xBF80#16 : Ideal .bf16) = (-1 : EReal) :=
  Ideal.ofBits_neg_one_bf16.trans (by simp)

theorem zero_word : (Scalar.ofBits .bf16 0x0000#16 : Ideal .bf16) = (0 : EReal) := by
  pointwise []

theorem pay64_apply (s : Fin 512) (l : Fin 128) : k0_pay64 (ix2 s l) = BitVec.ofBool (decide (hd l = 0)) := by
  pointwise [k0_pay64]
  rw [cmp_slt (by omega) (by omega)]
  exact congrArg _ (decide_eq_decide.2 (hd_zero l).symm)

theorem pay65_apply (s : Fin 512) (l : Fin 128) : k0_pay65 (ix2 s l) = BitVec.ofBool (decide (hd l = 1)) := by
  pointwise [k0_pay65]
  rw [cmp_sge (by omega) (by omega)]
  exact congrArg _ (decide_eq_decide.2 (hd_one l).symm)

/-- What is bound before the step, from the blocks loaded. -/
theorem ctx (B : Blk) (v21 v31 v33 : Vec Ideal S512x128 .bf16) (v23 : Vec Ideal S1x1x128x512 .bf16)
    (h21 : v21 = B.v) (h23 : v23 = B.kt) (h31 : v31 = B.ka) (h33 : v33 = B.kb) :
    Ctx B (iota .tc S128x512 32 [0] iota_S128x512_d0_w32) k0_pay64 k0_pay65 (k0_pay68 v21) (k0_pay69 v21) (k0_pay70 v23) (k0_pay71 v23)
      (k0_pay72 v31) (k0_pay73 v33) (Scalar.ofBits .bf16 0xBF80#16) (Scalar.ofBits .bf16 0x0000#16) where
  h16 l t := by pointwise []
  h18 := pay64_apply
  h20 := pay65_apply
  h26 s l := by
    pointwise [k0_pay68, k0_pay66]
    rw [pay64_apply, select_ofBool, h21]
  h28 s l := by
    pointwise [k0_pay69, k0_pay66]
    rw [pay65_apply, select_ofBool, h21]
  h29 r s := by
    subst h23
    pointwise [k0_pay70, k0_pay67]
  h30 r s := by
    subst h23
    pointwise [k0_pay71, k0_pay67]
  h32 s l := by
    subst h31
    pointwise [k0_pay72]
  h34 s l := by
    subst h33
    pointwise [k0_pay73]
  h109 := neg_one_word
  h110 := zero_word

section

variable {𝒱 : Variants} {c : Dev nD} {bd : Option 𝒱.V} {i : grid0.Coords} {arg2 : Memref sig .tc .vmem S4096x128 .bf16} {harg2 : arg2.IsWhole} {arg3 : Memref sig .tc .vmem S1x8x128x512 .bf16} {harg3 : arg3.IsWhole} {arg4 : Memref sig .tc .vmem S4096x128 .bf16} {harg4 : arg4.IsWhole} {arg5 : Memref sig .tc .vmem S1x8x128x512 .bf16} {harg5 : arg5.IsWhole} {arg6 : Memref sig .tc .vmem S1x1x128x512 .bf16} {harg6 : arg6.IsWhole} {arg7 : Memref sig .tc .vmem S512x128 .bf16} {harg7 : arg7.IsWhole} {arg8 : Memref sig .tc .vmem S512x128 .bf16} {harg8 : arg8.IsWhole} {arg9 : Memref sig .tc .vmem S512x128 .bf16} {harg9 : arg9.IsWhole} {arg10 : Memref sig .tc .vmem S1x8x2x512 .f32} {harg10 : arg10.IsWhole} {arg11 : Memref sig .tc .vmem S1x8x2x512 .f32} {harg11 : arg11.IsWhole} {arg12 : Memref sig .tc .vmem S1x8x128x512 .f32} {harg12 : arg12.IsWhole} {arg13 : Memref sig .tc .vmem S512x128 .bf16} {harg13 : arg13.IsWhole} {arg14 : Memref sig .tc .vmem S512x128 .bf16} {harg14 : arg14.IsWhole} {arg15 : Memref sig .tc .vmem S1x1x2x512 .f32} {harg15 : arg15.IsWhole} {arg16 : Memref sig .tc .vmem S1x8x2x512 .f32} {harg16 : arg16.IsWhole} {arg17 : Memref sig .tc .vmem S512x128 .f32} {harg17 : arg17.IsWhole} {arg18 : Memref sig .tc .vmem S512x128 .f32} {harg18 : arg18.IsWhole} {arg19 : Memref sig .tc .vmem S2x512x128 .f32} {harg19 : arg19.IsWhole} {arg1 : BitVec 32} {v16 : IVec S128x512 32} {v18 : IVec S512x128 1} {v20 : IVec S512x128 1} {v26 : FVec Ideal S512x128 .bf16} {v28 : FVec Ideal S512x128 .bf16} {v29 : FVec Ideal S64x512 .bf16} {v30 : FVec Ideal S64x512 .bf16} {v32 : FVec Ideal S512x128 .bf16} {v34 : FVec Ideal S512x128 .bf16} {v150 : FVec Ideal S512x512 .bf16} {v179 : FVec Ideal S64x512 .f32} {v193 : BitVec 32} {cst_109 : Ideal .bf16} {cst_110 : Ideal .bf16} {X_arg2 : BufTy.Contents (Elt Ideal) arg2.view.ty} {X_arg3 : BufTy.Contents (Elt Ideal) arg3.view.ty} {X_arg4 : BufTy.Contents (Elt Ideal) arg4.view.ty} {X_arg5 : BufTy.Contents (Elt Ideal) arg5.view.ty} {X_arg10 : BufTy.Contents (Elt Ideal) arg10.view.ty} {X_arg11 : BufTy.Contents (Elt Ideal) arg11.view.ty}  {B : Blk} (hc : Ctx B v16 v18 v20 v26 v28 v29 v30 v32 v34 cst_109 cst_110)
    (h2 : arg2.view.read (Elt Ideal) X_arg2 = B.q) (h3 : arg3.view.read (Elt Ideal) X_arg3 = B.qt) (h4 : arg4.view.read (Elt Ideal) X_arg4 = B.dob)
    (h5 : arg5.view.read (Elt Ideal) X_arg5 = B.dot) (h10 : arg10.view.read (Elt Ideal) X_arg10 = B.lse) (h11 : arg11.view.read (Elt Ideal) X_arg11 = B.dsum)
  {f12 : BufTy.Contents (Elt Ideal) arg12.view.ty} {f16 : BufTy.Contents (Elt Ideal) arg16.view.ty} {f17 : BufTy.Contents (Elt Ideal) arg17.view.ty}
  {f18 : BufTy.Contents (Elt Ideal) arg18.view.ty} {f19 : BufTy.Contents (Elt Ideal) arg19.view.ty}

include hc h2 h3 h4 h5 h10 h11

theorem fin17 {Lz D : List (View.Piece (Elt Ideal) S512x128 .f32)} (hz : Lz = []) (s : Fin 512) (l : Fin 128)
    (hd : arg17.view.read (Elt Ideal) (arg17.view.writes (Elt Ideal) f17 D) (ix2 s l) = B.ck (i 1) (i 1) s l) :
    arg17.view.read (Elt Ideal) (arg17.view.writes (Elt Ideal) f17 (Lz ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 f12 f16 (arg17.view.writes (Elt Ideal) f17 D) f18 f19 (Scf.trips (k0_t1_loop i).lb (k0_t1_loop i).ub (k0_t1_loop i).st)).2.2.1 ++ D))) (ix2 s l)
      = ∑ i' ∈ later (i 1).val, B.ck (i 1) i' s l := by
  subst hz
  rw [List.nil_append, View.writes_append]
  refine (loop17 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 hc h2 h3 h4 h5 h10 h11 f12 f16 (arg17.view.writes (Elt Ideal) f17 D) f18 f19 s l _ le_rfl).trans ?_
  rw [hd]
  exact sum_later i (fun i' => B.ck (i 1) i' s l)

theorem fin18 {Lz D : List (View.Piece (Elt Ideal) S512x128 .f32)} (hz : Lz = []) (s : Fin 512) (l : Fin 128)
    (hd : arg18.view.read (Elt Ideal) (arg18.view.writes (Elt Ideal) f18 D) (ix2 s l) = B.cv (i 1) (i 1) s l) :
    arg18.view.read (Elt Ideal) (arg18.view.writes (Elt Ideal) f18 (Lz ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 f12 f16 f17 (arg18.view.writes (Elt Ideal) f18 D) f19 (Scf.trips (k0_t1_loop i).lb (k0_t1_loop i).ub (k0_t1_loop i).st)).2.2.2.1 ++ D))) (ix2 s l)
      = ∑ i' ∈ later (i 1).val, B.cv (i 1) i' s l := by
  subst hz
  rw [List.nil_append, View.writes_append]
  refine (loop18 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 hc h2 h3 h4 h5 h10 h11 f12 f16 f17 (arg18.view.writes (Elt Ideal) f18 D) f19 s l _ le_rfl).trans ?_
  rw [hd]
  exact sum_later i (fun i' => B.cv (i 1) i' s l)

theorem fin19 {Lz D : List (View.Piece (Elt Ideal) S2x512x128 .f32)} (hz : Lz = []) (a : Fin 2) (s : Fin 512) (l : Fin 128)
    (hd : arg19.view.read (Elt Ideal) (arg19.view.writes (Elt Ideal) f19 D) (ix3 a s l) = B.cl a (i 1) (i 1) s l) :
    arg19.view.read (Elt Ideal) (arg19.view.writes (Elt Ideal) f19 (Lz ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 f12 f16 f17 f18 (arg19.view.writes (Elt Ideal) f19 D) (Scf.trips (k0_t1_loop i).lb (k0_t1_loop i).ub (k0_t1_loop i).st)).2.2.2.2 ++ D))) (ix3 a s l)
      = ∑ i' ∈ later (i 1).val, B.cl a (i 1) i' s l := by
  subst hz
  rw [List.nil_append, View.writes_append]
  refine (loop19 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 hc h2 h3 h4 h5 h10 h11 f12 f16 f17 f18 (arg19.view.writes (Elt Ideal) f19 D) a s l _ le_rfl).trans ?_
  rw [hd]
  exact sum_later i (fun i' => B.cl a (i 1) i' s l)

theorem fin12 {Lz D : List (View.Piece (Elt Ideal) S1x8x128x512 .f32)} (hz : Lz = []) (i' : Fin 8) (l : Fin 128) (t : Fin 512) (z : EReal)
    (hd : arg12.view.read (Elt Ideal) (arg12.view.writes (Elt Ideal) f12 D) (ix4 0 i' l t) = z + if i'.val = (i 1).val then B.cq (i 1) (i 1) l t else 0) :
    arg12.view.read (Elt Ideal) (arg12.view.writes (Elt Ideal) f12 (Lz ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 (arg12.view.writes (Elt Ideal) f12 D) f16 f17 f18 f19 (Scf.trips (k0_t1_loop i).lb (k0_t1_loop i).ub (k0_t1_loop i).st)).1 ++ D))) (ix4 0 i' l t)
      = z + if (i 1).val ≤ i'.val then B.cq (i 1) i' l t else 0 := by
  subst hz
  rw [List.nil_append, View.writes_append]
  refine (loop12 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 hc h2 h3 h4 h5 h10 h11 (arg12.view.writes (Elt Ideal) f12 D) f16 f17 f18 f19 i' l t _ le_rfl).trans ?_
  exact join_later i i' _ z _ _ (fun e => by rw [show i' = i 1 from Fin.ext e]) hd

theorem fin16 {Lz D : List (View.Piece (Elt Ideal) S1x8x2x512 .f32)} (hz : Lz = []) (i' : Fin 8) (a : Fin 2) (t : Fin 512) (z : EReal)
    (hd : arg16.view.read (Elt Ideal) (arg16.view.writes (Elt Ideal) f16 D) (ix4 0 i' a t) = z + if i'.val = (i 1).val then B.cc a (i 1) (i 1) t else 0) :
    arg16.view.read (Elt Ideal) (arg16.view.writes (Elt Ideal) f16 (Lz ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 f12 (arg16.view.writes (Elt Ideal) f16 D) f17 f18 f19 (Scf.trips (k0_t1_loop i).lb (k0_t1_loop i).ub (k0_t1_loop i).st)).2.1 ++ D))) (ix4 0 i' a t)
      = z + if (i 1).val ≤ i'.val then B.cc a (i 1) i' t else 0 := by
  subst hz
  rw [List.nil_append, View.writes_append]
  refine (loop16 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v16 v18 v20 v26 v28 v29 v30 v32 v34 v150 v179 v193 cst_109 cst_110 X_arg2 X_arg3 X_arg4 X_arg5 X_arg10 X_arg11 hc h2 h3 h4 h5 h10 h11 f12 (arg16.view.writes (Elt Ideal) f16 D) f17 f18 f19 i' a t _ le_rfl).trans ?_
  exact join_later i i' _ z _ _ (fun e => by rw [show i' = i 1 from Fin.ext e]) hd

end

section

variable {i : grid0.Coords} {B : Blk} {v16 : IVec S128x512 32} {v18 v20 : IVec S512x128 1} {v26 v28 : FVec Ideal S512x128 .bf16}
  {v29 v30 : FVec Ideal S64x512 .bf16} {v31 v33 : Vec Ideal S512x128 .bf16}
  {qt dot : Vec Ideal S1x1x128x512 .bf16} {q dob : Vec Ideal S512x128 .bf16} {l0 l1 d0 d1 : Vec Ideal S1x1x1x512 .f32}
  {v35 v36 : IVec S512x512 32}
  (hc : Ctx B v16 v18 v20 v26 v28 v29 v30 (k0_pay72 v31) (k0_pay73 v33) (Scalar.ofBits .bf16 0xBF80#16) (Scalar.ofBits .bf16 0x0000#16))
  (hw : Win B (i 1) qt dot q dob l0 l1 d0 d1)
  (h35 : ∀ s t, v35 (ix2 s t) = BitVec.ofNat 32 s.val) (h36 : ∀ s t, v36 (ix2 s t) = BitVec.ofNat 32 t.val)

/-- The windows of the diagonal step. -/
theorem diag_win {arg2 : Memref sig .tc .vmem S4096x128 .bf16} {arg3 : Memref sig .tc .vmem S1x8x128x512 .bf16}
    {arg4 : Memref sig .tc .vmem S4096x128 .bf16} {arg5 : Memref sig .tc .vmem S1x8x128x512 .bf16}
    {arg10 : Memref sig .tc .vmem S1x8x2x512 .f32} {arg11 : Memref sig .tc .vmem S1x8x2x512 .f32}
    {X_arg2 : BufTy.Contents (Elt Ideal) arg2.view.ty} {X_arg3 : BufTy.Contents (Elt Ideal) arg3.view.ty}
    {X_arg4 : BufTy.Contents (Elt Ideal) arg4.view.ty} {X_arg5 : BufTy.Contents (Elt Ideal) arg5.view.ty}
    {X_arg10 : BufTy.Contents (Elt Ideal) arg10.view.ty} {X_arg11 : BufTy.Contents (Elt Ideal) arg11.view.ty}
    (h2 : arg2.view.read (Elt Ideal) X_arg2 = B.q) (h3 : arg3.view.read (Elt Ideal) X_arg3 = B.qt)
    (h4 : arg4.view.read (Elt Ideal) X_arg4 = B.dob)
    (h5 : arg5.view.read (Elt Ideal) X_arg5 = B.dot) (h10 : arg10.view.read (Elt Ideal) X_arg10 = B.lse)
    (h11 : arg11.view.read (Elt Ideal) X_arg11 = B.dsum) :
    Win B (i 1)
      (arg3.view.readAt (Elt Ideal) (Rect.unit (s := S1x8x128x512) (k0_off1 i) S1x1x128x512.size (k0_off1_inb i)).toLoadRect X_arg3)
      (arg5.view.readAt (Elt Ideal) (Rect.unit (s := S1x8x128x512) (k0_off1 i) S1x1x128x512.size (k0_off1_inb i)).toLoadRect X_arg5)
      (arg2.view.readAt (Elt Ideal) (Rect.unit (s := S4096x128) (k0_off2 i) S512x128.size (k0_off2_inb i)).toLoadRect X_arg2)
      (arg4.view.readAt (Elt Ideal) (Rect.unit (s := S4096x128) (k0_off2 i) S512x128.size (k0_off2_inb i)).toLoadRect X_arg4)
      (arg10.view.readAt (Elt Ideal) (Rect.unit (s := S1x8x2x512) (k0_off3 i) S1x1x1x512.size (k0_off3_inb i)).toLoadRect X_arg10)
      (arg10.view.readAt (Elt Ideal) (Rect.unit (s := S1x8x2x512) (k0_off4 i) S1x1x1x512.size (k0_off4_inb i)).toLoadRect X_arg10)
      (arg11.view.readAt (Elt Ideal) (Rect.unit (s := S1x8x2x512) (k0_off3 i) S1x1x1x512.size (k0_off3_inb i)).toLoadRect X_arg11)
      (arg11.view.readAt (Elt Ideal) (Rect.unit (s := S1x8x2x512) (k0_off4 i) S1x1x1x512.size (k0_off4_inb i)).toLoadRect X_arg11) where
  qt l t := (read_blk _ _ _ (i 1) (off1_eq i) l t).trans (congrFun h3 _)
  dot l t := (read_blk _ _ _ (i 1) (off1_eq i) l t).trans (congrFun h5 _)
  q t l := (read_rowblk _ _ _ (i 1) (off2_eq i) t l).trans (congrFun h2 _)
  dob t l := (read_rowblk _ _ _ (i 1) (off2_eq i) t l).trans (congrFun h4 _)
  l0 t := (read_row _ _ _ (i 1) 0 (off3_eq i) t).trans (congrFun h10 _)
  l1 t := (read_row _ _ _ (i 1) 1 (off4_eq i) t).trans (congrFun h10 _)
  d0 t := (read_row _ _ _ (i 1) 0 (off3_eq i) t).trans (congrFun h11 _)
  d1 t := (read_row _ _ _ (i 1) 1 (off4_eq i) t).trans (congrFun h11 _)

include hc hw h35 h36

theorem diag16 {v : View sig .tc .vmem S1x8x2x512 .f32} {f : v.ty.Contents (Elt Ideal)} {D0 : List (View.Piece (Elt Ideal) S1x8x2x512 .f32)}
    (z : Fin 8 → Fin 2 → Fin 512 → EReal) {x0 x1 : Vec Ideal S1x1x1x512 .f32}
    (hz : ∀ i' a t, v.read (Elt Ideal) (v.writes (Elt Ideal) f D0) (ix4 0 i' a t) = z i' a t)
    (hx0 : ∀ t, x0 (ix4 0 0 0 t) = z (i 1) 0 t) (hx1 : ∀ t, x1 (ix4 0 0 0 t) = z (i 1) 1 t)
    (i' : Fin 8) (a : Fin 2) (t : Fin 512) :
    v.read (Elt Ideal) (v.writes (Elt Ideal) f
      (⟨Rect.unit (s := S1x8x2x512) (k0_off4 i) S1x1x1x512.size (k0_off4_inb i), k0_pay90 v35 v36 (k0_pay79 v16 v33 qt) (k0_pay80 v28 (k0_pay75 dot)) l1 d1 x1⟩
        :: ⟨Rect.unit (s := S1x8x2x512) (k0_off3 i) S1x1x1x512.size (k0_off3_inb i), k0_pay83 v26 v35 v36 (k0_pay75 dot) (k0_pay78 v16 v31 qt) l0 d0 x0⟩ :: D0)) (ix4 0 i' a t)
      = z i' a t + if i'.val = (i 1).val then B.cc a (i 1) (i 1) t else 0 := by
  refine (congrFun (View.read_writes_cons_put _ _ _ _ _ (off4_eq i)) _).trans ?_
  refine (put_row _ _ _ _ _ _ _).trans ?_
  by_cases hi : i'.val = (i 1).val
  · obtain rfl : i' = i 1 := Fin.ext hi
    refine Eq.trans ?_ (congrArg (z _ _ _ + ·) (if_pos rfl).symm)
    obtain rfl | rfl : a = 0 ∨ a = 1 := by omega
    · refine (if_neg (fun h => absurd h.2 (by decide))).trans ?_
      refine (congrFun (View.read_writes_cons_put _ _ _ _ _ (off3_eq i)) _).trans ?_
      refine (put_row _ _ _ _ _ _ _).trans ?_
      refine (if_pos ⟨rfl, rfl⟩).trans ?_
      rw [← hx0]
      exact pay83_apply hc hw h35 h36 _ t
    · refine (if_pos ⟨rfl, rfl⟩).trans ?_
      rw [← hx1]
      exact pay90_apply hc hw h35 h36 _ t
  · have hi' := hi
    rw [if_neg hi, add_zero]
    refine (if_neg (fun h => hi' h.1)).trans ?_
    refine (congrFun (View.read_writes_cons_put _ _ _ _ _ (off3_eq i)) _).trans ?_
    refine (put_row _ _ _ _ _ _ _).trans ?_
    exact (if_neg (fun h => hi' h.1)).trans (hz _ _ _)

theorem diag12 {v : View sig .tc .vmem S1x8x128x512 .f32} {f : v.ty.Contents (Elt Ideal)} {D0 : List (View.Piece (Elt Ideal) S1x8x128x512 .f32)}
    (z : Fin 8 → Fin 128 → Fin 512 → EReal) {x0 x1 : Vec Ideal S1x1x64x512 .f32}
    (hz : ∀ i' l t, v.read (Elt Ideal) (v.writes (Elt Ideal) f D0) (ix4 0 i' l t) = z i' l t)
    (hx0 : ∀ r t, x0 (ix4 0 0 r t) = z (i 1) ⟨0 + r.val, by omega⟩ t) (hx1 : ∀ r t, x1 (ix4 0 0 r t) = z (i 1) ⟨64 + r.val, by omega⟩ t)
    (i' : Fin 8) (l : Fin 128) (t : Fin 512) :
    v.read (Elt Ideal) (v.writes (Elt Ideal) f
      (⟨Rect.unit (s := S1x8x128x512) (k0_off6 i) S1x1x64x512.size (k0_off6_inb i), k0_pay98 v30 (k0_pay93 (k0_pay89 v35 v36 (k0_pay79 v16 v33 qt) (k0_pay80 v28 (k0_pay75 dot)) l1 d1)) x1⟩
        :: ⟨Rect.unit (s := S1x8x128x512) (k0_off5 i) S1x1x64x512.size (k0_off5_inb i), k0_pay97 (k0_pay96 v29 (k0_pay87 (k0_pay82 v26 v35 v36 (k0_pay75 dot) (k0_pay78 v16 v31 qt) l0 d0)) x0)⟩ :: D0)) (ix4 0 i' l t)
      = z i' l t + if i'.val = (i 1).val then B.cq (i 1) (i 1) l t else 0 := by
  refine (congrFun (View.read_writes_cons_put _ _ _ _ _ (off6_eq i)) _).trans ?_
  refine (put_rows _ _ _ _ _ _ _).trans ?_
  by_cases hi : i'.val = (i 1).val
  · obtain rfl : i' = i 1 := Fin.ext hi
    refine Eq.trans ?_ (congrArg (z _ _ _ + ·) (if_pos rfl).symm)
    by_cases ho : 64 ≤ l.val
    · have e : (⟨64 + (l.val - 64), by omega⟩ : Fin 128) = l := Fin.ext (Nat.add_sub_cancel' ho)
      refine (dif_pos ⟨rfl, ho, by omega⟩).trans ?_
      refine (pay98_apply hc hw h35 h36 _ _ t).trans ?_
      refine congrArg₂ (· + ·) ((hx1 _ t).trans ?_) ?_
      · exact congrArg (fun l => z (i 1) l t) e
      · exact congrArg (fun l => B.cq (i 1) (i 1) l t) e
    · have e : (⟨0 + (l.val - 0), by omega⟩ : Fin 128) = l := Fin.ext (Nat.zero_add _)
      refine (dif_neg (fun h => ho h.2.1)).trans ?_
      refine (congrFun (View.read_writes_cons_put _ _ _ _ _ (off5_eq i)) _).trans ?_
      refine (put_rows _ _ _ _ _ _ _).trans ?_
      refine (dif_pos ⟨rfl, Nat.zero_le _, by omega⟩).trans ?_
      refine (pay97_apply hc hw h35 h36 _ _ t).trans ?_
      refine congrArg₂ (· + ·) ((hx0 _ t).trans ?_) rfl
      exact congrArg (fun l => z (i 1) l t) e
  · have hi' := hi
    rw [if_neg hi, add_zero]
    refine (dif_neg (fun h => hi' h.1)).trans ?_
    refine (congrFun (View.read_writes_cons_put _ _ _ _ _ (off5_eq i)) _).trans ?_
    refine (put_rows _ _ _ _ _ _ _).trans ?_
    exact (dif_neg (fun h => hi' h.1)).trans (hz _ _ _)

theorem diag17 {v : View sig .tc .vmem S512x128 .f32} {f : v.ty.Contents (Elt Ideal)} {D0 : List (View.Piece (Elt Ideal) S512x128 .f32)}
    {x : Vec Ideal S512x128 .f32} (hx : ∀ s l, x (ix2 s l) = (0 : EReal)) (s : Fin 512) (l : Fin 128) :
    v.read (Elt Ideal) (v.writes (Elt Ideal) f
      (⟨Rect.unit (s := S512x128) ![0, 0] S512x128.size inb_S512x128_S512x128_0_0, k0_pay95 v18 v20 (k0_pay76 q) (k0_pay87 (k0_pay82 v26 v35 v36 (k0_pay75 dot) (k0_pay78 v16 v31 qt) l0 d0))
      (k0_pay89 v35 v36 (k0_pay79 v16 v33 qt) (k0_pay80 v28 (k0_pay75 dot)) l1 d1) x⟩ :: D0)) (ix2 s l) = B.ck (i 1) (i 1) s l := by
  refine (congrFun (View.read_writes_full _ _ _ _ _) _).trans ?_
  refine (pay95_apply hc hw h35 h36 _ s l).trans ?_
  rw [hx, zero_add]

theorem diag18 {v : View sig .tc .vmem S512x128 .f32} {f : v.ty.Contents (Elt Ideal)} {D0 : List (View.Piece (Elt Ideal) S512x128 .f32)}
    {x : Vec Ideal S512x128 .f32} (hx : ∀ s l, x (ix2 s l) = (0 : EReal)) (s : Fin 512) (l : Fin 128) :
    v.read (Elt Ideal) (v.writes (Elt Ideal) f
      (⟨Rect.unit (s := S512x128) ![0, 0] S512x128.size inb_S512x128_S512x128_0_0, k0_pay94 v18 v20 (k0_pay77 dob) (k0_pay86 (k0_pay81 v35 v36 (k0_pay78 v16 v31 qt) l0))
      (k0_pay88 v35 v36 (k0_pay79 v16 v33 qt) l1) x⟩ :: D0)) (ix2 s l) = B.cv (i 1) (i 1) s l := by
  refine (congrFun (View.read_writes_full _ _ _ _ _) _).trans ?_
  refine (pay94_apply hc hw h35 h36 _ s l).trans ?_
  rw [hx, zero_add]

theorem diag19 {v : View sig .tc .vmem S2x512x128 .f32} {f : v.ty.Contents (Elt Ideal)} {D0 : List (View.Piece (Elt Ideal) S2x512x128 .f32)}
    {x0 x1 : Vec Ideal S1x512x128 .f32} (hx0 : ∀ s l, x0 (ix3 0 s l) = (0 : EReal)) (hx1 : ∀ s l, x1 (ix3 0 s l) = (0 : EReal))
    (a : Fin 2) (s : Fin 512) (l : Fin 128) :
    v.read (Elt Ideal) (v.writes (Elt Ideal) f
      (⟨Rect.unit (s := S2x512x128) ![1, 0, 0] S1x512x128.size inb_S2x512x128_S1x512x128_1_0_0, k0_pay92 (k0_pay91 v35 v36 (k0_pay79 v16 v33 qt) (k0_pay80 v28 (k0_pay75 dot)) l1 d1 x1)⟩
       :: ⟨Rect.unit (s := S2x512x128) ![0, 0, 0] S1x512x128.size inb_S2x512x128_S1x512x128_0_0_0, k0_pay85 (k0_pay84 v26 v35 v36 (k0_pay75 dot) (k0_pay78 v16 v31 qt) l0 d0 x0)⟩ :: D0)) (ix3 a s l)
      = B.cl a (i 1) (i 1) s l := by
  refine (congrFun (View.read_writes_cons_put _ _ _ _ _ rfl) _).trans ?_
  refine (put_head _ _ _ _ _ _).trans ?_
  obtain rfl | rfl : a = 0 ∨ a = 1 := by omega
  · refine (if_neg (by decide)).trans ?_
    refine (congrFun (View.read_writes_cons_put _ _ _ _ _ rfl) _).trans ?_
    refine (put_head _ _ _ _ _ _).trans ?_
    refine (if_pos rfl).trans ?_
    refine (pay85_apply hc hw h35 h36 _ s l).trans ?_
    rw [hx0, zero_add]
  · refine (if_pos rfl).trans ?_
    refine (pay92_apply hc hw h35 h36 _ s l).trans ?_
    rw [hx1, zero_add]

end

end Cert.KernelIdeal.Hand
-- ==== Proof.Hand.RunA.lean ====
module

public import proofs.«01_k».proof.Proof.Gen.KernelIdeal.Frame
public import proofs.«01_k».proof.Proof.Hand.Diag

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

theorem iota35 (s t : Fin 512) : iota .tc S512x512 32 [0] iota_S512x512_d0_w32 (ix2 s t) = BitVec.ofNat 32 s.val := by pointwise []
theorem iota36 (s t : Fin 512) : iota .tc S512x512 32 [1] iota_S512x512_d1_w32 (ix2 s t) = BitVec.ofNat 32 t.val := by pointwise []

/-- The condition of the first key block's initial stores. -/
abbrev cond0_0 (i : grid0.Coords) : Prop := (Scalar.cmpi .ne (Scalar.extui (Scalar.cmpi .eq (BitVec.ofNat 32 (i 1).val) 0#32)) 0#32) = 1#1

set_option maxHeartbeats 8000000 in
/-- The body at the first key block: what each output holds after it. -/
theorem runA (c : Dev nD) (i : grid0.Coords) (arg2 : Memref sig .tc .vmem S4096x128 .bf16) (harg2 : arg2.IsWhole) (arg3 : Memref sig .tc .vmem S1x8x128x512 .bf16) (harg3 : arg3.IsWhole) (arg4 : Memref sig .tc .vmem S4096x128 .bf16) (harg4 : arg4.IsWhole) (arg5 : Memref sig .tc .vmem S1x8x128x512 .bf16) (harg5 : arg5.IsWhole) (arg6 : Memref sig .tc .vmem S1x1x128x512 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S1x8x2x512 .f32) (harg10 : arg10.IsWhole) (arg11 : Memref sig .tc .vmem S1x8x2x512 .f32) (harg11 : arg11.IsWhole) (arg12 : Memref sig .tc .vmem S1x8x128x512 .f32) (harg12 : arg12.IsWhole) (arg13 : Memref sig .tc .vmem S512x128 .bf16) (harg13 : arg13.IsWhole) (arg14 : Memref sig .tc .vmem S512x128 .bf16) (harg14 : arg14.IsWhole) (arg15 : Memref sig .tc .vmem S1x1x2x512 .f32) (harg15 : arg15.IsWhole) (arg16 : Memref sig .tc .vmem S1x8x2x512 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S2x512x128 .f32) (harg19 : arg19.IsWhole) (hc0 : cond0_0 i)
    (x0 : Vec Ideal S4096x128 .bf16) (x1 : Vec Ideal S1x8x128x512 .bf16) (x2 : Vec Ideal S4096x128 .bf16) (x3 : Vec Ideal S1x8x128x512 .bf16) (x4 : Vec Ideal S1x1x128x512 .bf16) (x5 : Vec Ideal S512x128 .bf16) (x6 : Vec Ideal S512x128 .bf16) (x7 : Vec Ideal S512x128 .bf16) (x8 : Vec Ideal S1x8x2x512 .f32) (x9 : Vec Ideal S1x8x2x512 .f32) (x10 : Vec Ideal S1x8x128x512 .f32) (x14 : Vec Ideal S1x8x2x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d ∗ ⌜∀ i' l t, d (ix4 0 i' l t) = 0 + if (i 1).val ≤ i'.val then (Blk.mk x0 x1 x2 x3 x4 x5 x6 x7 x8 x9).cq (i 1) i' l t else 0⌝) ∗ (∃ d, owns (c : Thread nD τ) arg13 fullShare d ∗ ⌜∀ s l, d (ix2 s l) = ∑ i' ∈ later (i 1).val, (Blk.mk x0 x1 x2 x3 x4 x5 x6 x7 x8 x9).ck (i 1) i' s l⌝) ∗ (∃ d, owns (c : Thread nD τ) arg14 fullShare d ∗ ⌜∀ s l, d (ix2 s l) = ∑ i' ∈ later (i 1).val, (Blk.mk x0 x1 x2 x3 x4 x5 x6 x7 x8 x9).cv (i 1) i' s l⌝) ∗ (∃ d, owns (c : Thread nD τ) arg15 fullShare d ∗ ⌜∀ a s, d (ix4 0 0 a s) = 0 - ∑ l, ∑ i' ∈ later (i 1).val, (Blk.mk x0 x1 x2 x3 x4 x5 x6 x7 x8 x9).cl a (i 1) i' s l⌝) ∗ (∃ d, owns (c : Thread nD τ) arg16 fullShare d ∗ ⌜∀ i' a t, d (ix4 0 i' a t) = 0 + if (i 1).val ≤ i'.val then (Blk.mk x0 x1 x2 x3 x4 x5 x6 x7 x8 x9).cc a (i 1) i' t else 0⌝) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := Ideal)) Variants.none c none) E (cc0_fox_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_fox_attn_bwd_eq_skeleton]; unfold cc0_fox_attn_bwd_skel
    simp only [k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _
      isplitl
      · iexists _; isplitr; swap; · iexact H10
        ipureintro; rfl
      · ipureintro
        have hc := ctx (Blk.mk x0 x1 x2 x3 x4 x5 x6 x7 x8 x9) _ _ _ _ ((View.readAt_full arg7.view (harg7.unread x5) inb_S512x128_S512x128_0_0).trans (harg7.read_unread _)) ((View.readAt_full arg6.view (harg6.unread x4) inb_S1x1x128x512_S1x1x128x512_0_0_0_0).trans (harg6.read_unread _)) ((View.readAt_full arg8.view (harg8.unread x6) inb_S512x128_S512x128_0_0).trans (harg8.read_unread _)) ((View.readAt_full arg9.view (harg9.unread x7) inb_S512x128_S512x128_0_0).trans (harg9.read_unread _))
        have hw := diag_win (i := i) (B := Blk.mk x0 x1 x2 x3 x4 x5 x6 x7 x8 x9) (harg2.read_unread _) (harg3.read_unread _) (harg4.read_unread _) (harg5.read_unread _) (harg10.read_unread _) (harg11.read_unread _)
        intro i' l t
        refine fin12 hc (harg2.read_unread _) (harg3.read_unread _) (harg4.read_unread _) (harg5.read_unread _) (harg10.read_unread _) (harg11.read_unread _) (by rw [trips_t2' i, pb_k0_t2.eq_1]) i' l t _ ?_
        exact diag12 hc hw iota35 iota36 (fun _ _ _ => 0) (fun _ _ _ => (congrFun (View.read_writes_full _ _ _ _ _) _).trans (zero59 _)) (fun r t => (read_half _ _ _ _ 0 (by omega) (off5_eq i) r t).trans ((congrFun (View.read_writes_full _ _ _ _ _) _).trans (zero59 _)))
          (fun r t => (read_half _ _ _ _ 64 (by omega) (off6_eq i) r t).trans ((congrFun (View.read_writes_cons_put _ _ _ _ _ (off5_eq i)) _).trans
            ((put_rows _ _ _ _ _ _ _).trans ((dif_neg (fun h => absurd h.2.2 (by show ¬ 64 + r.val < 0 + 64; omega))).trans ((congrFun (View.read_writes_full _ _ _ _ _) _).trans (zero59 _)))))) i' l t
    isplitl [H11]
    · iexists _
      isplitl
      · iexists _; isplitr; swap; · iexact H11
        ipureintro; rfl
      · ipureintro
        have hc := ctx (Blk.mk x0 x1 x2 x3 x4 x5 x6 x7 x8 x9) _ _ _ _ ((View.readAt_full arg7.view (harg7.unread x5) inb_S512x128_S512x128_0_0).trans (harg7.read_unread _)) ((View.readAt_full arg6.view (harg6.unread x4) inb_S1x1x128x512_S1x1x128x512_0_0_0_0).trans (harg6.read_unread _)) ((View.readAt_full arg8.view (harg8.unread x6) inb_S512x128_S512x128_0_0).trans (harg8.read_unread _)) ((View.readAt_full arg9.view (harg9.unread x7) inb_S512x128_S512x128_0_0).trans (harg9.read_unread _))
        have hw := diag_win (i := i) (B := Blk.mk x0 x1 x2 x3 x4 x5 x6 x7 x8 x9) (harg2.read_unread _) (harg3.read_unread _) (harg4.read_unread _) (harg5.read_unread _) (harg10.read_unread _) (harg11.read_unread _)
        intro s l
        refine (congrFun (View.read_writes_full _ _ _ _ _) _).trans ?_
        refine (pay99_apply _ s l).trans ?_
        refine (congrFun (View.readAt_full _ _ _) _).trans ?_
        refine fin17 hc (harg2.read_unread _) (harg3.read_unread _) (harg4.read_unread _) (harg5.read_unread _) (harg10.read_unread _) (harg11.read_unread _) (by rw [trips_t2' i, pb_k0_t2.eq_1]) s l ?_
        exact diag17 hc hw iota35 iota36 (fun s l => (congrFun (View.readCov_full _ _ _ _ _) _).trans (zero61 _)) s l
    isplitl [H12]
    · iexists _
      isplitl
      · iexists _; isplitr; swap; · iexact H12
        ipureintro; rfl
      · ipureintro
        have hc := ctx (Blk.mk x0 x1 x2 x3 x4 x5 x6 x7 x8 x9) _ _ _ _ ((View.readAt_full arg7.view (harg7.unread x5) inb_S512x128_S512x128_0_0).trans (harg7.read_unread _)) ((View.readAt_full arg6.view (harg6.unread x4) inb_S1x1x128x512_S1x1x128x512_0_0_0_0).trans (harg6.read_unread _)) ((View.readAt_full arg8.view (harg8.unread x6) inb_S512x128_S512x128_0_0).trans (harg8.read_unread _)) ((View.readAt_full arg9.view (harg9.unread x7) inb_S512x128_S512x128_0_0).trans (harg9.read_unread _))
        have hw := diag_win (i := i) (B := Blk.mk x0 x1 x2 x3 x4 x5 x6 x7 x8 x9) (harg2.read_unread _) (harg3.read_unread _) (harg4.read_unread _) (harg5.read_unread _) (harg10.read_unread _) (harg11.read_unread _)
        intro s l
        refine (congrFun (View.read_writes_full _ _ _ _ _) _).trans ?_
        refine (pay100_apply _ s l).trans ?_
        refine (congrFun (View.readAt_full _ _ _) _).trans ?_
        refine fin18 hc (harg2.read_unread _) (harg3.read_unread _) (harg4.read_unread _) (harg5.read_unread _) (harg10.read_unread _) (harg11.read_unread _) (by rw [trips_t2' i, pb_k0_t2.eq_1]) s l ?_
        exact diag18 hc hw iota35 iota36 (fun s l => (congrFun (View.readCov_full _ _ _ _ _) _).trans (zero62 _)) s l
    isplitl [H13]
    · iexists _
      isplitl
      · iexists _; isplitr; swap; · iexact H13
        ipureintro; rfl
      · ipureintro
        have hc := ctx (Blk.mk x0 x1 x2 x3 x4 x5 x6 x7 x8 x9) _ _ _ _ ((View.readAt_full arg7.view (harg7.unread x5) inb_S512x128_S512x128_0_0).trans (harg7.read_unread _)) ((View.readAt_full arg6.view (harg6.unread x4) inb_S1x1x128x512_S1x1x128x512_0_0_0_0).trans (harg6.read_unread _)) ((View.readAt_full arg8.view (harg8.unread x6) inb_S512x128_S512x128_0_0).trans (harg8.read_unread _)) ((View.readAt_full arg9.view (harg9.unread x7) inb_S512x128_S512x128_0_0).trans (harg9.read_unread _))
        have hw := diag_win (i := i) (B := Blk.mk x0 x1 x2 x3 x4 x5 x6 x7 x8 x9) (harg2.read_unread _) (harg3.read_unread _) (harg4.read_unread _) (harg5.read_unread _) (harg10.read_unread _) (harg11.read_unread _)
        intro a s
        refine (congrFun (View.read_writes_cons_put _ _ _ _ _ rfl) _).trans ?_
        refine (put_row1 _ _ _ _ _).trans ?_
        obtain rfl | rfl : a = 0 ∨ a = 1 := by omega
        · refine (if_neg (by decide)).trans ?_
          refine (congrFun (View.read_writes_cons_put _ _ _ _ _ rfl) _).trans ?_
          refine (put_row1 _ _ _ _ _).trans ?_
          refine (if_pos rfl).trans ?_
          refine (pay1_apply _ s).trans (congrArg (fun x : EReal => 0 - x) (Finset.sum_congr rfl fun l _ => ?_))
          refine (read_head _ _ _ 0 rfl s l).trans ?_
          refine fin19 hc (harg2.read_unread _) (harg3.read_unread _) (harg4.read_unread _) (harg5.read_unread _) (harg10.read_unread _) (harg11.read_unread _) (by rw [trips_t2' i, pb_k0_t2.eq_1]) 0 s l ?_
          exact diag19 hc hw iota35 iota36 (fun s l => (read_head _ _ _ 0 rfl s l).trans ((congrFun (View.read_writes_full _ _ _ _ _) _).trans (zero63 _)))
            (fun s l => (read_head _ _ _ 1 rfl s l).trans ((congrFun (View.read_writes_cons_put _ _ _ _ _ rfl) _).trans
              ((put_head _ _ _ _ _ _).trans ((if_neg (by decide)).trans ((congrFun (View.read_writes_full _ _ _ _ _) _).trans (zero63 _)))))) 0 s l
        · refine (if_pos rfl).trans ?_
          refine (pay2_apply _ s).trans (congrArg (fun x : EReal => 0 - x) (Finset.sum_congr rfl fun l _ => ?_))
          refine (read_head _ _ _ 1 rfl s l).trans ?_
          refine fin19 hc (harg2.read_unread _) (harg3.read_unread _) (harg4.read_unread _) (harg5.read_unread _) (harg10.read_unread _) (harg11.read_unread _) (by rw [trips_t2' i, pb_k0_t2.eq_1]) 1 s l ?_
          exact diag19 hc hw iota35 iota36 (fun s l => (read_head _ _ _ 0 rfl s l).trans ((congrFun (View.read_writes_full _ _ _ _ _) _).trans (zero63 _)))
            (fun s l => (read_head _ _ _ 1 rfl s l).trans ((congrFun (View.read_writes_cons_put _ _ _ _ _ rfl) _).trans
              ((put_head _ _ _ _ _ _).trans ((if_neg (by decide)).trans ((congrFun (View.read_writes_full _ _ _ _ _) _).trans (zero63 _)))))) 1 s l
    isplitl [H14]
    · iexists _
      isplitl
      · iexists _; isplitr; swap; · iexact H14
        ipureintro; rfl
      · ipureintro
        have hc := ctx (Blk.mk x0 x1 x2 x3 x4 x5 x6 x7 x8 x9) _ _ _ _ ((View.readAt_full arg7.view (harg7.unread x5) inb_S512x128_S512x128_0_0).trans (harg7.read_unread _)) ((View.readAt_full arg6.view (harg6.unread x4) inb_S1x1x128x512_S1x1x128x512_0_0_0_0).trans (harg6.read_unread _)) ((View.readAt_full arg8.view (harg8.unread x6) inb_S512x128_S512x128_0_0).trans (harg8.read_unread _)) ((View.readAt_full arg9.view (harg9.unread x7) inb_S512x128_S512x128_0_0).trans (harg9.read_unread _))
        have hw := diag_win (i := i) (B := Blk.mk x0 x1 x2 x3 x4 x5 x6 x7 x8 x9) (harg2.read_unread _) (harg3.read_unread _) (harg4.read_unread _) (harg5.read_unread _) (harg10.read_unread _) (harg11.read_unread _)
        intro i' a t
        refine fin16 hc (harg2.read_unread _) (harg3.read_unread _) (harg4.read_unread _) (harg5.read_unread _) (harg10.read_unread _) (harg11.read_unread _) (by rw [trips_t2' i, pb_k0_t2.eq_1]) i' a t _ ?_
        exact diag16 hc hw iota35 iota36 (fun _ _ _ => 0) (fun _ _ _ => (congrFun (View.read_writes_full _ _ _ _ _) _).trans (zero60 _)) (fun t => (read_row _ _ _ _ 0 (off3_eq i) t).trans ((congrFun (View.read_writes_full _ _ _ _ _) _).trans (zero60 _)))
          (fun t => (read_row _ _ _ _ 1 (off4_eq i) t).trans ((congrFun (View.read_writes_cons_put _ _ _ _ _ (off3_eq i)) _).trans
            ((put_row _ _ _ _ _ _ _).trans ((if_neg (fun h => absurd h.2 (by decide))).trans ((congrFun (View.read_writes_full _ _ _ _ _) _).trans (zero60 _)))))) i' a t
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Hand
-- ==== Proof.Hand.RunB.lean ====
module

public import proofs.«01_k».proof.Proof.Gen.KernelIdeal.Frame
public import proofs.«01_k».proof.Proof.Hand.RunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

set_option maxHeartbeats 8000000 in
/-- The body at a later key block: what each output holds after it. -/
theorem runB (c : Dev nD) (i : grid0.Coords) (arg2 : Memref sig .tc .vmem S4096x128 .bf16) (harg2 : arg2.IsWhole) (arg3 : Memref sig .tc .vmem S1x8x128x512 .bf16) (harg3 : arg3.IsWhole) (arg4 : Memref sig .tc .vmem S4096x128 .bf16) (harg4 : arg4.IsWhole) (arg5 : Memref sig .tc .vmem S1x8x128x512 .bf16) (harg5 : arg5.IsWhole) (arg6 : Memref sig .tc .vmem S1x1x128x512 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S1x8x2x512 .f32) (harg10 : arg10.IsWhole) (arg11 : Memref sig .tc .vmem S1x8x2x512 .f32) (harg11 : arg11.IsWhole) (arg12 : Memref sig .tc .vmem S1x8x128x512 .f32) (harg12 : arg12.IsWhole) (arg13 : Memref sig .tc .vmem S512x128 .bf16) (harg13 : arg13.IsWhole) (arg14 : Memref sig .tc .vmem S512x128 .bf16) (harg14 : arg14.IsWhole) (arg15 : Memref sig .tc .vmem S1x1x2x512 .f32) (harg15 : arg15.IsWhole) (arg16 : Memref sig .tc .vmem S1x8x2x512 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S2x512x128 .f32) (harg19 : arg19.IsWhole) (hc0 : ¬cond0_0 i)
    (x0 : Vec Ideal S4096x128 .bf16) (x1 : Vec Ideal S1x8x128x512 .bf16) (x2 : Vec Ideal S4096x128 .bf16) (x3 : Vec Ideal S1x8x128x512 .bf16) (x4 : Vec Ideal S1x1x128x512 .bf16) (x5 : Vec Ideal S512x128 .bf16) (x6 : Vec Ideal S512x128 .bf16) (x7 : Vec Ideal S512x128 .bf16) (x8 : Vec Ideal S1x8x2x512 .f32) (x9 : Vec Ideal S1x8x2x512 .f32) (x10 : Vec Ideal S1x8x128x512 .f32) (x14 : Vec Ideal S1x8x2x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d ∗ ⌜∀ i' l t, d (ix4 0 i' l t) = x10 (ix4 0 i' l t) + if (i 1).val ≤ i'.val then (Blk.mk x0 x1 x2 x3 x4 x5 x6 x7 x8 x9).cq (i 1) i' l t else 0⌝) ∗ (∃ d, owns (c : Thread nD τ) arg13 fullShare d ∗ ⌜∀ s l, d (ix2 s l) = ∑ i' ∈ later (i 1).val, (Blk.mk x0 x1 x2 x3 x4 x5 x6 x7 x8 x9).ck (i 1) i' s l⌝) ∗ (∃ d, owns (c : Thread nD τ) arg14 fullShare d ∗ ⌜∀ s l, d (ix2 s l) = ∑ i' ∈ later (i 1).val, (Blk.mk x0 x1 x2 x3 x4 x5 x6 x7 x8 x9).cv (i 1) i' s l⌝) ∗ (∃ d, owns (c : Thread nD τ) arg15 fullShare d ∗ ⌜∀ a s, d (ix4 0 0 a s) = 0 - ∑ l, ∑ i' ∈ later (i 1).val, (Blk.mk x0 x1 x2 x3 x4 x5 x6 x7 x8 x9).cl a (i 1) i' s l⌝) ∗ (∃ d, owns (c : Thread nD τ) arg16 fullShare d ∗ ⌜∀ i' a t, d (ix4 0 i' a t) = x14 (ix4 0 i' a t) + if (i 1).val ≤ i'.val then (Blk.mk x0 x1 x2 x3 x4 x5 x6 x7 x8 x9).cc a (i 1) i' t else 0⌝) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := Ideal)) Variants.none c none) E (cc0_fox_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_fox_attn_bwd_eq_skeleton]; unfold cc0_fox_attn_bwd_skel
    simp only [k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg16.eq_unread hf14
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _
      isplitl
      · iexists _; isplitr; swap; · iexact H10
        ipureintro; rfl
      · ipureintro
        have hc := ctx (Blk.mk x0 x1 x2 x3 x4 x5 x6 x7 x8 x9) _ _ _ _ ((View.readAt_full arg7.view (harg7.unread x5) inb_S512x128_S512x128_0_0).trans (harg7.read_unread _)) ((View.readAt_full arg6.view (harg6.unread x4) inb_S1x1x128x512_S1x1x128x512_0_0_0_0).trans (harg6.read_unread _)) ((View.readAt_full arg8.view (harg8.unread x6) inb_S512x128_S512x128_0_0).trans (harg8.read_unread _)) ((View.readAt_full arg9.view (harg9.unread x7) inb_S512x128_S512x128_0_0).trans (harg9.read_unread _))
        have hw := diag_win (i := i) (B := Blk.mk x0 x1 x2 x3 x4 x5 x6 x7 x8 x9) (harg2.read_unread _) (harg3.read_unread _) (harg4.read_unread _) (harg5.read_unread _) (harg10.read_unread _) (harg11.read_unread _)
        have hz : ∀ (i' : Fin 8) (l : Fin 128) (t : Fin 512), arg12.view.read (Elt Ideal) (arg12.view.writes (Elt Ideal) (harg12.unread x10) []) (ix4 0 i' l t) = x10 (ix4 0 i' l t) := fun _ _ _ => (congrArg (fun f => arg12.view.read (Elt Ideal) f _) (View.writes_nil ..)).trans (congrFun (harg12.read_unread x10) _)
        have hz' : ∀ (i' : Fin 8) (l : Fin 128) (t : Fin 512), arg12.view.read (Elt Ideal) (harg12.unread x10) (ix4 0 i' l t) = x10 (ix4 0 i' l t) := fun _ _ _ => congrFun (harg12.read_unread x10) _
        intro i' l t
        refine fin12 hc (harg2.read_unread _) (harg3.read_unread _) (harg4.read_unread _) (harg5.read_unread _) (harg10.read_unread _) (harg11.read_unread _) (by rw [trips_t2' i, pb_k0_t2.eq_1]) i' l t _ ?_
        refine diag12 (v := arg12.view) (f := harg12.unread x10) (D0 := []) hc hw iota35 iota36 (fun i' l t => x10 (ix4 0 i' l t)) (fun _ _ _ => hz _ _ _) (fun r t => (read_half _ _ _ _ 0 (by omega) (off5_eq i) r t).trans (hz' _ _ _)) ?_ i' l t
        intro r t
        refine (read_half _ _ _ _ 64 (by omega) (off6_eq i) r t).trans ?_
        exact hz' _ _ _
    isplitl [H11]
    · iexists _
      isplitl
      · iexists _; isplitr; swap; · iexact H11
        ipureintro; rfl
      · ipureintro
        have hc := ctx (Blk.mk x0 x1 x2 x3 x4 x5 x6 x7 x8 x9) _ _ _ _ ((View.readAt_full arg7.view (harg7.unread x5) inb_S512x128_S512x128_0_0).trans (harg7.read_unread _)) ((View.readAt_full arg6.view (harg6.unread x4) inb_S1x1x128x512_S1x1x128x512_0_0_0_0).trans (harg6.read_unread _)) ((View.readAt_full arg8.view (harg8.unread x6) inb_S512x128_S512x128_0_0).trans (harg8.read_unread _)) ((View.readAt_full arg9.view (harg9.unread x7) inb_S512x128_S512x128_0_0).trans (harg9.read_unread _))
        have hw := diag_win (i := i) (B := Blk.mk x0 x1 x2 x3 x4 x5 x6 x7 x8 x9) (harg2.read_unread _) (harg3.read_unread _) (harg4.read_unread _) (harg5.read_unread _) (harg10.read_unread _) (harg11.read_unread _)
        intro s l
        refine (congrFun (View.read_writes_full _ _ _ _ _) _).trans ?_
        refine (pay99_apply _ s l).trans ?_
        refine (congrFun (View.readAt_full _ _ _) _).trans ?_
        refine fin17 hc (harg2.read_unread _) (harg3.read_unread _) (harg4.read_unread _) (harg5.read_unread _) (harg10.read_unread _) (harg11.read_unread _) (by rw [trips_t2' i, pb_k0_t2.eq_1]) s l ?_
        exact diag17 hc hw iota35 iota36 (fun s l => (congrFun (View.readCov_full _ _ _ _ _) _).trans (zero61 _)) s l
    isplitl [H12]
    · iexists _
      isplitl
      · iexists _; isplitr; swap; · iexact H12
        ipureintro; rfl
      · ipureintro
        have hc := ctx (Blk.mk x0 x1 x2 x3 x4 x5 x6 x7 x8 x9) _ _ _ _ ((View.readAt_full arg7.view (harg7.unread x5) inb_S512x128_S512x128_0_0).trans (harg7.read_unread _)) ((View.readAt_full arg6.view (harg6.unread x4) inb_S1x1x128x512_S1x1x128x512_0_0_0_0).trans (harg6.read_unread _)) ((View.readAt_full arg8.view (harg8.unread x6) inb_S512x128_S512x128_0_0).trans (harg8.read_unread _)) ((View.readAt_full arg9.view (harg9.unread x7) inb_S512x128_S512x128_0_0).trans (harg9.read_unread _))
        have hw := diag_win (i := i) (B := Blk.mk x0 x1 x2 x3 x4 x5 x6 x7 x8 x9) (harg2.read_unread _) (harg3.read_unread _) (harg4.read_unread _) (harg5.read_unread _) (harg10.read_unread _) (harg11.read_unread _)
        intro s l
        refine (congrFun (View.read_writes_full _ _ _ _ _) _).trans ?_
        refine (pay100_apply _ s l).trans ?_
        refine (congrFun (View.readAt_full _ _ _) _).trans ?_
        refine fin18 hc (harg2.read_unread _) (harg3.read_unread _) (harg4.read_unread _) (harg5.read_unread _) (harg10.read_unread _) (harg11.read_unread _) (by rw [trips_t2' i, pb_k0_t2.eq_1]) s l ?_
        exact diag18 hc hw iota35 iota36 (fun s l => (congrFun (View.readCov_full _ _ _ _ _) _).trans (zero62 _)) s l
    isplitl [H13]
    · iexists _
      isplitl
      · iexists _; isplitr; swap; · iexact H13
        ipureintro; rfl
      · ipureintro
        have hc := ctx (Blk.mk x0 x1 x2 x3 x4 x5 x6 x7 x8 x9) _ _ _ _ ((View.readAt_full arg7.view (harg7.unread x5) inb_S512x128_S512x128_0_0).trans (harg7.read_unread _)) ((View.readAt_full arg6.view (harg6.unread x4) inb_S1x1x128x512_S1x1x128x512_0_0_0_0).trans (harg6.read_unread _)) ((View.readAt_full arg8.view (harg8.unread x6) inb_S512x128_S512x128_0_0).trans (harg8.read_unread _)) ((View.readAt_full arg9.view (harg9.unread x7) inb_S512x128_S512x128_0_0).trans (harg9.read_unread _))
        have hw := diag_win (i := i) (B := Blk.mk x0 x1 x2 x3 x4 x5 x6 x7 x8 x9) (harg2.read_unread _) (harg3.read_unread _) (harg4.read_unread _) (harg5.read_unread _) (harg10.read_unread _) (harg11.read_unread _)
        intro a s
        refine (congrFun (View.read_writes_cons_put _ _ _ _ _ rfl) _).trans ?_
        refine (put_row1 _ _ _ _ _).trans ?_
        obtain rfl | rfl : a = 0 ∨ a = 1 := by omega
        · refine (if_neg (by decide)).trans ?_
          refine (congrFun (View.read_writes_cons_put _ _ _ _ _ rfl) _).trans ?_
          refine (put_row1 _ _ _ _ _).trans ?_
          refine (if_pos rfl).trans ?_
          refine (pay1_apply _ s).trans (congrArg (fun x : EReal => 0 - x) (Finset.sum_congr rfl fun l _ => ?_))
          refine (read_head _ _ _ 0 rfl s l).trans ?_
          refine fin19 hc (harg2.read_unread _) (harg3.read_unread _) (harg4.read_unread _) (harg5.read_unread _) (harg10.read_unread _) (harg11.read_unread _) (by rw [trips_t2' i, pb_k0_t2.eq_1]) 0 s l ?_
          exact diag19 hc hw iota35 iota36 (fun s l => (read_head _ _ _ 0 rfl s l).trans ((congrFun (View.read_writes_full _ _ _ _ _) _).trans (zero63 _)))
            (fun s l => (read_head _ _ _ 1 rfl s l).trans ((congrFun (View.read_writes_cons_put _ _ _ _ _ rfl) _).trans
              ((put_head _ _ _ _ _ _).trans ((if_neg (by decide)).trans ((congrFun (View.read_writes_full _ _ _ _ _) _).trans (zero63 _)))))) 0 s l
        · refine (if_pos rfl).trans ?_
          refine (pay2_apply _ s).trans (congrArg (fun x : EReal => 0 - x) (Finset.sum_congr rfl fun l _ => ?_))
          refine (read_head _ _ _ 1 rfl s l).trans ?_
          refine fin19 hc (harg2.read_unread _) (harg3.read_unread _) (harg4.read_unread _) (harg5.read_unread _) (harg10.read_unread _) (harg11.read_unread _) (by rw [trips_t2' i, pb_k0_t2.eq_1]) 1 s l ?_
          exact diag19 hc hw iota35 iota36 (fun s l => (read_head _ _ _ 0 rfl s l).trans ((congrFun (View.read_writes_full _ _ _ _ _) _).trans (zero63 _)))
            (fun s l => (read_head _ _ _ 1 rfl s l).trans ((congrFun (View.read_writes_cons_put _ _ _ _ _ rfl) _).trans
              ((put_head _ _ _ _ _ _).trans ((if_neg (by decide)).trans ((congrFun (View.read_writes_full _ _ _ _ _) _).trans (zero63 _)))))) 1 s l
    isplitl [H14]
    · iexists _
      isplitl
      · iexists _; isplitr; swap; · iexact H14
        ipureintro; rfl
      · ipureintro
        have hc := ctx (Blk.mk x0 x1 x2 x3 x4 x5 x6 x7 x8 x9) _ _ _ _ ((View.readAt_full arg7.view (harg7.unread x5) inb_S512x128_S512x128_0_0).trans (harg7.read_unread _)) ((View.readAt_full arg6.view (harg6.unread x4) inb_S1x1x128x512_S1x1x128x512_0_0_0_0).trans (harg6.read_unread _)) ((View.readAt_full arg8.view (harg8.unread x6) inb_S512x128_S512x128_0_0).trans (harg8.read_unread _)) ((View.readAt_full arg9.view (harg9.unread x7) inb_S512x128_S512x128_0_0).trans (harg9.read_unread _))
        have hw := diag_win (i := i) (B := Blk.mk x0 x1 x2 x3 x4 x5 x6 x7 x8 x9) (harg2.read_unread _) (harg3.read_unread _) (harg4.read_unread _) (harg5.read_unread _) (harg10.read_unread _) (harg11.read_unread _)
        have hz : ∀ (i' : Fin 8) (a : Fin 2) (t : Fin 512), arg16.view.read (Elt Ideal) (arg16.view.writes (Elt Ideal) (harg16.unread x14) []) (ix4 0 i' a t) = x14 (ix4 0 i' a t) := fun _ _ _ => (congrArg (fun f => arg16.view.read (Elt Ideal) f _) (View.writes_nil ..)).trans (congrFun (harg16.read_unread x14) _)
        have hz' : ∀ (i' : Fin 8) (a : Fin 2) (t : Fin 512), arg16.view.read (Elt Ideal) (harg16.unread x14) (ix4 0 i' a t) = x14 (ix4 0 i' a t) := fun _ _ _ => congrFun (harg16.read_unread x14) _
        intro i' a t
        refine fin16 hc (harg2.read_unread _) (harg3.read_unread _) (harg4.read_unread _) (harg5.read_unread _) (harg10.read_unread _) (harg11.read_unread _) (by rw [trips_t2' i, pb_k0_t2.eq_1]) i' a t _ ?_
        refine diag16 (v := arg16.view) (f := harg16.unread x14) (D0 := []) hc hw iota35 iota36 (fun i' a t => x14 (ix4 0 i' a t)) (fun _ _ _ => hz _ _ _) (fun t => (read_row _ _ _ _ 0 (off3_eq i) t).trans (hz' _ _ _)) ?_ i' a t
        intro t
        refine (read_row _ _ _ _ 1 (off4_eq i) t).trans ?_
        exact hz' _ _ _
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Hand
-- ==== Proof.Hand.Frame.lean ====
module

public import proofs.«01_k».proof.Proof.Gen.KernelIdeal.Frame
public import proofs.«01_k».proof.Proof.Hand.RunB
public import Idealize.ShloMosaic.Lib.Claim
public import Idealize.ShloMosaic.Lib.Pipeline.FrameBody
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ
open Idealize.ShloMosaic.Pipeline (Dat Cfg Window BodyObligation cellOf)

variable (m : (ℓ : Loc nD τ sig) → Buf (Elt Ideal) ℓ) (ρ : Dev nD → PrngReg)

abbrev ms0_0 (t : Fin cfg0.N) : Memref sig .tc .vmem S4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x2x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x2x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x8x128x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x128 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x2x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x8x2x512 .f32 := win0_14.stage (cfg0.slots t 14)
abbrev hs0_14 (t : Fin cfg0.N) : (ms0_14 t).IsWhole := hstage0_14 ((cfg0.slots t 14).cast nbuf0_14)
abbrev scM0_0 : Memref sig .tc .vmem S512x128 .f32 := Memref.whole cc0_scratch0
abbrev scM0_1 : Memref sig .tc .vmem S512x128 .f32 := Memref.whole cc0_scratch1
abbrev scM0_2 : Memref sig .tc .vmem S2x512x128 .f32 := Memref.whole cc0_scratch2

/-- Which points are at the first key block. -/
theorem first_iff : ∀ t : Fin cfg0.N, cond0_0 (grid0.coords t) ↔ t.val % 8 = 0 := fun t => by
  have e1 : ((grid0.coords t) 1).val = t.val % 8 := (show ((grid0.coords t) 1).val = t.val / 1 % 8 from Pipeline.Grid.coords_val t 1 (by decide) rfl).trans (by rw [Nat.div_one])
  have hm : t.val % 8 < 8 := Nat.mod_lt _ (by decide)
  simp only [cond0_0, e1]
  word_cmp

theorem key_val (t : Fin cfg0.N) : ((grid0.coords t) 1).val = t.val % 8 :=
  (show ((grid0.coords t) 1).val = t.val / 1 % 8 from Pipeline.Grid.coords_val t 1 (by decide) rfl).trans (by rw [Nat.div_one])

/-- What the region holds beside the windows: the three scratch buffers and the generator's register. -/
theorem rest_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The blocks of the inputs at a point. -/
def Bk (c : Dev nD) (t : Fin cfg0.N) : Blk :=
  Blk.mk (iblk m c 0 t) (iblk m c 1 t) (iblk m c 2 t) (iblk m c 3 t) (iblk m c 4 t) (iblk m c 5 t) (iblk m c 6 t) (iblk m c 7 t) (iblk m c 8 t) (iblk m c 9 t)

/-- A number as a point of the grid. -/
def pt (n : ℕ) : Fin cfg0.N := ⟨n % 64, lt_of_lt_of_eq (Nat.mod_lt n (by decide)) N_0.symm⟩

theorem pt_val (t : Fin cfg0.N) : pt t.val = t :=
  Fin.ext (Nat.mod_eq_of_lt (lt_of_lt_of_eq t.isLt N_0))

/-- One point's addend to the gradient of q. -/
def qTerm (c : Dev nD) (t : Fin cfg0.N) (i : Fin 8) (l : Fin 128) (r : Fin 512) : EReal :=
  if ((grid0.coords t) 1).val ≤ i.val then (Bk m c t).cq ((grid0.coords t) 1) i l r else 0

/-- One point's addend to the queries' part of c's gradient. -/
def cTerm (c : Dev nD) (t : Fin cfg0.N) (i : Fin 8) (a : Fin 2) (r : Fin 512) : EReal :=
  if ((grid0.coords t) 1).val ≤ i.val then (Bk m c t).cc a ((grid0.coords t) 1) i r else 0

/-- The gradient of q after a point: its head pair's points so far. -/
def qAcc (c : Dev nD) (t : Fin cfg0.N) : S1x8x128x512.Idx → EReal := fun x =>
  ∑ k ∈ Finset.range (t.val % 8 + 1), qTerm m c (pt (8 * (t.val / 8) + k)) (x 1) (x 2) (x 3)

def cAcc (c : Dev nD) (t : Fin cfg0.N) : S1x8x2x512.Idx → EReal := fun x =>
  ∑ k ∈ Finset.range (t.val % 8 + 1), cTerm m c (pt (8 * (t.val / 8) + k)) (x 1) (x 2) (x 3)

/-- The gradient of k at a point. -/
def kOut (c : Dev nD) (t : Fin cfg0.N) : S512x128.Idx → EReal := fun x =>
  ∑ i ∈ later ((grid0.coords t) 1).val, (Bk m c t).ck ((grid0.coords t) 1) i (x 0) (x 1)

/-- The gradient of v at a point. -/
def vOut (c : Dev nD) (t : Fin cfg0.N) : S512x128.Idx → EReal := fun x =>
  ∑ i ∈ later ((grid0.coords t) 1).val, (Bk m c t).cv ((grid0.coords t) 1) i (x 0) (x 1)

/-- The keys' part of c's gradient at a point. -/
def lOut (c : Dev nD) (t : Fin cfg0.N) : S1x1x2x512.Idx → EReal := fun x =>
  0 - ∑ l, ∑ i ∈ later ((grid0.coords t) 1).val, (Bk m c t).cl (x 2) ((grid0.coords t) 1) i (x 3) l

theorem acc_first {n : ℕ} (h : n % 8 = 0) (f : ℕ → EReal) : ∑ k ∈ Finset.range (n % 8 + 1), f (8 * (n / 8) + k) = 0 + f n := by
  have e : 8 * (n / 8) + 0 = n := by omega
  rw [h, zero_add, Finset.sum_range_one, e, zero_add]

theorem acc_next {n : ℕ} (h : ¬ n % 8 = 0) (f : ℕ → EReal) :
    ∑ k ∈ Finset.range (n % 8 + 1), f (8 * (n / 8) + k) = (∑ k ∈ Finset.range ((n - 1) % 8 + 1), f (8 * ((n - 1) / 8) + k)) + f n := by
  have e1 : (n - 1) % 8 + 1 = n % 8 := by omega
  have e2 : (n - 1) / 8 = n / 8 := by omega
  have e3 : 8 * (n / 8) + n % 8 = n := by omega
  rw [e1, e2, Finset.sum_range_succ, e3]

/-- The pipeline's proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => qAcc m c t
    | ⟨11, _⟩ => kOut m c t
    | ⟨12, _⟩ => vOut m c t
    | ⟨13, _⟩ => lOut m c t
    | ⟨14, _⟩ => cAcc m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = qAcc m c t := by dsimp only [dats]
theorem after_11 (c : Dev nD) (t : Fin cfg0.N) : (dats m 0 c).after 11 t = kOut m c t := by dsimp only [dats]
theorem after_12 (c : Dev nD) (t : Fin cfg0.N) : (dats m 0 c).after 12 t = vOut m c t := by dsimp only [dats]
theorem after_13 (c : Dev nD) (t : Fin cfg0.N) : (dats m 0 c).after 13 t = lOut m c t := by dsimp only [dats]
theorem after_14 (c : Dev nD) (t : Fin cfg0.N) : (dats m 0 c).after 14 t = cAcc m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
/-- At a later key block output 10 holds what the point before left. -/
theorem before_10 (c : Dev nD) (t : Fin cfg0.N) (h : ¬ t.val % 8 = 0) (d) :
    (dats m 0 c).before 10 t d = qAcc m c ⟨t.val - 1, Nat.lt_of_le_of_lt (Nat.sub_le _ _) t.isLt⟩ := by
  refine ((dats m 0 c).before_out_kept 10 rfl t (by omega) ?_ (fun _ => rfl) (fun _ _ => rfl) d).trans (after_10 m c _)
  refine Bool.eq_false_iff.2 fun h' => ?_
  have := (flush0_10 _).1 h'
  dsimp only at this
  omega
/-- At a later key block output 14 holds what the point before left. -/
theorem before_14 (c : Dev nD) (t : Fin cfg0.N) (h : ¬ t.val % 8 = 0) (d) :
    (dats m 0 c).before 14 t d = cAcc m c ⟨t.val - 1, Nat.lt_of_le_of_lt (Nat.sub_le _ _) t.isLt⟩ := by
  refine ((dats m 0 c).before_out_kept 14 rfl t (by omega) ?_ (fun _ => rfl) (fun _ _ => rfl) d).trans (after_14 m c _)
  refine Bool.eq_false_iff.2 fun h' => ?_
  have := (flush0_14 _).1 h'
  dsimp only at this
  omega

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- What the body returns at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

theorem ix4_eq {d1 d2 d3 : ℕ} (x : (⟨4, ![1, d1, d2, d3]⟩ : Shape).Idx) : x = ix4 0 (x 1) (x 2) (x 3) := by
  funext a
  fin_cases a
  · exact Subsingleton.elim (α := Fin 1) _ _
  · rfl
  · rfl
  · rfl

theorem ix4_eq' {d2 d3 : ℕ} (x : (⟨4, ![1, 1, d2, d3]⟩ : Shape).Idx) : x = ix4 0 0 (x 2) (x 3) := by
  funext a
  fin_cases a
  · exact Subsingleton.elim (α := Fin 1) _ _
  · exact Subsingleton.elim (α := Fin 1) _ _
  · rfl
  · rfl

theorem ix2_eq {d0 d1 : ℕ} (x : (⟨2, ![d0, d1]⟩ : Shape).Idx) : x = ix2 (x 0) (x 1) := by
  funext a
  fin_cases a <;> rfl

set_option maxHeartbeats 3200000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14]
  rw [show (dats m 0 c).Φ t.castSucc = Pipeline.ΦA spec0 c from rfl, rest_eq]
  by_cases h0 : t.val % 8 = 0
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runA c (grid0.coords t) _ _ _ _ _ _ _ _ _ _ _ _ _ _ _ _ _ _ _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t) (iblk m c 7 t) (iblk m c 8 t) (iblk m c 9 t) (fun _ => 0) (fun _ => 0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    iintro ⟨H0, H1, H2, H3, H4, H5, H6, H7, H8, H9, ⟨%e10, H10, %h10⟩, ⟨%e11, H11, %h11⟩, ⟨%e12, H12, %h12⟩, ⟨%e13, H13, %h13⟩, ⟨%e14, H14, %h14⟩, HS0, HS1, HS2⟩
    obtain rfl : e10 = qAcc m c t := funext fun x => (congrArg e10 (ix4_eq x)).trans ((h10 (x 1) (x 2) (x 3)).trans ((acc_first h0 fun n => qTerm m c (pt n) (x 1) (x 2) (x 3)).trans (congrArg (fun p => 0 + qTerm m c p (x 1) (x 2) (x 3)) (pt_val t))).symm)
    obtain rfl : e11 = kOut m c t := funext fun x => (congrArg e11 (ix2_eq x)).trans (h11 (x 0) (x 1))
    obtain rfl : e12 = vOut m c t := funext fun x => (congrArg e12 (ix2_eq x)).trans (h12 (x 0) (x 1))
    obtain rfl : e13 = lOut m c t := funext fun x => (congrArg e13 (ix4_eq' x)).trans (h13 (x 2) (x 3))
    obtain rfl : e14 = cAcc m c t := funext fun x => (congrArg e14 (ix4_eq x)).trans ((h14 (x 1) (x 2) (x 3)).trans ((acc_first h0 fun n => cTerm m c (pt n) (x 1) (x 2) (x 3)).trans (congrArg (fun p => 0 + cTerm m c p (x 1) (x 2) (x 3)) (pt_val t))).symm)
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    simp only [before_10 m c t h0, before_14 m c t h0]
    iapply ((runB c (grid0.coords t) _ _ _ _ _ _ _ _ _ _ _ _ _ _ _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (iblk m c 6 t) (iblk m c 7 t) (iblk m c 8 t) (iblk m c 9 t) (qAcc m c ⟨t.val - 1, Nat.lt_of_le_of_lt (Nat.sub_le _ _) t.isLt⟩) (cAcc m c ⟨t.val - 1, Nat.lt_of_le_of_lt (Nat.sub_le _ _) t.isLt⟩)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexact H14
    isplitl [HS0]; · iexact HS0
    isplitl [HS1]; · iexact HS1
    isplitl [HS2]; · iexact HS2
    iintro ⟨H0, H1, H2, H3, H4, H5, H6, H7, H8, H9, ⟨%e10, H10, %h10⟩, ⟨%e11, H11, %h11⟩, ⟨%e12, H12, %h12⟩, ⟨%e13, H13, %h13⟩, ⟨%e14, H14, %h14⟩, HS0, HS1, HS2⟩
    obtain rfl : e10 = qAcc m c t := funext fun x => (congrArg e10 (ix4_eq x)).trans ((h10 (x 1) (x 2) (x 3)).trans ((acc_next h0 fun n => qTerm m c (pt n) (x 1) (x 2) (x 3)).trans (congrArg (fun p => _ + qTerm m c p (x 1) (x 2) (x 3)) (pt_val t))).symm)
    obtain rfl : e11 = kOut m c t := funext fun x => (congrArg e11 (ix2_eq x)).trans (h11 (x 0) (x 1))
    obtain rfl : e12 = vOut m c t := funext fun x => (congrArg e12 (ix2_eq x)).trans (h12 (x 0) (x 1))
    obtain rfl : e13 = lOut m c t := funext fun x => (congrArg e13 (ix4_eq' x)).trans (h13 (x 2) (x 3))
    obtain rfl : e14 = cAcc m c t := funext fun x => (congrArg e14 (ix4_eq x)).trans ((h14 (x 1) (x 2) (x 3)).trans ((acc_next h0 fun n => cTerm m c (pt n) (x 1) (x 2) (x 3)).trans (congrArg (fun p => _ + cTerm m c p (x 1) (x 2) (x 3)) (pt_val t))).symm)
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch: every array at its final contents, every counter at zero. -/
theorem run_quiet : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := Ideal))) (s₀ m ρ) (Pipeline.FramePost cfgs (dats m) 0 (V m)) :=
  (θ_run defs _ _).mono (fun _ h => h.1) (run_quiet m ρ)

/-- The frame: the arguments end as they were, every counter at zero. -/
theorem frame_claim : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_post m ρ)) ((θ_run defs _ _).mono (fun _ h => h.2) (run_quiet m ρ))

end Cert.KernelIdeal.Hand
-- ==== Proof.Hand.Soft.lean ====
module

public import Idealize.ShloMosaic.PureOps.Ideal.Laws
public import Idealize.ShloMosaic.Lib.ValueIdx
public import Idealize.ShloMosaic.Lib.PointwiseCore
public import Idealize.ShloMosaic.Lib.IdealHost

@[expose] public section

/-! The attention's gradients over the reals, and the passage from extended reals that happen to be real. -/

noncomputable section

namespace Cert.Soft

open Idealize.ShloMosaic

/-- A sum of reals, taken among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem div_real {y : ℝ} (h : y ≠ 0) (x : ℝ) : Ideal.div (x : EReal) (y : EReal) = ((x / y : ℝ) : EReal) := by
  rw [Ideal.div_coe h, ← EReal.coe_mul]
  exact congrArg _ (div_eq_mul_one_div x y).symm

theorem bits_ninf : Ideal.ofBits .f32 0xFF800000#32 = ⊥ := by simp [Ideal.ofBits, Ideal.ieee]

theorem bits_eighth : Ideal.ofBits .f32 0x3E000000#32 = ((1 / 8 : ℝ) : EReal) := by
  simp [Ideal.ofBits, Ideal.ieee, -EReal.coe_mul]; norm_num

/-- The largest of a row, its exponentials over that, and their sum. -/
def mx (x : Fin 4096 → EReal) : EReal := Finset.univ.fold max (Ideal.ofBits .f32 0xFF800000#32) x
def ex (x : Fin 4096 → EReal) (s : Fin 4096) : EReal := Ideal.exp (x s - mx x)
def lsum (x : Fin 4096 → EReal) : EReal := ∑ s, ex x s

/-- A row of logits up to its own position. -/
def row (x : Fin 4096 → ℝ) (t s : Fin 4096) : EReal := if s ≤ t then (x s : EReal) else ⊥

/-- The row's sum of exponentials, and its softmax. -/
def zs (x : Fin 4096 → ℝ) (t : Fin 4096) : ℝ := ∑ u, if u ≤ t then Real.exp (x u) else 0
def sm (x : Fin 4096 → ℝ) (t s : Fin 4096) : ℝ := if s ≤ t then Real.exp (x s) / zs x t else 0

theorem zs_pos (x : Fin 4096 → ℝ) (t : Fin 4096) : 0 < zs x t := by
  refine Finset.sum_pos' (fun u _ => ?_) ⟨t, Finset.mem_univ _, ?_⟩
  · split_ifs
    · exact (Real.exp_pos _).le
    · exact le_rfl
  · rw [if_pos le_rfl]; exact Real.exp_pos _

theorem mx_real (x : Fin 4096 → ℝ) (t : Fin 4096) : ∃ M : ℝ, mx (row x t) = (M : EReal) := by
  have h1 : mx (row x t) = Finset.univ.sup (row x t) := by unfold mx; rw [bits_ninf]; rfl
  have h2 : mx (row x t) ≠ ⊥ := by
    rw [h1]
    refine ne_of_gt (lt_of_lt_of_le (EReal.bot_lt_coe (x t)) ?_)
    have := Finset.le_sup (f := row x t) (Finset.mem_univ t)
    rwa [show row x t t = (x t : EReal) from if_pos le_rfl] at this
  have h3 : mx (row x t) ≠ ⊤ := by
    rw [h1]
    refine ne_of_lt ((Finset.sup_lt_iff bot_lt_top).2 fun s _ => ?_)
    unfold row
    split_ifs
    · exact EReal.coe_lt_top _
    · exact bot_lt_top
  exact ⟨_, (EReal.coe_toReal h3 h2).symm⟩

theorem ex_real (x : Fin 4096 → ℝ) (t : Fin 4096) (M : ℝ) (h : mx (row x t) = (M : EReal)) (s : Fin 4096) :
    ex (row x t) s = ((if s ≤ t then Real.exp (x s - M) else 0 : ℝ) : EReal) := by
  unfold ex
  rw [h]
  unfold row
  split_ifs
  · rw [← EReal.coe_sub, Ideal.exp_coe]
  · rw [EReal.bot_sub, Ideal.exp_bot, EReal.coe_zero]

theorem sum_shift (x : Fin 4096 → ℝ) (t : Fin 4096) (M : ℝ) :
    (∑ s, if s ≤ t then Real.exp (x s - M) else 0 : ℝ) = zs x t / Real.exp M := by
  unfold zs
  rw [Finset.sum_div]
  refine Finset.sum_congr rfl fun s _ => ?_
  split_ifs
  · exact Real.exp_sub _ _
  · rw [zero_div]

theorem lsum_real (x : Fin 4096 → ℝ) (t : Fin 4096) (M : ℝ) (h : mx (row x t) = (M : EReal)) :
    lsum (row x t) = ((zs x t / Real.exp M : ℝ) : EReal) := by
  unfold lsum
  rw [Finset.sum_congr rfl fun s _ => ex_real x t M h s, coe_sum, sum_shift]

theorem lsum_pos (x : Fin 4096 → ℝ) (t : Fin 4096) (M : ℝ) : 0 < zs x t / Real.exp M := div_pos (zs_pos x t) (Real.exp_pos M)

theorem sm_div (x : Fin 4096 → ℝ) (t s : Fin 4096) (M : ℝ) :
    (if s ≤ t then Real.exp (x s - M) else 0) / (zs x t / Real.exp M) = sm x t s := by
  unfold sm
  split_ifs
  · rw [Real.exp_sub]
    have h1 := (zs_pos x t).ne'
    have h2 := (Real.exp_pos M).ne'
    field_simp
  · rw [zero_div]

/-- The row's exponential over its sum is the softmax. -/
theorem div_row (x : Fin 4096 → ℝ) (t s : Fin 4096) : Ideal.div (ex (row x t) s) (lsum (row x t)) = (sm x t s : EReal) := by
  obtain ⟨M, h⟩ := mx_real x t
  rw [ex_real x t M h s, lsum_real x t M h, div_real (lsum_pos x t M).ne']
  exact congrArg _ (sm_div x t s M)

/-- The row's largest plus the logarithm of its sum is the logarithm of the sum of exponentials. -/
theorem lse_row (x : Fin 4096 → ℝ) (t : Fin 4096) : mx (row x t) + Ideal.log (lsum (row x t)) = ((Real.log (zs x t) : ℝ) : EReal) := by
  obtain ⟨M, h⟩ := mx_real x t
  rw [h, lsum_real x t M h, Ideal.log_coe, if_neg (not_le.2 (lsum_pos x t M)), ← EReal.coe_add]
  refine congrArg _ ?_
  rw [Real.log_div (zs_pos x t).ne' (Real.exp_pos M).ne', Real.log_exp]
  ring

theorem exp_lse (x : Fin 4096 → ℝ) (t s : Fin 4096) (h : s ≤ t) : Real.exp (x s - Real.log (zs x t)) = sm x t s := by
  unfold sm
  rw [if_pos h, Real.exp_sub, Real.exp_log (zs_pos x t)]

/-- The softmax of a row does not see a constant added to it. -/
theorem sm_shift (x y : Fin 4096 → ℝ) (k : ℝ) (h : ∀ s, y s = x s + k) (t s : Fin 4096) : sm y t s = sm x t s := by
  have hz : zs y t = zs x t * Real.exp k := by
    unfold zs
    rw [Finset.sum_mul]
    refine Finset.sum_congr rfl fun u _ => ?_
    split_ifs
    · rw [h, Real.exp_add]
    · rw [zero_mul]
  unfold sm
  split_ifs
  · rw [hz, h, Real.exp_add, mul_div_mul_right _ _ (Real.exp_pos k).ne']
  · rfl

/-- The arguments as reals: queries, keys, values, the results' gradient, the running sums. -/
structure Ar where
  q : Fin 4096 → Fin 16 → Fin 64 → ℝ
  k : Fin 4096 → Fin 16 → Fin 64 → ℝ
  v : Fin 4096 → Fin 16 → Fin 64 → ℝ
  g : Fin 4096 → Fin 16 → Fin 64 → ℝ
  c : Fin 16 → Fin 4096 → ℝ

/-- The four argument arrays hold these reals. -/
structure Lifts (x0 : (⟨2, ![4096, 2048]⟩ : Shape).Idx → EReal) (x1 : (⟨2, ![4096, 2176]⟩ : Shape).Idx → EReal)
    (x2 : (⟨2, ![128, 4096]⟩ : Shape).Idx → EReal) (x3 : (⟨2, ![4096, 1024]⟩ : Shape).Idx → EReal) (a : Ar) : Prop where
  q : ∀ (t : Fin 4096) (h : Fin 16) (l : Fin 64), x0 (ix2 t ⟨h.val * 64 + l.val, by omega⟩) = (a.q t h l : EReal)
  k : ∀ (t : Fin 4096) (h : Fin 16) (l : Fin 64), x1 (ix2 t ⟨h.val * 64 + l.val, by omega⟩) = (a.k t h l : EReal)
  v : ∀ (t : Fin 4096) (h : Fin 16) (l : Fin 64), x1 (ix2 t ⟨1024 + (h.val * 64 + l.val), by omega⟩) = (a.v t h l : EReal)
  g : ∀ (t : Fin 4096) (h : Fin 16) (l : Fin 64), x3 (ix2 t ⟨h.val * 64 + l.val, by omega⟩) = (a.g t h l : EReal)
  c : ∀ (h : Fin 16) (t : Fin 4096), x2 (ix2 ⟨h.val, by omega⟩ t) = (a.c h t : EReal)

theorem exists_lifts (x0 : (⟨2, ![4096, 2048]⟩ : Shape).Idx → EReal) (x1 : (⟨2, ![4096, 2176]⟩ : Shape).Idx → EReal)
    (x2 : (⟨2, ![128, 4096]⟩ : Shape).Idx → EReal) (x3 : (⟨2, ![4096, 1024]⟩ : Shape).Idx → EReal)
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) : ∃ a, Lifts x0 x1 x2 x3 a := by
  choose f0 h0 using h0
  choose f1 h1 using h1
  choose f2 h2 using h2
  choose f3 h3 using h3
  exact ⟨⟨fun t h l => f0 (ix2 t ⟨h.val * 64 + l.val, by omega⟩), fun t h l => f1 (ix2 t ⟨h.val * 64 + l.val, by omega⟩),
    fun t h l => f1 (ix2 t ⟨1024 + (h.val * 64 + l.val), by omega⟩), fun t h l => f3 (ix2 t ⟨h.val * 64 + l.val, by omega⟩),
    fun h t => f2 (ix2 ⟨h.val, by omega⟩ t)⟩,
    ⟨fun _ _ _ => h0 _, fun _ _ _ => h1 _, fun _ _ _ => h1 _, fun _ _ _ => h3 _, fun _ _ => h2 _⟩⟩

section
variable {x0 : (⟨2, ![4096, 2048]⟩ : Shape).Idx → EReal} {x1 : (⟨2, ![4096, 2176]⟩ : Shape).Idx → EReal}
  {x2 : (⟨2, ![128, 4096]⟩ : Shape).Idx → EReal} {x3 : (⟨2, ![4096, 1024]⟩ : Shape).Idx → EReal} {a : Ar}

/-- The same by column: column `n` is dimension `n % 64` of head `n / 64`. -/
theorem Lifts.q' (ha : Lifts x0 x1 x2 x3 a) (t : Fin 4096) (n : ℕ) (hn : n < 1024) (hn' : n < 2048) :
    x0 (ix2 t ⟨n, hn'⟩) = (a.q t ⟨n / 64, by omega⟩ ⟨n % 64, by omega⟩ : EReal) := by
  have h := ha.q t ⟨n / 64, by omega⟩ ⟨n % 64, by omega⟩
  have e : n / 64 * 64 + n % 64 = n := by omega
  simpa only [e] using h
theorem Lifts.k' (ha : Lifts x0 x1 x2 x3 a) (t : Fin 4096) (n : ℕ) (hn : n < 1024) (hn' : n < 2176) :
    x1 (ix2 t ⟨n, hn'⟩) = (a.k t ⟨n / 64, by omega⟩ ⟨n % 64, by omega⟩ : EReal) := by
  have h := ha.k t ⟨n / 64, by omega⟩ ⟨n % 64, by omega⟩
  have e : n / 64 * 64 + n % 64 = n := by omega
  simpa only [e] using h
theorem Lifts.v' (ha : Lifts x0 x1 x2 x3 a) (t : Fin 4096) (n : ℕ) (hn : n < 1024) (hn' : 1024 + n < 2176) :
    x1 (ix2 t ⟨1024 + n, hn'⟩) = (a.v t ⟨n / 64, by omega⟩ ⟨n % 64, by omega⟩ : EReal) := by
  have h := ha.v t ⟨n / 64, by omega⟩ ⟨n % 64, by omega⟩
  have e : n / 64 * 64 + n % 64 = n := by omega
  simpa only [e] using h
theorem Lifts.g' (ha : Lifts x0 x1 x2 x3 a) (t : Fin 4096) (n : ℕ) (hn : n < 1024) :
    x3 (ix2 t ⟨n, hn⟩) = (a.g t ⟨n / 64, by omega⟩ ⟨n % 64, by omega⟩ : EReal) := by
  have h := ha.g t ⟨n / 64, by omega⟩ ⟨n % 64, by omega⟩
  have e : n / 64 * 64 + n % 64 = n := by omega
  simpa only [e] using h
end

variable (a : Ar)

/-- The logits without the query's own running sum, their softmax, and the gradients. -/
def lg (h : Fin 16) (t s : Fin 4096) : ℝ := (∑ d, a.q t h d * a.k s h d) * (1 / 8) - a.c h s
def wt (h : Fin 16) (t s : Fin 4096) : ℝ := sm (lg a h t) t s
def dp (h : Fin 16) (t s : Fin 4096) : ℝ := ∑ d, a.g t h d * a.v s h d
def dl (h : Fin 16) (t : Fin 4096) : ℝ := ∑ s, wt a h t s * dp a h t s
def ds (h : Fin 16) (t s : Fin 4096) : ℝ := wt a h t s * (dp a h t s - dl a h t)
def dq (t : Fin 4096) (h : Fin 16) (d : Fin 64) : ℝ := ∑ s, ds a h t s * (1 / 8) * a.k s h d
def dk (s : Fin 4096) (h : Fin 16) (d : Fin 64) : ℝ := ∑ t, ds a h t s * (1 / 8) * a.q t h d
def dv (s : Fin 4096) (h : Fin 16) (d : Fin 64) : ℝ := ∑ t, wt a h t s * a.g t h d
def dck (h : Fin 16) (s : Fin 4096) : ℝ := - ∑ t, ds a h t s
def dcq (h : Fin 16) (t : Fin 4096) : ℝ := ∑ s, ds a h t s

theorem wt_zero (h : Fin 16) (t s : Fin 4096) (hs : ¬ s ≤ t) : wt a h t s = 0 := if_neg hs
theorem ds_zero (h : Fin 16) (t s : Fin 4096) (hs : ¬ s ≤ t) : ds a h t s = 0 := by unfold ds; rw [wt_zero a h t s hs, zero_mul]

/-- The gradient of a logit, as the exponentials `E` over their sum `L` give it. -/
theorem ds_of (h : Fin 16) (t s : Fin 4096) (E : Fin 4096 → ℝ) (L : ℝ) (hL : L ≠ 0) (hE : ∀ u, E u / L = wt a h t u) :
    (dp a h t s / L + -(∑ u, dp a h t u * (1 / (L * L)) * E u)) * E s = ds a h t s := by
  have e : ∑ u, dp a h t u * (1 / (L * L)) * E u = dl a h t / L := by
    unfold dl
    rw [Finset.sum_div]
    refine Finset.sum_congr rfl fun u _ => ?_
    rw [← hE]
    field_simp
  unfold ds
  rw [e, ← hE]
  field_simp
  ring

/-- A sum over the positions, block by block. -/
theorem sum_blocks (f : Fin 4096 → ℝ) : ∑ x, f x = ∑ i : Fin 8, ∑ y : Fin 512, f ⟨i.val * 512 + y.val, by omega⟩ := by
  rw [← Fintype.sum_prod_type' (f := fun (i : Fin 8) (y : Fin 512) => f ⟨i.val * 512 + y.val, by omega⟩)]
  refine (Fintype.sum_equiv (finProdFinEquiv (m := 8) (n := 512)) _ f fun x => congrArg f (Fin.ext ?_)).symm
  show x.1.val * 512 + x.2.val = x.2.val + 512 * x.1.val
  omega

/-- A sum over two heads' columns, head by head. -/
theorem sum_halves (f : Fin 128 → ℝ) : ∑ l, f l = (∑ d : Fin 64, f ⟨d.val, by omega⟩) + ∑ d : Fin 64, f ⟨64 + d.val, by omega⟩ :=
  Fin.sum_univ_add (a := 64) (b := 64) f

end Cert.Soft
-- ==== Proof.Hand.Val.lean ====
module

public import proofs.«01_k».proof.Proof.Hand.Step
public import proofs.«01_k».proof.Proof.Hand.Soft
public import Idealize.ShloMosaic.Lib.IdealHost

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen
open Cert.Soft (Ar lg wt dp dl ds dq dk dv dck dcq zs sm wt_zero ds_zero exp_lse sum_blocks sum_halves coe_sum)

/-- Head `b` of head pair `p`. -/
def hh (p : Fin 8) (b : Fin 2) : Fin 16 := ⟨p.val * 2 + b.val, by omega⟩

/-- The place of column `l` within its head. -/
def dd (l : Fin 128) : Fin 64 := ⟨l.val % 64, by omega⟩

/-- The blocks of head pair `p` and key block `j`, as reals. -/
structure Reals (B : Blk) (a : Ar) (p j : Fin 8) : Prop where
  q : ∀ T l, B.q (ix2 T l) = ((a.q T (hh p (hd l)) (dd l) * (1 / 8) : ℝ) : EReal)
  qt : ∀ i l t, B.qt (ix4 0 i l t) = ((a.q (row i t) (hh p (hd l)) (dd l) * (1 / 8) : ℝ) : EReal)
  dob : ∀ T l, B.dob (ix2 T l) = ((a.g T (hh p (hd l)) (dd l) : ℝ) : EReal)
  dot : ∀ i l t, B.dot (ix4 0 i l t) = ((a.g (row i t) (hh p (hd l)) (dd l) : ℝ) : EReal)
  kt : ∀ l s, B.kt (ix4 0 0 l s) = ((a.k (row j s) (hh p (hd l)) (dd l) * (1 / 8) : ℝ) : EReal)
  v : ∀ s l, B.v (ix2 s l) = ((a.v (row j s) (hh p (hd l)) (dd l) : ℝ) : EReal)
  ka : ∀ s l, B.ka (ix2 s l) = ((if l.val < 64 then a.k (row j s) (hh p 0) (dd l) else if l.val = 64 then a.c (hh p 0) (row j s) else 0 : ℝ) : EReal)
  kb : ∀ s l, B.kb (ix2 s l) = ((if l.val < 64 then (if l.val = 0 then a.c (hh p 1) (row j s) else 0) else a.k (row j s) (hh p 1) (dd l) : ℝ) : EReal)
  lse : ∀ i b t, B.lse (ix4 0 i b t) = ((Real.log (zs (lg a (hh p b) (row i t)) (row i t)) : ℝ) : EReal)
  dsum : ∀ i b t, B.dsum (ix4 0 i b t) = ((dl a (hh p b) (row i t) : ℝ) : EReal)

section
variable {B : Blk} {a : Ar} {p j : Fin 8} (hB : Reals B a p j)
include hB

theorem St_real (b : Fin 2) (i : Fin 8) (s t : Fin 512) : B.St b i s t = ((lg a (hh p b) (row i t) (row j s) : ℝ) : EReal) := by
  have hneg : (-1 : EReal) = ((-1 : ℝ) : EReal) := by simp
  have hlo : ∀ d : Fin 64, hd ⟨d.val, by omega⟩ = 0 := fun d => (hd_zero _).2 d.isLt
  have hhi : ∀ d : Fin 64, hd ⟨64 + d.val, by omega⟩ = 1 := fun d => (hd_one _).2 (by simp)
  have dlo : ∀ d : Fin 64, dd ⟨d.val, by omega⟩ = d := fun d => Fin.ext (Nat.mod_eq_of_lt d.isLt)
  have dhi : ∀ d : Fin 64, dd ⟨64 + d.val, by omega⟩ = d := fun d => Fin.ext (by simp [dd])
  obtain rfl | rfl : b = 0 ∨ b = 1 := by omega
  · have e : ∀ l : Fin 128, B.kx 0 (ix2 s l) * B.ext 0 i l t =
        (((if l.val < 64 then a.k (row j s) (hh p 0) (dd l) else if l.val = 64 then a.c (hh p 0) (row j s) else 0) *
          (if l.val < 64 then a.q (row i t) (hh p (hd l)) (dd l) * (1 / 8) else if l.val < 67 then -1 else 0) : ℝ) : EReal) := by
      intro l
      rw [EReal.coe_mul, ← hB.ka s l]
      refine congrArg₂ (· * ·) (by simp [Blk.kx]) ?_
      unfold Blk.ext
      simp only [hd_zero, hB.qt, hneg, if_true, apply_ite (fun r : ℝ => (r : EReal)), EReal.coe_zero]
    unfold Blk.St
    rw [Finset.sum_congr rfl fun l _ => e l, coe_sum, sum_halves]
    refine congrArg (fun r : ℝ => (r : EReal)) ?_
    unfold lg
    rw [Finset.sum_mul, sub_eq_add_neg]
    refine congrArg₂ (· + ·) (Finset.sum_congr rfl fun d _ => ?_) ?_
    · simp only [hlo, dlo, d.isLt, if_true]; ring
    · rw [Finset.sum_eq_single (0 : Fin 64)]
      · simp
      · intro d _ hd0
        have : ¬ (64 + d.val < 64) := by omega
        have h2 : ¬ (64 + d.val = 64) := fun h => hd0 (Fin.ext (by simp; omega))
        simp only [this, h2, if_false, zero_mul]
      · simp
  · have e : ∀ l : Fin 128, B.kx 1 (ix2 s l) * B.ext 1 i l t =
        (((if l.val < 64 then (if l.val = 0 then a.c (hh p 1) (row j s) else 0) else a.k (row j s) (hh p 1) (dd l)) *
          (if 64 ≤ l.val then a.q (row i t) (hh p (hd l)) (dd l) * (1 / 8) else if l.val < 3 then -1 else 0) : ℝ) : EReal) := by
      intro l
      rw [EReal.coe_mul, ← hB.kb s l]
      refine congrArg₂ (· * ·) (by simp [Blk.kx]) ?_
      unfold Blk.ext
      simp only [hd_one, hB.qt, hneg, one_ne_zero, if_false, apply_ite (fun r : ℝ => (r : EReal)), EReal.coe_zero]
    unfold Blk.St
    rw [Finset.sum_congr rfl fun l _ => e l, coe_sum, sum_halves]
    refine congrArg (fun r : ℝ => (r : EReal)) ?_
    unfold lg
    rw [Finset.sum_mul, sub_eq_add_neg, add_comm]
    refine congrArg₂ (· + ·) (Finset.sum_congr rfl fun d _ => ?_) ?_
    · have h1 : ¬ (64 + d.val < 64) := by omega
      have h2 : 64 ≤ 64 + d.val := by omega
      simp only [hhi, dhi, h1, h2, if_true, if_false]; ring
    · rw [Finset.sum_eq_single (0 : Fin 64)]
      · simp
      · intro d _ hd0
        have h2 : ¬ (d.val = 0) := fun h => hd0 (Fin.ext (by simp; omega))
        simp only [d.isLt, h2, if_true, if_false, zero_mul]
      · simp

theorem Dp_real (b : Fin 2) (i : Fin 8) (s t : Fin 512) : B.Dp b i s t = ((dp a (hh p b) (row i t) (row j s) : ℝ) : EReal) := by
  have hlo : ∀ d : Fin 64, hd ⟨d.val, by omega⟩ = 0 := fun d => (hd_zero _).2 d.isLt
  have hhi : ∀ d : Fin 64, hd ⟨64 + d.val, by omega⟩ = 1 := fun d => (hd_one _).2 (by simp)
  have dlo : ∀ d : Fin 64, dd ⟨d.val, by omega⟩ = d := fun d => Fin.ext (Nat.mod_eq_of_lt d.isLt)
  have dhi : ∀ d : Fin 64, dd ⟨64 + d.val, by omega⟩ = d := fun d => Fin.ext (by simp [dd])
  have e : ∀ l : Fin 128, (if hd l = b then B.v (ix2 s l) else 0) * B.dot (ix4 0 i l t) =
      (((if hd l = b then a.v (row j s) (hh p (hd l)) (dd l) else 0) * a.g (row i t) (hh p (hd l)) (dd l) : ℝ) : EReal) := by
    intro l
    rw [EReal.coe_mul, hB.v, hB.dot]
    simp only [apply_ite (fun r : ℝ => (r : EReal)), EReal.coe_zero]
  unfold Blk.Dp
  rw [Finset.sum_congr rfl fun l _ => e l, coe_sum, sum_halves]
  refine congrArg (fun r : ℝ => (r : EReal)) ?_
  simp only [hlo, hhi, dlo, dhi, dp]
  obtain rfl | rfl : b = 0 ∨ b = 1 := by omega
  · simp only [if_true, one_ne_zero, if_false, zero_mul, Finset.sum_const_zero, add_zero, mul_comm]
  · simp only [if_true, zero_ne_one, if_false, zero_mul, Finset.sum_const_zero, zero_add, mul_comm]

theorem Pm_real (b : Fin 2) (i : Fin 8) (h : j ≤ i) (s t : Fin 512) : B.Pm b j i s t = ((wt a (hh p b) (row i t) (row j s) : ℝ) : EReal) := by
  unfold Blk.Pm
  by_cases hs : j < i ∨ s ≤ t
  · have hr : row j s ≤ row i t := by
      show 512 * j.val + s.val ≤ 512 * i.val + t.val
      have h1 : j.val ≤ i.val := h
      have h2 : j.val < i.val ∨ s.val ≤ t.val := hs
      omega
    rw [if_pos hs, St_real hB, hB.lse, ← EReal.coe_sub, Ideal.exp_coe, exp_lse _ _ _ hr]
    rfl
  · have hr : ¬ row j s ≤ row i t := by
      intro hr
      have hr : 512 * j.val + s.val ≤ 512 * i.val + t.val := hr
      have h1 : j.val ≤ i.val := h
      have h2 : ¬ (j.val < i.val ∨ s.val ≤ t.val) := hs
      omega
    rw [if_neg hs, wt_zero _ _ _ _ hr, EReal.coe_zero]

theorem Ds_real (b : Fin 2) (i : Fin 8) (h : j ≤ i) (s t : Fin 512) : B.Ds b j i s t = ((ds a (hh p b) (row i t) (row j s) : ℝ) : EReal) := by
  unfold Blk.Ds
  rw [Pm_real hB b i h, Dp_real hB, hB.dsum, ← EReal.coe_sub, ← EReal.coe_mul]
  rfl

theorem cq_real (i : Fin 8) (h : j ≤ i) (l : Fin 128) (t : Fin 512) :
    B.cq j i l t = ((∑ s : Fin 512, ds a (hh p (hd l)) (row i t) (row j s) * (1 / 8) * a.k (row j s) (hh p (hd l)) (dd l) : ℝ) : EReal) := by
  unfold Blk.cq
  rw [← coe_sum]
  refine Finset.sum_congr rfl fun s _ => ?_
  rw [hB.kt, Ds_real hB _ i h, ← EReal.coe_mul]
  exact congrArg (fun r : ℝ => (r : EReal)) (by ring)

omit hB in
theorem pick (f : Fin 2 → ℝ) (l : Fin 128) : (if hd l = 0 then f 0 else 0) + (if hd l = 1 then f 1 else 0) = f (hd l) := by
  obtain h | h : hd l = 0 ∨ hd l = 1 := by omega
  · simp [h]
  · simp [h]

theorem ck_real (i : Fin 8) (h : j ≤ i) (s : Fin 512) (l : Fin 128) :
    B.ck j i s l = ((∑ t : Fin 512, ds a (hh p (hd l)) (row i t) (row j s) * (1 / 8) * a.q (row i t) (hh p (hd l)) (dd l) : ℝ) : EReal) := by
  unfold Blk.ck
  have e : ∀ (b : Fin 2) (t : Fin 512), B.Ds b j i s t * (if hd l = b then B.q (ix2 (row i t) l) else 0) =
      ((if hd l = b then ds a (hh p b) (row i t) (row j s) * (1 / 8) * a.q (row i t) (hh p (hd l)) (dd l) else 0 : ℝ) : EReal) := by
    intro b t
    rw [Ds_real hB _ i h, hB.q]
    split
    · rw [← EReal.coe_mul]; exact congrArg (fun r : ℝ => (r : EReal)) (by ring)
    · rw [mul_zero, EReal.coe_zero]
  rw [Finset.sum_congr rfl fun t _ => e 0 t, Finset.sum_congr rfl fun t _ => e 1 t, coe_sum, coe_sum, ← EReal.coe_add, ← Finset.sum_add_distrib]
  refine congrArg (fun r : ℝ => (r : EReal)) (Finset.sum_congr rfl fun t _ => ?_)
  exact pick (fun b => ds a (hh p b) (row i t) (row j s) * (1 / 8) * a.q (row i t) (hh p (hd l)) (dd l)) l

theorem cv_real (i : Fin 8) (h : j ≤ i) (s : Fin 512) (l : Fin 128) :
    B.cv j i s l = ((∑ t : Fin 512, wt a (hh p (hd l)) (row i t) (row j s) * a.g (row i t) (hh p (hd l)) (dd l) : ℝ) : EReal) := by
  unfold Blk.cv
  have e : ∀ (b : Fin 2) (t : Fin 512), B.Pm b j i s t * (if hd l = b then B.dob (ix2 (row i t) l) else 0) =
      ((if hd l = b then wt a (hh p b) (row i t) (row j s) * a.g (row i t) (hh p (hd l)) (dd l) else 0 : ℝ) : EReal) := by
    intro b t
    rw [Pm_real hB _ i h, hB.dob]
    split
    · rw [← EReal.coe_mul]
    · rw [mul_zero, EReal.coe_zero]
  rw [Finset.sum_congr rfl fun t _ => e 0 t, Finset.sum_congr rfl fun t _ => e 1 t, coe_sum, coe_sum, ← EReal.coe_add, ← Finset.sum_add_distrib]
  refine congrArg (fun r : ℝ => (r : EReal)) (Finset.sum_congr rfl fun t _ => ?_)
  exact pick (fun b => wt a (hh p b) (row i t) (row j s) * a.g (row i t) (hh p (hd l)) (dd l)) l

theorem cc_real (b : Fin 2) (i : Fin 8) (h : j ≤ i) (t : Fin 512) :
    B.cc b j i t = ((∑ s : Fin 512, ds a (hh p b) (row i t) (row j s) : ℝ) : EReal) := by
  unfold Blk.cc
  rw [← coe_sum]
  exact Finset.sum_congr rfl fun s _ => Ds_real hB b i h s t

omit hB in
/-- A sum over 512 columns, by its four groups of 128. -/
theorem sum_groups (f : Fin 512 → ℝ) :
    ∑ l : Fin 128, (f ⟨l.val, by omega⟩ + f ⟨128 + l.val, by omega⟩ + f ⟨256 + l.val, by omega⟩ + f ⟨384 + l.val, by omega⟩) = ∑ t, f t := by
  have e1 : ∑ t, f t = (∑ x : Fin 256, f ⟨x.val, by omega⟩) + ∑ x : Fin 256, f ⟨256 + x.val, by omega⟩ := Fin.sum_univ_add (a := 256) (b := 256) f
  have e2 : ∑ x : Fin 256, f ⟨x.val, by omega⟩ = (∑ x : Fin 128, f ⟨x.val, by omega⟩) + ∑ x : Fin 128, f ⟨128 + x.val, by omega⟩ :=
    Fin.sum_univ_add (a := 128) (b := 128) fun x : Fin 256 => f ⟨x.val, by omega⟩
  have e3 : ∑ x : Fin 256, f ⟨256 + x.val, by omega⟩ = (∑ x : Fin 128, f ⟨256 + x.val, by omega⟩) + ∑ x : Fin 128, f ⟨256 + (128 + x.val), by omega⟩ :=
    Fin.sum_univ_add (a := 128) (b := 128) fun x : Fin 256 => f ⟨256 + x.val, by omega⟩
  rw [e1, e2, e3, ← Finset.sum_add_distrib, ← Finset.sum_add_distrib, ← Finset.sum_add_distrib]
  refine Finset.sum_congr rfl fun l _ => ?_
  have e4 : (⟨256 + (128 + l.val), by omega⟩ : Fin 512) = ⟨384 + l.val, by omega⟩ := Fin.ext (by show 256 + (128 + l.val) = 384 + l.val; omega)
  rw [e4]; ring

theorem cl_real (b : Fin 2) (i : Fin 8) (h : j ≤ i) (s : Fin 512) :
    ∑ l, B.cl b j i s l = ((∑ t : Fin 512, ds a (hh p b) (row i t) (row j s) : ℝ) : EReal) := by
  rw [← sum_groups, ← coe_sum]
  refine Finset.sum_congr rfl fun l _ => ?_
  unfold Blk.cl
  simp only [Ds_real hB b i h, EReal.coe_add]

end

end Cert.KernelIdeal.Hand
-- ==== Proof.Hand.Host.lean ====
module

public import proofs.«01_k».proof.Proof.Gen.KernelIdeal.Frame
public import Idealize.ShloMosaic.Lib.Pointwise
public import Idealize.ShloMosaic.Lib.StableHlo.ReadAt
public import Idealize.ShloMosaic.Lib.Tactic.WordOmega
public import Idealize.ShloMosaic.Lib.Pipeline.ValueKit
public import Idealize.ShloMosaic.Lib.IdealHost
public import proofs.«01_k».proof.Proof.Hand.Soft

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen
open Idealize.ShloMosaic.Pipeline (Dat Cfg Window cellOf)

open Cert.Soft

variable (m : (ℓ : Loc nD τ sig) → Buf (Elt Ideal) ℓ) (ρ : Dev nD → PrngReg)

variable (W : Valuation τ sig (Elt Ideal))
set_option maxHeartbeats 1600000
abbrev X0 : List (HloOp τ sig (Elt Ideal)) := List.flatten [hostOps0, hostOps0_1]
abbrev B0 : List (HloOp τ sig (Elt Ideal)) := hostOps0_2.take 2
abbrev B1 : List (HloOp τ sig (Elt Ideal)) := (hostOps0_2.drop 2).take 4
abbrev B2 : List (HloOp τ sig (Elt Ideal)) := (hostOps0_2.drop 6).take 2
abbrev B3 : List (HloOp τ sig (Elt Ideal)) := hostOps0_2.drop 8

/-- The arguments of a device hold these reals. -/
abbrev KL (c : Dev nD) (a : Ar) : Prop := Lifts (m (c, Proc.devRef .tc main_arg0)) (m (c, Proc.devRef .tc main_arg1)) (m (c, Proc.devRef .tc main_arg2)) (m (c, Proc.devRef .tc main_arg3)) a

theorem b0 (x : FVec Ideal S16x4096x4096 .f32) (hx : W (Proc.devRef .tc main_v20) = x) (h : Fin 16) (t : Fin 4096) :
    (StableHlo.after B0 W (Proc.devRef .tc main_v21) (ix2 h t) : EReal) = mx (fun s => x (ix3 h t s)) := by
  subst hx
  after_reads_at
  rfl
theorem b0_20 : StableHlo.after B0 W (Proc.devRef .tc main_v20) = W (Proc.devRef .tc main_v20) := by after_reads_simp
theorem b0_5 : StableHlo.after B0 W (Proc.devRef .tc main_v5) = W (Proc.devRef .tc main_v5) := by after_reads_simp
theorem b0_3 : StableHlo.after B0 W (Proc.devRef .tc main_arg3) = W (Proc.devRef .tc main_arg3) := by after_reads_simp
theorem b1 (x : FVec Ideal S16x4096x4096 .f32) (hx : W (Proc.devRef .tc main_v20) = x) (y : FVec Ideal S16x4096 .f32) (hy : W (Proc.devRef .tc main_v21) = y)
    (h : Fin 16) (t s : Fin 4096) :
    (StableHlo.after B1 W (Proc.devRef .tc main_v25) (ix3 h t s) : EReal) = Ideal.exp ((x (ix3 h t s) : EReal) - (y (ix2 h t) : EReal)) := by
  subst hx hy
  after_reads_at
theorem b1_22 (h : Fin 16) (t : Fin 4096) :
    (StableHlo.after B1 W (Proc.devRef .tc main_v22) (ix3 h t 0) : EReal) = W (Proc.devRef .tc main_v21) (ix2 h t) := by
  after_reads_at
theorem b1_5 : StableHlo.after B1 W (Proc.devRef .tc main_v5) = W (Proc.devRef .tc main_v5) := by after_reads_simp
theorem b1_3 : StableHlo.after B1 W (Proc.devRef .tc main_arg3) = W (Proc.devRef .tc main_arg3) := by after_reads_simp
theorem b2 (x : FVec Ideal S16x4096x4096 .f32) (hx : W (Proc.devRef .tc main_v25) = x) (h : Fin 16) (t : Fin 4096) :
    (StableHlo.after B2 W (Proc.devRef .tc main_v26) (ix2 h t) : EReal) = ∑ s : Fin 4096, (x (ix3 h t s) : EReal) := by
  subst hx
  after_reads_at
theorem b2_22 : StableHlo.after B2 W (Proc.devRef .tc main_v22) = W (Proc.devRef .tc main_v22) := by after_reads_simp
theorem b2_25 : StableHlo.after B2 W (Proc.devRef .tc main_v25) = W (Proc.devRef .tc main_v25) := by after_reads_simp
theorem b2_5 : StableHlo.after B2 W (Proc.devRef .tc main_v5) = W (Proc.devRef .tc main_v5) := by after_reads_simp
theorem b2_3 : StableHlo.after B2 W (Proc.devRef .tc main_arg3) = W (Proc.devRef .tc main_arg3) := by after_reads_simp
theorem b3_32 (x : FVec Ideal S16x4096x1 .f32) (hx : W (Proc.devRef .tc main_v22) = x) (y : FVec Ideal S16x4096 .f32) (hy : W (Proc.devRef .tc main_v26) = y)
    (h i : Fin 8) (l : Fin 2) (t : Fin 512) :
    (StableHlo.after B3 W (Proc.devRef .tc main_v32) (ix4 h i l t) : EReal) =
       (x (ix3 ⟨h.val * 2 + l.val, by omega⟩ ⟨i.val * 512 + t.val, by omega⟩ 0) : EReal) +
      Ideal.log (y (ix2 ⟨h.val * 2 + l.val, by omega⟩ ⟨i.val * 512 + t.val, by omega⟩)) := by
  subst hx hy
  after_reads_at
theorem b3_77 (x : FVec Ideal S16x4096x4096 .f32) (hx : W (Proc.devRef .tc main_v25) = x) (y : FVec Ideal S16x4096 .f32) (hy : W (Proc.devRef .tc main_v26) = y)
    (v : FVec Ideal S4096x16x64 .f32) (hv : W (Proc.devRef .tc main_v5) = v) (g : FVec Ideal S4096x1024 .f32) (hg : W (Proc.devRef .tc main_arg3) = g)
    (h i : Fin 8) (l : Fin 2) (t : Fin 512) :
    (StableHlo.after B3 W (Proc.devRef .tc main_v77) (ix4 h i l t) : EReal) =
      ∑ d : Fin 64, (g (ix2 ⟨i.val * 512 + t.val, by omega⟩ ⟨(h.val * 2 + l.val) * 64 + d.val, by omega⟩) : EReal) *
        ∑ s : Fin 4096, (v (ix3 s ⟨h.val * 2 + l.val, by omega⟩ d) : EReal) *
          Ideal.div (x (ix3 ⟨h.val * 2 + l.val, by omega⟩ ⟨i.val * 512 + t.val, by omega⟩ s)) (y (ix2 ⟨h.val * 2 + l.val, by omega⟩ ⟨i.val * 512 + t.val, by omega⟩)) := by
  subst hx hy hv hg
  after_reads_at
theorem x0_5 (x : FVec Ideal S4096x2176 .f32) (hx : W (Proc.devRef .tc main_arg1) = x) (h : Fin 16) (t : Fin 4096) (l : Fin 64) :
    (StableHlo.after X0 W (Proc.devRef .tc main_v5) (ix3 t h l) : EReal) = x (ix2 t ⟨1024 + (h.val * 64 + l.val), by omega⟩) := by
  subst hx
  after_reads_at
theorem x0_3 : StableHlo.after X0 W (Proc.devRef .tc main_arg3) = W (Proc.devRef .tc main_arg3) := by after_reads_simp
theorem sge_iff (t s : Fin 4096) : IntOp.cmpi CmpIPredicate.sge (BitVec.ofNat 32 t.val) (BitVec.ofNat 32 s.val) = if s ≤ t then 1#1 else 0#1 := by
  have ht := t.isLt
  have hs := s.isLt
  split_ifs with h
  · rw [Fin.le_def] at h
    word_omega
  · rw [Fin.le_def] at h
    word_omega
theorem x0_20 (c : Dev nD) (a : Ar) (ha : KL m c a) (h : Fin 16) (t s : Fin 4096) :
    (StableHlo.after X0 (fun b => m (c, b)) (Proc.devRef .tc main_v20) (ix3 h t s) : EReal) = row (lg a h t) t s := by
  after_reads_at
  rw [sge_iff]
  unfold row lg
  split_ifs with hs
  · rw [show ∀ p q : EReal, Scalar.select (1#1) p q = p from fun _ _ => rfl]
    simp only [ha.q, ha.k, ha.c, bits_eighth, ← EReal.coe_mul, coe_sum, ← EReal.coe_sub]
  · exact bits_ninf
theorem V_eq (c : Dev nD) (b : Ref sig .tc) :
    V m c b = StableHlo.after B3 (StableHlo.after B2 (StableHlo.after B1 (StableHlo.after B0 (StableHlo.after X0 (fun b => m (c, b)))))) b := by
  unfold V
  rw [show List.flatten [hostOps0, hostOps0_1, hostOps0_2] = (X0 ++ (B0 ++ (B1 ++ (B2 ++ B3))) : List (HloOp τ sig (Elt Ideal))) from rfl]
  rw [StableHlo.after_append, StableHlo.after_append, StableHlo.after_append, StableHlo.after_append]

variable (c : Dev nD) (a : Ar) (ha : KL m c a)
abbrev W0 : Valuation τ sig (Elt Ideal) := StableHlo.after X0 (fun b => m (c, b))
abbrev W1 : Valuation τ sig (Elt Ideal) := StableHlo.after B0 (W0 m c)
abbrev W2 : Valuation τ sig (Elt Ideal) := StableHlo.after B1 (W1 m c)
abbrev W3 : Valuation τ sig (Elt Ideal) := StableHlo.after B2 (W2 m c)

include ha in
theorem w1_21 (h : Fin 16) (t : Fin 4096) : (W1 m c (Proc.devRef .tc main_v21) (ix2 h t) : EReal) = mx (row (lg a h t) t) :=
  (b0 _ _ rfl h t).trans (congrArg mx (funext fun s => x0_20 m c a ha h t s))
include ha in
theorem w2_25 (h : Fin 16) (t s : Fin 4096) : (W2 m c (Proc.devRef .tc main_v25) (ix3 h t s) : EReal) = ex (row (lg a h t) t) s := by
  refine (b1 _ _ rfl _ rfl h t s).trans ?_
  unfold ex
  refine congrArg Ideal.exp (congrArg₂ (fun p q : EReal => p - q) ?_ (w1_21 m c a ha h t))
  exact (congrFun (b0_20 _) _).trans (x0_20 m c a ha h t s)
include ha in
theorem w3_26 (h : Fin 16) (t : Fin 4096) : (W3 m c (Proc.devRef .tc main_v26) (ix2 h t) : EReal) = lsum (row (lg a h t) t) := by
  refine Eq.trans (α := EReal) (b2 _ _ rfl h t) ?_
  unfold lsum
  exact Finset.sum_congr (M := EReal) rfl fun s _ => w2_25 m c a ha h t s
include ha in
theorem V_32 (h i : Fin 8) (l : Fin 2) (t : Fin 512) :
    (V m c main_v32 (ix4 h i l t) : EReal) =
      ((Real.log (zs (lg a ⟨h.val * 2 + l.val, by omega⟩ ⟨i.val * 512 + t.val, by omega⟩) ⟨i.val * 512 + t.val, by omega⟩) : ℝ) : EReal) := by
  refine (congrFun (V_eq m c main_v32) _).trans ((b3_32 _ _ rfl _ rfl h i l t).trans ?_)
  refine Eq.trans (congrArg₂ (fun p q : EReal => p + Ideal.log q) ?_ (w3_26 m c a ha _ _)) (lse_row _ _)
  exact (congrFun (b2_22 _) _).trans ((b1_22 _ _ _).trans (w1_21 m c a ha _ _))
include ha in
theorem V_77 (h i : Fin 8) (l : Fin 2) (t : Fin 512) :
    (V m c main_v77 (ix4 h i l t) : EReal) =
      ((dl a ⟨h.val * 2 + l.val, by omega⟩ ⟨i.val * 512 + t.val, by omega⟩ : ℝ) : EReal) := by
  refine Eq.trans (α := EReal) (congrFun (V_eq m c main_v77) _) (Eq.trans (α := EReal) (b3_77 _ _ rfl _ rfl _ rfl _ rfl h i l t) ?_)
  have e1 : ∀ n : Fin 1024, (W3 m c (Proc.devRef .tc main_arg3) (ix2 ⟨i.val * 512 + t.val, by omega⟩ n) : EReal) =
      m (c, Proc.devRef .tc main_arg3) (ix2 ⟨i.val * 512 + t.val, by omega⟩ n) := fun n =>
    (congrFun (b2_3 _) _).trans ((congrFun (b1_3 _) _).trans ((congrFun (b0_3 _) _).trans (congrFun (x0_3 _) _)))
  have e2 : ∀ (s : Fin 4096) (d : Fin 64), (W3 m c (Proc.devRef .tc main_v5) (ix3 s ⟨h.val * 2 + l.val, by omega⟩ d) : EReal) =
      (a.v s ⟨h.val * 2 + l.val, by omega⟩ d : EReal) := fun s d =>
    (congrFun (b2_5 _) _).trans ((congrFun (b1_5 _) _).trans ((congrFun (b0_5 _) _).trans ((x0_5 _ _ rfl _ s d).trans (ha.v s ⟨h.val * 2 + l.val, by omega⟩ d))))
  have e3 : ∀ s : Fin 4096, Ideal.div (W3 m c (Proc.devRef .tc main_v25) (ix3 ⟨h.val * 2 + l.val, by omega⟩ ⟨i.val * 512 + t.val, by omega⟩ s))
      (W3 m c (Proc.devRef .tc main_v26) (ix2 ⟨h.val * 2 + l.val, by omega⟩ ⟨i.val * 512 + t.val, by omega⟩)) =
      (wt a ⟨h.val * 2 + l.val, by omega⟩ ⟨i.val * 512 + t.val, by omega⟩ s : EReal) := fun s =>
    (congrArg₂ Ideal.div ((congrFun (b2_25 _) _).trans (w2_25 m c a ha _ _ s)) (w3_26 m c a ha _ _)).trans (div_row _ _ _)
  refine Eq.trans (α := EReal) (Finset.sum_congr (M := EReal) rfl fun d _ => congrArg₂ (fun p q : EReal => p * q) ((e1 _).trans (ha.g ⟨i.val * 512 + t.val, by omega⟩ ⟨h.val * 2 + l.val, by omega⟩ d))
    (Finset.sum_congr (M := EReal) rfl fun s _ => congrArg₂ (fun p q : EReal => p * q) (e2 s d) (e3 s))) ?_
  simp only [← EReal.coe_mul, coe_sum]
  refine congrArg (fun r : ℝ => (r : EReal)) ?_
  unfold dl dp
  simp only [Finset.mul_sum]
  rw [Finset.sum_comm]
  exact Finset.sum_congr rfl fun s _ => Finset.sum_congr rfl fun d _ => by ring
include ha in
theorem V_81 (t : Fin 4096) (n : Fin 1024) :
    (V m c main_v81 (ix2 t n) : EReal) = ((a.q t ⟨n.val / 64, by omega⟩ ⟨n.val % 64, by omega⟩ * (1 / 8) : ℝ) : EReal) := by
  unfold V
  after_reads_at
  rw [ha.q' t n.val n.isLt, bits_eighth, ← EReal.coe_mul]
include ha in
theorem V_82 (t : Fin 4096) (n : Fin 1024) :
    (V m c main_v82 (ix2 t n) : EReal) = ((a.g t ⟨n.val / 64, by omega⟩ ⟨n.val % 64, by omega⟩ : ℝ) : EReal) := by
  unfold V
  after_reads_at
  exact ha.g' t n.val n.isLt
include ha in
theorem V_94 (t : Fin 4096) (n : Fin 1024) :
    (V m c main_v94 (ix2 t n) : EReal) = ((a.v t ⟨n.val / 64, by omega⟩ ⟨n.val % 64, by omega⟩ : ℝ) : EReal) := by
  unfold V
  after_reads_at
  exact ha.v' t n.val n.isLt (by omega)
include ha in
theorem V_85 (h i : Fin 8) (l : Fin 128) (t : Fin 512) :
    (V m c main_v85 (ix4 h i l t) : EReal) = ((a.q ⟨i.val * 512 + t.val, by omega⟩ ⟨(h.val * 128 + l.val) / 64, by omega⟩ ⟨(h.val * 128 + l.val) % 64, by omega⟩ * (1 / 8) : ℝ) : EReal) := by
  unfold V
  after_reads_at
  rw [ha.q' _ (h.val * 128 + l.val) (by omega), bits_eighth, ← EReal.coe_mul]
include ha in
theorem V_87 (h i : Fin 8) (l : Fin 128) (t : Fin 512) :
    (V m c main_v87 (ix4 h i l t) : EReal) = ((a.g ⟨i.val * 512 + t.val, by omega⟩ ⟨(h.val * 128 + l.val) / 64, by omega⟩ ⟨(h.val * 128 + l.val) % 64, by omega⟩ : ℝ) : EReal) := by
  unfold V
  after_reads_at
  exact ha.g' _ (h.val * 128 + l.val) (by omega)
include ha in
theorem V_92 (h i : Fin 8) (l : Fin 128) (t : Fin 512) :
    (V m c main_v92 (ix4 h i l t) : EReal) = ((a.k ⟨i.val * 512 + t.val, by omega⟩ ⟨(h.val * 128 + l.val) / 64, by omega⟩ ⟨(h.val * 128 + l.val) % 64, by omega⟩ * (1 / 8) : ℝ) : EReal) := by
  unfold V
  after_reads_at
  rw [ha.k' _ (h.val * 128 + l.val) (by omega), bits_eighth, ← EReal.coe_mul]
theorem V_64_raw (x1 : FVec Ideal S4096x2176 .f32) (h1 : m (c, Proc.devRef .tc main_arg1) = x1) (x2 : FVec Ideal S128x4096 .f32) (h2 : m (c, Proc.devRef .tc main_arg2) = x2)
    (t : Fin 4096) (n : Fin 1024) :
    (V m c main_v64 (ix2 t n) : EReal) = (if h : n.val % 128 < 64 then (x1 (ix2 t ⟨n.val / 128 * 128 + n.val % 128, by omega⟩) : EReal)
    else
      if h : n.val % 128 - 64 < 3 then
        if h_1 : n.val % 128 - 64 < 1 then (x2 (ix2 ⟨n.val / 128 * 2, by omega⟩ t) : EReal)
        else
          if h_2 : n.val % 128 - 64 - 1 < 1 then (x2 (ix2 ⟨n.val / 128 * 2, by omega⟩ t) : EReal) - (x2 (ix2 ⟨n.val / 128 * 2, by omega⟩ t) : EReal)
          else
            (x2 (ix2 ⟨n.val / 128 * 2, by omega⟩ t) : EReal) - (x2 (ix2 ⟨n.val / 128 * 2, by omega⟩ t) : EReal) -
              ((x2 (ix2 ⟨n.val / 128 * 2, by omega⟩ t) : EReal) - (x2 (ix2 ⟨n.val / 128 * 2, by omega⟩ t) : EReal))
      else 0) := by
  subst h1 h2
  unfold V
  after_reads_at
  after_reads_at
  after_reads_at
theorem V_70_raw (x1 : FVec Ideal S4096x2176 .f32) (h1 : m (c, Proc.devRef .tc main_arg1) = x1) (x2 : FVec Ideal S128x4096 .f32) (h2 : m (c, Proc.devRef .tc main_arg2) = x2)
    (t : Fin 4096) (n : Fin 1024) :
    (V m c main_v70 (ix2 t n) : EReal) = (if h : n.val % 128 < 3 then
        if h_1 : n.val % 128 < 1 then (x2 (ix2 ⟨n.val / 128 * 2 + 1, by omega⟩ t) : EReal)
        else
          if h_2 : n.val % 128 - 1 < 1 then (x2 (ix2 ⟨n.val / 128 * 2 + 1, by omega⟩ t) : EReal) - (x2 (ix2 ⟨n.val / 128 * 2 + 1, by omega⟩ t) : EReal)
          else
            (x2 (ix2 ⟨n.val / 128 * 2 + 1, by omega⟩ t) : EReal) - (x2 (ix2 ⟨n.val / 128 * 2 + 1, by omega⟩ t) : EReal) -
              ((x2 (ix2 ⟨n.val / 128 * 2 + 1, by omega⟩ t) : EReal) - (x2 (ix2 ⟨n.val / 128 * 2 + 1, by omega⟩ t) : EReal))
      else
        if h : n.val % 128 - 3 < 61 then 0
        else (x1 (ix2 t ⟨n.val / 128 * 128 + 64 + (n.val % 128 - 3 - 61), by omega⟩) : EReal)) := by
  subst h1 h2
  unfold V
  after_reads_at
  after_reads_at
  after_reads_at
include ha in
theorem V_64 (t : Fin 4096) (n : Fin 1024) :
    (V m c main_v64 (ix2 t n) : EReal) = ((if n.val % 128 < 64 then a.k t ⟨n.val / 128 * 2, by omega⟩ ⟨n.val % 64, by omega⟩ else
      if n.val % 128 = 64 then a.c ⟨n.val / 128 * 2, by omega⟩ t else 0 : ℝ) : EReal) := by
  refine Eq.trans (α := EReal) (V_64_raw m c _ rfl _ rfl t n) ?_
  have hc : (m (c, Proc.devRef .tc main_arg2) (ix2 ⟨n.val / 128 * 2, by omega⟩ t) : EReal) = (a.c ⟨n.val / 128 * 2, by omega⟩ t : EReal) := ha.c ⟨n.val / 128 * 2, by omega⟩ t
  simp only [hc, ← EReal.coe_sub, sub_self]
  by_cases h1 : n.val % 128 < 64
  · rw [dif_pos h1, if_pos h1]
    refine (ha.k' t (n.val / 128 * 128 + n.val % 128) (by omega) (by omega)).trans ?_
    refine congrArg (fun r : ℝ => (r : EReal)) (congrArg₂ (a.k t) (Fin.ext ?_) (Fin.ext ?_))
    · show (n.val / 128 * 128 + n.val % 128) / 64 = n.val / 128 * 2; omega
    · show (n.val / 128 * 128 + n.val % 128) % 64 = n.val % 64; omega
  · rw [dif_neg h1, if_neg h1]
    by_cases h2 : n.val % 128 = 64
    · rw [if_pos h2, dif_pos (by omega), dif_pos (by omega)]
    · rw [if_neg h2]
      split_ifs
      · omega
      all_goals first | rfl | exact EReal.coe_zero.symm
include ha in
theorem V_70 (t : Fin 4096) (n : Fin 1024) :
    (V m c main_v70 (ix2 t n) : EReal) = ((if n.val % 128 < 64 then (if n.val % 128 = 0 then a.c ⟨n.val / 128 * 2 + 1, by omega⟩ t else 0) else
      a.k t ⟨n.val / 128 * 2 + 1, by omega⟩ ⟨n.val % 64, by omega⟩ : ℝ) : EReal) := by
  refine Eq.trans (α := EReal) (V_70_raw m c _ rfl _ rfl t n) ?_
  have hc : (m (c, Proc.devRef .tc main_arg2) (ix2 ⟨n.val / 128 * 2 + 1, by omega⟩ t) : EReal) = (a.c ⟨n.val / 128 * 2 + 1, by omega⟩ t : EReal) := ha.c ⟨n.val / 128 * 2 + 1, by omega⟩ t
  simp only [hc, ← EReal.coe_sub, sub_self]
  by_cases h1 : n.val % 128 < 64
  · rw [if_pos h1]
    by_cases h2 : n.val % 128 = 0
    · rw [if_pos h2, dif_pos (by omega), dif_pos (by omega)]
    · rw [if_neg h2]
      split_ifs
      all_goals first | omega | rfl | exact EReal.coe_zero.symm
  · rw [if_neg h1, dif_neg (by omega), dif_neg (by omega)]
    refine (ha.k' t (n.val / 128 * 128 + 64 + (n.val % 128 - 3 - 61)) (by omega) (by omega)).trans ?_
    refine congrArg (fun r : ℝ => (r : EReal)) (congrArg₂ (a.k t) (Fin.ext ?_) (Fin.ext ?_))
    · show (n.val / 128 * 128 + 64 + (n.val % 128 - 3 - 61)) / 64 = n.val / 128 * 2 + 1; omega
    · show (n.val / 128 * 128 + 64 + (n.val % 128 - 3 - 61)) % 64 = n.val % 64; omega
end Cert.KernelIdeal.Hand
-- ==== Proof.Hand.Blocks.lean ====
module

public import proofs.«01_k».proof.Proof.Hand.Frame
public import proofs.«01_k».proof.Proof.Hand.Val
public import proofs.«01_k».proof.Proof.Hand.Host
public import Idealize.ShloMosaic.Lib.StableHlo.ReadAt
public import Idealize.ShloMosaic.Lib.Tactic.WordOmega
public import Idealize.ShloMosaic.Lib.Pipeline.ValueKit
public import Idealize.ShloMosaic.Lib.IdealHost

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen
open Idealize.ShloMosaic.Pipeline (Dat Cfg Window cellOf)

variable (m : (ℓ : Loc nD τ sig) → Buf (Elt Ideal) ℓ) (ρ : Dev nD → PrngReg)
open Cert.Soft (Ar lg wt dp dl ds dq dk dv dck dcq zs sm)

/-- A point's head pair. -/
def pp (t : Fin cfg0.N) : Fin 8 := ⟨t.val / 8, by have := lt_of_lt_of_eq t.isLt N_0; omega⟩

/-- A point's key block. -/
def jj (t : Fin cfg0.N) : Fin 8 := ⟨t.val % 8, by omega⟩

theorem hh_hd (p : Fin 8) (l : Fin 128) (h : (p.val * 128 + l.val) / 64 < 16) : (⟨(p.val * 128 + l.val) / 64, h⟩ : Fin 16) = hh p (hd l) := by
  refine Fin.ext ?_
  show (p.val * 128 + l.val) / 64 = p.val * 2 + (hd l).val
  unfold hd
  split
  · show _ = p.val * 2 + 0; omega
  · show _ = p.val * 2 + 1; omega

theorem dd_eq (p : Fin 8) (l : Fin 128) (h : (p.val * 128 + l.val) % 64 < 64) : (⟨(p.val * 128 + l.val) % 64, h⟩ : Fin 64) = dd l :=
  Fin.ext (by show (p.val * 128 + l.val) % 64 = l.val % 64; omega)

theorem row_eq (i : Fin 8) (t : Fin 512) (h : i.val * 512 + t.val < 4096) : (⟨i.val * 512 + t.val, h⟩ : Fin 4096) = row i t :=
  Fin.ext (by show i.val * 512 + t.val = 512 * i.val + t.val; omega)

theorem ix_0 : ∀ t : Fin grid0.N, win0_0.index t = ![0, t.val / 8] := by decide +kernel

theorem rd_q (c : Dev nD) (U : (b : Ref sig .tc) → Buf (Elt Ideal) ((c : Thread nD τ).loc b)) (t : Fin cfg0.N) (T : Fin 4096) (l : Fin 128) :
    (((cfg0.win 0).blk t).view.read (Elt Ideal) (U (Pipeline.arrRef spec0 0)) (ix2 T l) : EReal) = U main_v81 (ix2 T ⟨(pp t).val * 128 + l.val, by omega⟩) := by
  refine Eq.trans (α := EReal) (b := U main_v81 ((win0_0.blk t).view.emb (ix2 T l))) rfl ?_
  refine congrArg (U main_v81) ?_
  funext d
  apply Fin.ext
  fin_cases d <;>
  · simp only [ValueKit.finMkLit, Fin.isValue]
    blk_simp
    rw [ix_0 t]
    try simp only [Matrix.cons_val, pp, jj, row, Fin.isValue, Fin.val_zero]
    try omega

theorem Bk_q (c : Dev nD) (t : Fin cfg0.N) (T : Fin 4096) (l : Fin 128) : ((Bk m c t).q (ix2 T l) : EReal) = V m c main_v81 (ix2 T ⟨(pp t).val * 128 + l.val, by omega⟩) :=
  rd_q c (V m c) t T l

theorem ix_1 : ∀ t : Fin grid0.N, win0_1.index t = ![t.val / 8, 0, 0, 0] := by decide +kernel

theorem rd_qt (c : Dev nD) (U : (b : Ref sig .tc) → Buf (Elt Ideal) ((c : Thread nD τ).loc b)) (t : Fin cfg0.N) (i : Fin 8) (l : Fin 128) (r : Fin 512) :
    (((cfg0.win 1).blk t).view.read (Elt Ideal) (U (Pipeline.arrRef spec0 1)) (ix4 0 i l r) : EReal) = U main_v85 (ix4 (pp t) i l r) := by
  refine Eq.trans (α := EReal) (b := U main_v85 ((win0_1.blk t).view.emb (ix4 0 i l r))) rfl ?_
  refine congrArg (U main_v85) ?_
  funext d
  apply Fin.ext
  fin_cases d <;>
  · simp only [ValueKit.finMkLit, Fin.isValue]
    blk_simp
    rw [ix_1 t]
    try simp only [Matrix.cons_val, pp, jj, row, Fin.isValue, Fin.val_zero]
    try omega

theorem Bk_qt (c : Dev nD) (t : Fin cfg0.N) (i : Fin 8) (l : Fin 128) (r : Fin 512) : ((Bk m c t).qt (ix4 0 i l r) : EReal) = V m c main_v85 (ix4 (pp t) i l r) :=
  rd_qt c (V m c) t i l r

theorem ix_2 : ∀ t : Fin grid0.N, win0_2.index t = ![0, t.val / 8] := by decide +kernel

theorem rd_dob (c : Dev nD) (U : (b : Ref sig .tc) → Buf (Elt Ideal) ((c : Thread nD τ).loc b)) (t : Fin cfg0.N) (T : Fin 4096) (l : Fin 128) :
    (((cfg0.win 2).blk t).view.read (Elt Ideal) (U (Pipeline.arrRef spec0 2)) (ix2 T l) : EReal) = U main_v82 (ix2 T ⟨(pp t).val * 128 + l.val, by omega⟩) := by
  refine Eq.trans (α := EReal) (b := U main_v82 ((win0_2.blk t).view.emb (ix2 T l))) rfl ?_
  refine congrArg (U main_v82) ?_
  funext d
  apply Fin.ext
  fin_cases d <;>
  · simp only [ValueKit.finMkLit, Fin.isValue]
    blk_simp
    rw [ix_2 t]
    try simp only [Matrix.cons_val, pp, jj, row, Fin.isValue, Fin.val_zero]
    try omega

theorem Bk_dob (c : Dev nD) (t : Fin cfg0.N) (T : Fin 4096) (l : Fin 128) : ((Bk m c t).dob (ix2 T l) : EReal) = V m c main_v82 (ix2 T ⟨(pp t).val * 128 + l.val, by omega⟩) :=
  rd_dob c (V m c) t T l

theorem ix_3 : ∀ t : Fin grid0.N, win0_3.index t = ![t.val / 8, 0, 0, 0] := by decide +kernel

theorem rd_dot (c : Dev nD) (U : (b : Ref sig .tc) → Buf (Elt Ideal) ((c : Thread nD τ).loc b)) (t : Fin cfg0.N) (i : Fin 8) (l : Fin 128) (r : Fin 512) :
    (((cfg0.win 3).blk t).view.read (Elt Ideal) (U (Pipeline.arrRef spec0 3)) (ix4 0 i l r) : EReal) = U main_v87 (ix4 (pp t) i l r) := by
  refine Eq.trans (α := EReal) (b := U main_v87 ((win0_3.blk t).view.emb (ix4 0 i l r))) rfl ?_
  refine congrArg (U main_v87) ?_
  funext d
  apply Fin.ext
  fin_cases d <;>
  · simp only [ValueKit.finMkLit, Fin.isValue]
    blk_simp
    rw [ix_3 t]
    try simp only [Matrix.cons_val, pp, jj, row, Fin.isValue, Fin.val_zero]
    try omega

theorem Bk_dot (c : Dev nD) (t : Fin cfg0.N) (i : Fin 8) (l : Fin 128) (r : Fin 512) : ((Bk m c t).dot (ix4 0 i l r) : EReal) = V m c main_v87 (ix4 (pp t) i l r) :=
  rd_dot c (V m c) t i l r

theorem ix_4 : ∀ t : Fin grid0.N, win0_4.index t = ![t.val / 8, t.val % 8, 0, 0] := by decide +kernel

theorem rd_kt (c : Dev nD) (U : (b : Ref sig .tc) → Buf (Elt Ideal) ((c : Thread nD τ).loc b)) (t : Fin cfg0.N) (l : Fin 128) (r : Fin 512) :
    (((cfg0.win 4).blk t).view.read (Elt Ideal) (U (Pipeline.arrRef spec0 4)) (ix4 0 0 l r) : EReal) = U main_v92 (ix4 (pp t) (jj t) l r) := by
  refine Eq.trans (α := EReal) (b := U main_v92 ((win0_4.blk t).view.emb (ix4 0 0 l r))) rfl ?_
  refine congrArg (U main_v92) ?_
  funext d
  apply Fin.ext
  fin_cases d <;>
  · simp only [ValueKit.finMkLit, Fin.isValue]
    blk_simp
    rw [ix_4 t]
    try simp only [Matrix.cons_val, pp, jj, row, Fin.isValue, Fin.val_zero]
    try omega

theorem Bk_kt (c : Dev nD) (t : Fin cfg0.N) (l : Fin 128) (r : Fin 512) : ((Bk m c t).kt (ix4 0 0 l r) : EReal) = V m c main_v92 (ix4 (pp t) (jj t) l r) :=
  rd_kt c (V m c) t l r

theorem ix_5 : ∀ t : Fin grid0.N, win0_5.index t = ![t.val % 8, t.val / 8] := by decide +kernel

theorem rd_v (c : Dev nD) (U : (b : Ref sig .tc) → Buf (Elt Ideal) ((c : Thread nD τ).loc b)) (t : Fin cfg0.N) (r : Fin 512) (l : Fin 128) :
    (((cfg0.win 5).blk t).view.read (Elt Ideal) (U (Pipeline.arrRef spec0 5)) (ix2 r l) : EReal) = U main_v94 (ix2 (row (jj t) r) ⟨(pp t).val * 128 + l.val, by omega⟩) := by
  refine Eq.trans (α := EReal) (b := U main_v94 ((win0_5.blk t).view.emb (ix2 r l))) rfl ?_
  refine congrArg (U main_v94) ?_
  funext d
  apply Fin.ext
  fin_cases d <;>
  · simp only [ValueKit.finMkLit, Fin.isValue]
    blk_simp
    rw [ix_5 t]
    try simp only [Matrix.cons_val, pp, jj, row, Fin.isValue, Fin.val_zero]
    try omega

theorem Bk_v (c : Dev nD) (t : Fin cfg0.N) (r : Fin 512) (l : Fin 128) : ((Bk m c t).v (ix2 r l) : EReal) = V m c main_v94 (ix2 (row (jj t) r) ⟨(pp t).val * 128 + l.val, by omega⟩) :=
  rd_v c (V m c) t r l

theorem ix_6 : ∀ t : Fin grid0.N, win0_6.index t = ![t.val % 8, t.val / 8] := by decide +kernel

theorem rd_ka (c : Dev nD) (U : (b : Ref sig .tc) → Buf (Elt Ideal) ((c : Thread nD τ).loc b)) (t : Fin cfg0.N) (r : Fin 512) (l : Fin 128) :
    (((cfg0.win 6).blk t).view.read (Elt Ideal) (U (Pipeline.arrRef spec0 6)) (ix2 r l) : EReal) = U main_v64 (ix2 (row (jj t) r) ⟨(pp t).val * 128 + l.val, by omega⟩) := by
  refine Eq.trans (α := EReal) (b := U main_v64 ((win0_6.blk t).view.emb (ix2 r l))) rfl ?_
  refine congrArg (U main_v64) ?_
  funext d
  apply Fin.ext
  fin_cases d <;>
  · simp only [ValueKit.finMkLit, Fin.isValue]
    blk_simp
    rw [ix_6 t]
    try simp only [Matrix.cons_val, pp, jj, row, Fin.isValue, Fin.val_zero]
    try omega

theorem Bk_ka (c : Dev nD) (t : Fin cfg0.N) (r : Fin 512) (l : Fin 128) : ((Bk m c t).ka (ix2 r l) : EReal) = V m c main_v64 (ix2 (row (jj t) r) ⟨(pp t).val * 128 + l.val, by omega⟩) :=
  rd_ka c (V m c) t r l

theorem ix_7 : ∀ t : Fin grid0.N, win0_7.index t = ![t.val % 8, t.val / 8] := by decide +kernel

theorem rd_kb (c : Dev nD) (U : (b : Ref sig .tc) → Buf (Elt Ideal) ((c : Thread nD τ).loc b)) (t : Fin cfg0.N) (r : Fin 512) (l : Fin 128) :
    (((cfg0.win 7).blk t).view.read (Elt Ideal) (U (Pipeline.arrRef spec0 7)) (ix2 r l) : EReal) = U main_v70 (ix2 (row (jj t) r) ⟨(pp t).val * 128 + l.val, by omega⟩) := by
  refine Eq.trans (α := EReal) (b := U main_v70 ((win0_7.blk t).view.emb (ix2 r l))) rfl ?_
  refine congrArg (U main_v70) ?_
  funext d
  apply Fin.ext
  fin_cases d <;>
  · simp only [ValueKit.finMkLit, Fin.isValue]
    blk_simp
    rw [ix_7 t]
    try simp only [Matrix.cons_val, pp, jj, row, Fin.isValue, Fin.val_zero]
    try omega

theorem Bk_kb (c : Dev nD) (t : Fin cfg0.N) (r : Fin 512) (l : Fin 128) : ((Bk m c t).kb (ix2 r l) : EReal) = V m c main_v70 (ix2 (row (jj t) r) ⟨(pp t).val * 128 + l.val, by omega⟩) :=
  rd_kb c (V m c) t r l

theorem ix_8 : ∀ t : Fin grid0.N, win0_8.index t = ![t.val / 8, 0, 0, 0] := by decide +kernel

theorem rd_lse (c : Dev nD) (U : (b : Ref sig .tc) → Buf (Elt Ideal) ((c : Thread nD τ).loc b)) (t : Fin cfg0.N) (i : Fin 8) (l : Fin 2) (r : Fin 512) :
    (((cfg0.win 8).blk t).view.read (Elt Ideal) (U (Pipeline.arrRef spec0 8)) (ix4 0 i l r) : EReal) = U main_v32 (ix4 (pp t) i l r) := by
  refine Eq.trans (α := EReal) (b := U main_v32 ((win0_8.blk t).view.emb (ix4 0 i l r))) rfl ?_
  refine congrArg (U main_v32) ?_
  funext d
  apply Fin.ext
  fin_cases d <;>
  · simp only [ValueKit.finMkLit, Fin.isValue]
    blk_simp
    rw [ix_8 t]
    try simp only [Matrix.cons_val, pp, jj, row, Fin.isValue, Fin.val_zero]
    try omega

theorem Bk_lse (c : Dev nD) (t : Fin cfg0.N) (i : Fin 8) (l : Fin 2) (r : Fin 512) : ((Bk m c t).lse (ix4 0 i l r) : EReal) = V m c main_v32 (ix4 (pp t) i l r) :=
  rd_lse c (V m c) t i l r

theorem ix_9 : ∀ t : Fin grid0.N, win0_9.index t = ![t.val / 8, 0, 0, 0] := by decide +kernel

theorem rd_dsum (c : Dev nD) (U : (b : Ref sig .tc) → Buf (Elt Ideal) ((c : Thread nD τ).loc b)) (t : Fin cfg0.N) (i : Fin 8) (l : Fin 2) (r : Fin 512) :
    (((cfg0.win 9).blk t).view.read (Elt Ideal) (U (Pipeline.arrRef spec0 9)) (ix4 0 i l r) : EReal) = U main_v77 (ix4 (pp t) i l r) := by
  refine Eq.trans (α := EReal) (b := U main_v77 ((win0_9.blk t).view.emb (ix4 0 i l r))) rfl ?_
  refine congrArg (U main_v77) ?_
  funext d
  apply Fin.ext
  fin_cases d <;>
  · simp only [ValueKit.finMkLit, Fin.isValue]
    blk_simp
    rw [ix_9 t]
    try simp only [Matrix.cons_val, pp, jj, row, Fin.isValue, Fin.val_zero]
    try omega

theorem Bk_dsum (c : Dev nD) (t : Fin cfg0.N) (i : Fin 8) (l : Fin 2) (r : Fin 512) : ((Bk m c t).dsum (ix4 0 i l r) : EReal) = V m c main_v77 (ix4 (pp t) i l r) :=
  rd_dsum c (V m c) t i l r

theorem Bk_reals (c : Dev nD) (a : Ar) (ha : KL m c a) (t : Fin cfg0.N) : Reals (Bk m c t) a (pp t) (jj t) where
  q T l := (Bk_q m c t T l).trans ((V_81 m c a ha _ _).trans (by simp only [hh_hd, dd_eq]))
  qt i l r := (Bk_qt m c t i l r).trans ((V_85 m c a ha _ _ _ _).trans (by simp only [hh_hd, dd_eq, row_eq]))
  dob T l := (Bk_dob m c t T l).trans ((V_82 m c a ha _ _).trans (by simp only [hh_hd, dd_eq]))
  dot i l r := (Bk_dot m c t i l r).trans ((V_87 m c a ha _ _ _ _).trans (by simp only [hh_hd, dd_eq, row_eq]))
  kt l r := (Bk_kt m c t l r).trans ((V_92 m c a ha _ _ _ _).trans (by simp only [hh_hd, dd_eq, row_eq]))
  v r l := (Bk_v m c t r l).trans ((V_94 m c a ha _ _).trans (by simp only [hh_hd, dd_eq]))
  ka r l := (Bk_ka m c t r l).trans ((V_64 m c a ha _ _).trans (by
    have h1 : ((pp t).val * 128 + l.val) % 128 = l.val := by omega
    have h2 : ((pp t).val * 128 + l.val) / 128 * 2 = (pp t).val * 2 := by omega
    simp only [h1, h2, dd_eq]; rfl))
  kb r l := (Bk_kb m c t r l).trans ((V_70 m c a ha _ _).trans (by
    have h1 : ((pp t).val * 128 + l.val) % 128 = l.val := by omega
    have h2 : ((pp t).val * 128 + l.val) / 128 * 2 = (pp t).val * 2 := by omega
    simp only [h1, h2, dd_eq]; rfl))
  lse i l r := (Bk_lse m c t i l r).trans ((V_32 m c a ha _ _ _ _).trans (by simp only [row_eq]; rfl))
  dsum i l r := (Bk_dsum m c t i l r).trans ((V_77 m c a ha _ _ _ _).trans (by simp only [row_eq]; rfl))

end Cert.KernelIdeal.Hand
-- ==== Proof.Hand.Sums.lean ====
module

public import proofs.«01_k».proof.Proof.Hand.Blocks
public import Idealize.ShloMosaic.Lib.StableHlo.ReadAt
public import Idealize.ShloMosaic.Lib.Tactic.WordOmega
public import Idealize.ShloMosaic.Lib.Pipeline.ValueKit
public import Idealize.ShloMosaic.Lib.IdealHost

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen
open Idealize.ShloMosaic.Pipeline (Dat Cfg Window cellOf)

variable (m : (ℓ : Loc nD τ sig) → Buf (Elt Ideal) ℓ) (ρ : Dev nD → PrngReg)
open Cert.Soft (Ar lg wt dp dl ds dq dk dv dck dcq zs sm wt_zero ds_zero sum_blocks coe_sum)

variable (c : Dev nD) (a : Ar) (ha : KL m c a)

theorem key_eq (t : Fin cfg0.N) : ((grid0.coords t) 1 : Fin 8) = jj t := Fin.ext (key_val t)

theorem row_lt (i j : Fin 8) (s t : Fin 512) (h : ¬ j.val ≤ i.val) : ¬ row j s ≤ row i t := fun hr => by
  have hr : 512 * j.val + s.val ≤ 512 * i.val + t.val := hr
  omega

/-- A sum over all the rows, by row blocks. -/
theorem sum_rows (f : Fin 4096 → ℝ) : ∑ x, f x = ∑ i : Fin 8, ∑ y : Fin 512, f (row i y) :=
  (sum_blocks f).trans (Finset.sum_congr rfl fun i _ => Finset.sum_congr rfl fun y _ => congrArg f (row_eq i y _))

theorem pt_at (p k : Fin 8) : (pt (8 * p.val + k.val)).val = 8 * p.val + k.val := Nat.mod_eq_of_lt (by omega)
theorem pp_pt (p k : Fin 8) : pp (pt (8 * p.val + k.val)) = p := Fin.ext (by show (pt (8 * p.val + k.val)).val / 8 = p.val; rw [pt_at]; omega)
theorem jj_pt (p k : Fin 8) : jj (pt (8 * p.val + k.val)) = k := Fin.ext (by show (pt (8 * p.val + k.val)).val % 8 = k.val; rw [pt_at]; omega)

include ha

theorem qTerm_real (t : Fin cfg0.N) (i : Fin 8) (l : Fin 128) (r : Fin 512) :
    qTerm m c t i l r = ((∑ s : Fin 512, ds a (hh (pp t) (hd l)) (row i r) (row (jj t) s) * (1 / 8) * a.k (row (jj t) s) (hh (pp t) (hd l)) (dd l) : ℝ) : EReal) := by
  unfold qTerm
  by_cases h : (jj t).val ≤ i.val
  · exact (if_pos (by rw [key_val]; exact h)).trans ((congrArg (fun j => (Bk m c t).cq j i l r) (key_eq t)).trans (cq_real (Bk_reals m c a ha t) i h l r))
  · refine (if_neg (by rw [key_val]; exact h)).trans ?_
    rw [Finset.sum_eq_zero fun s _ => by rw [ds_zero _ _ _ _ (row_lt i (jj t) s r h), zero_mul, zero_mul], EReal.coe_zero]

theorem cTerm_real (t : Fin cfg0.N) (i : Fin 8) (b : Fin 2) (r : Fin 512) :
    cTerm m c t i b r = ((∑ s : Fin 512, ds a (hh (pp t) b) (row i r) (row (jj t) s) : ℝ) : EReal) := by
  unfold cTerm
  by_cases h : (jj t).val ≤ i.val
  · exact (if_pos (by rw [key_val]; exact h)).trans ((congrArg (fun j => (Bk m c t).cc b j i r) (key_eq t)).trans (cc_real (Bk_reals m c a ha t) b i h r))
  · refine (if_neg (by rw [key_val]; exact h)).trans ?_
    rw [Finset.sum_eq_zero fun s _ => ds_zero _ _ _ _ (row_lt i (jj t) s r h), EReal.coe_zero]

theorem qAcc_real (t : Fin cfg0.N) (ht : t.val % 8 = 7) (x : S1x8x128x512.Idx) :
    qAcc m c t x = ((dq a (row (x 1) (x 3)) (hh (pp t) (hd (x 2))) (dd (x 2)) : ℝ) : EReal) := by
  unfold qAcc dq
  rw [ht, Finset.sum_range, sum_rows, ← coe_sum]
  refine Finset.sum_congr rfl fun k _ => ?_
  have e := qTerm_real m c a ha (pt (8 * (pp t).val + k.val)) (x 1) (x 2) (x 3)
  rw [pp_pt, jj_pt] at e
  exact e

theorem cAcc_real (t : Fin cfg0.N) (ht : t.val % 8 = 7) (x : S1x8x2x512.Idx) :
    cAcc m c t x = ((dcq a (hh (pp t) (x 2)) (row (x 1) (x 3)) : ℝ) : EReal) := by
  unfold cAcc dcq
  rw [ht, Finset.sum_range, sum_rows, ← coe_sum]
  refine Finset.sum_congr rfl fun k _ => ?_
  have e := cTerm_real m c a ha (pt (8 * (pp t).val + k.val)) (x 1) (x 2) (x 3)
  rw [pp_pt, jj_pt] at e
  exact e

omit ha in
/-- A sum over the row blocks from the key block on, the earlier ones adding nothing. -/
theorem sum_upto (t : Fin cfg0.N) (f : Fin 8 → EReal) (g : Fin 8 → ℝ) (h1 : ∀ i, jj t ≤ i → f i = (g i : EReal)) (h0 : ∀ i : Fin 8, ¬ (jj t).val ≤ i.val → g i = 0) :
    ∑ i ∈ later ((grid0.coords t) 1).val, f i = ((∑ i, g i : ℝ) : EReal) := by
  have e : later ((grid0.coords t) 1).val = Finset.univ.filter fun i : Fin 8 => (jj t).val ≤ i.val := congrArg later (key_val t)
  rw [e, Finset.sum_filter, ← coe_sum]
  refine Finset.sum_congr rfl fun i _ => ?_
  by_cases h : (jj t).val ≤ i.val
  · rw [if_pos h]; exact h1 i h
  · rw [if_neg h, h0 i h, EReal.coe_zero]

theorem kOut_real (t : Fin cfg0.N) (x : S512x128.Idx) :
    kOut m c t x = ((dk a (row (jj t) (x 0)) (hh (pp t) (hd (x 1))) (dd (x 1)) : ℝ) : EReal) := by
  unfold kOut dk
  rw [sum_rows]
  refine sum_upto t _ _ (fun i h => (congrArg (fun j => (Bk m c t).ck j i (x 0) (x 1)) (key_eq t)).trans (ck_real (Bk_reals m c a ha t) i h (x 0) (x 1))) fun i h => ?_
  exact Finset.sum_eq_zero fun r _ => mul_eq_zero_of_left (mul_eq_zero_of_left (ds_zero _ _ _ _ (row_lt i (jj t) _ r h)) _) _

theorem vOut_real (t : Fin cfg0.N) (x : S512x128.Idx) :
    vOut m c t x = ((dv a (row (jj t) (x 0)) (hh (pp t) (hd (x 1))) (dd (x 1)) : ℝ) : EReal) := by
  unfold vOut dv
  rw [sum_rows]
  refine sum_upto t _ _ (fun i h => (congrArg (fun j => (Bk m c t).cv j i (x 0) (x 1)) (key_eq t)).trans (cv_real (Bk_reals m c a ha t) i h (x 0) (x 1))) fun i h => ?_
  exact Finset.sum_eq_zero fun r _ => mul_eq_zero_of_left (wt_zero _ _ _ _ (row_lt i (jj t) _ r h)) _

theorem lOut_real (t : Fin cfg0.N) (x : S1x1x2x512.Idx) :
    lOut m c t x = ((dck a (hh (pp t) (x 2)) (row (jj t) (x 3)) : ℝ) : EReal) := by
  unfold lOut dck
  rw [Finset.sum_comm, sum_rows, EReal.coe_neg, ← zero_sub]
  refine congrArg (fun y : EReal => 0 - y) ?_
  refine sum_upto t _ _ (fun i h => (congrArg (fun j => ∑ l, (Bk m c t).cl (x 2) j i (x 3) l) (key_eq t)).trans (cl_real (Bk_reals m c a ha t) (x 2) i h (x 3))) fun i h => ?_
  exact Finset.sum_eq_zero fun r _ => ds_zero _ _ _ _ (row_lt i (jj t) _ r h)

end Cert.KernelIdeal.Hand
-- ==== Proof.Hand.Ref.lean ====
module

public import proofs.«01_k».proof.Proof.Gen.ReferenceIdeal.Read
public import proofs.«01_k».proof.Proof.Hand.Soft
public import Idealize.ShloMosaic.Lib.Pointwise
public import Idealize.ShloMosaic.Lib.Tactic.WordOmega

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.ReferenceIdeal.Read Cert.Soft

set_option maxHeartbeats 1600000
variable (x0 : (⟨S4096x2048, .f32⟩ : BufTy).Contents (Elt Ideal)) (x1 : (⟨S4096x2176, .f32⟩ : BufTy).Contents (Elt Ideal))
  (x2 : (⟨S128x4096, .f32⟩ : BufTy).Contents (Elt Ideal)) (x3 : (⟨S4096x1024, .f32⟩ : BufTy).Contents (Elt Ideal))
  (a : Ar) (ha : Lifts x0 x1 x2 x3 a)

theorem sge_iff (t s : Fin 4096) : IntOp.cmpi CmpIPredicate.sge (BitVec.ofNat 32 t.val) (BitVec.ofNat 32 s.val) = if s ≤ t then 1#1 else 0#1 := by
  have ht := t.isLt
  have hs := s.isLt
  split_ifs with h
  · rw [Fin.le_def] at h
    word_omega
  · rw [Fin.le_def] at h
    word_omega

/-- The reference's logits: with the query's own running sum. -/
def lr (h : Fin 16) (t s : Fin 4096) : ℝ := lg a h t s + a.c h t

include ha in
theorem r23 (h : Fin 16) (t s : Fin 4096) : (val_main_v23_0 (F := Ideal) x0 x1 x2 (ix3 h t s) : EReal) = row (lr a h t) t s := by
  pointwise [val_main_v23_0, val_main_v23_1, val_main_call0_v2, val_main_call0_v0, val_main_cst_0, val_main_v22, val_main_v21, val_main_v20, val_main_v19,
    val_main_v18, val_main_v17, val_main_v16, val_main_v15, val_main_v14, val_main_v13, val_main_v12, val_main_v11, val_main_v10, val_main_v9, val_main_v8,
    val_main_cst, val_main_v7, val_main_v6, val_main_v3, val_main_v2, val_main_v1, val_main_v0]
  rw [sge_iff]
  unfold row lr lg
  split_ifs with hs
  · rw [show ∀ p q : EReal, Scalar.select (1#1) p q = p from fun _ _ => rfl]
    simp only [ha.q, ha.k, ha.c, bits_eighth, ← EReal.coe_mul, coe_sum, ← EReal.coe_sub, ← EReal.coe_add]
    refine congrArg (fun r : ℝ => (r : EReal)) ?_
    ring
  · exact bits_ninf
theorem r31_at (y : (⟨S16x4096x4096, .f32⟩ : BufTy).Contents (Elt Ideal)) (h : Fin 16) (t : Fin 4096) :
    (Host.reduce (FloatOps.maximumf (F := Ideal) (φ := .f32)) y (constant (F := Ideal) S_ .f32 0xFF800000#32) reducesTo_S16x4096x4096_S16x4096_d2 h_S_ (ix2 h t) : EReal) = mx (fun s => y (ix3 h t s)) := by
  pointwise
  rfl
theorem r31_eq : val_main_v31 (F := Ideal) x0 x1 x2 = maximumf (F := Ideal) (s := S16x4096) (φ := .f32) (val_main_v30 (F := Ideal)) (Host.reduce (FloatOps.maximumf (F := Ideal) (φ := .f32)) (val_main_v23_0 (F := Ideal) x0 x1 x2) (constant (F := Ideal) S_ .f32 0xFF800000#32) reducesTo_S16x4096x4096_S16x4096_d2 h_S_) := by
  unfold val_main_v31 val_main_v24 val_main_cst_1
  rfl
include ha in
theorem r31 (h : Fin 16) (t : Fin 4096) : (val_main_v31 (F := Ideal) x0 x1 x2 (ix2 h t) : EReal) = mx (row (lr a h t) t) := by
  rw [r31_eq]
  have e : ∀ z : FVec Ideal S16x4096 .f32, (maximumf (val_main_v30 (F := Ideal)) z (ix2 h t) : EReal) = max (Ideal.ofBits .f32 0xFF800000#32) (z (ix2 h t) : EReal) := by
    intro z
    pointwise [val_main_v30, val_main_cst_3]
  rw [e, bits_ninf, max_eq_right bot_le, r31_at]
  exact congrArg mx (funext fun s => r23 x0 x1 x2 x3 a ha h t s)
include ha in
theorem r44 (h : Fin 16) (t s : Fin 4096) : (val_main_v44 (F := Ideal) x0 x1 x2 (ix3 h t s) : EReal) = ex (row (lr a h t) t) s := by
  have e : (val_main_v44 (F := Ideal) x0 x1 x2 (ix3 h t s) : EReal) = Ideal.exp ((val_main_v23_0 (F := Ideal) x0 x1 x2 (ix3 h t s) : EReal) - (val_main_v31 (F := Ideal) x0 x1 x2 (ix2 h t) : EReal)) := by
    pointwise [val_main_v44, val_main_v43, val_main_v42, val_main_v41]
  rw [e, r23 x0 x1 x2 x3 a ha, r31 x0 x1 x2 x3 a ha]
  rfl
include ha in
theorem r45 (h : Fin 16) (t : Fin 4096) : (val_main_v45 (F := Ideal) x0 x1 x2 (ix2 h t) : EReal) = lsum (row (lr a h t) t) := by
  have e : (val_main_v45 (F := Ideal) x0 x1 x2 (ix2 h t) : EReal) = ∑ s : Fin 4096, (val_main_v44 (F := Ideal) x0 x1 x2 (ix3 h t s) : EReal) := by
    pointwise [val_main_v45, val_main_cst_9]
  refine Eq.trans (α := EReal) e ?_
  unfold lsum
  exact Finset.sum_congr (M := EReal) rfl fun s _ => r44 x0 x1 x2 x3 a ha h t s
include ha in
theorem r48 (h : Fin 16) (t s : Fin 4096) : (val_main_v48 (F := Ideal) x0 x1 x2 (ix3 h t s) : EReal) = (wt a h t s : EReal) := by
  have e : (val_main_v48 (F := Ideal) x0 x1 x2 (ix3 h t s) : EReal) = Ideal.div (val_main_v44 (F := Ideal) x0 x1 x2 (ix3 h t s) : EReal) (val_main_v45 (F := Ideal) x0 x1 x2 (ix2 h t) : EReal) := by
    pointwise [val_main_v48, val_main_v47, val_main_v46]
  rw [e, r44 x0 x1 x2 x3 a ha, r45 x0 x1 x2 x3 a ha, div_row]
  exact congrArg (fun r : ℝ => (r : EReal)) (sm_shift (lg a h t) (lr a h t) (a.c h t) (fun _ => rfl) t s)
include ha in
theorem r56 (h : Fin 16) (t s : Fin 4096) : (val_main_v56 (F := Ideal) x1 x3 (ix3 h t s) : EReal) = (dp a h t s : EReal) := by
  pointwise [val_main_v56, val_main_v55, val_main_v54, val_main_v5, val_main_v4]
  simp only [ha.g, ha.v, ← EReal.coe_mul, coe_sum]
  rfl
include ha in
theorem r70 (h : Fin 16) (t s : Fin 4096) : (val_main_v70 (F := Ideal) x0 x1 x2 x3 (ix3 h t s) : EReal) = (ds a h t s : EReal) := by
  obtain ⟨M, hM⟩ := mx_real (lr a h t) t
  have hp := (lsum_pos (lr a h t) t M).ne'
  have e : (val_main_v70 (F := Ideal) x0 x1 x2 x3 (ix3 h t s) : EReal) =
      (Ideal.div (val_main_v56 (F := Ideal) x1 x3 (ix3 h t s) : EReal) (val_main_v45 (F := Ideal) x0 x1 x2 (ix2 h t) : EReal) +
        ∑ _x : Fin 1, -(∑ u : Fin 4096, ((val_main_v56 (F := Ideal) x1 x3 (ix3 h t u) : EReal) * Ideal.div 1 ((val_main_v45 (F := Ideal) x0 x1 x2 (ix2 h t) : EReal) * (val_main_v45 (F := Ideal) x0 x1 x2 (ix2 h t) : EReal))) * (val_main_v44 (F := Ideal) x0 x1 x2 (ix3 h t u) : EReal))) *
      (val_main_v44 (F := Ideal) x0 x1 x2 (ix3 h t s) : EReal) := by
    pointwise [val_main_v70, val_main_v69, val_main_v68, val_main_v67, val_main_v66, val_main_v65, val_main_v64, val_main_v63, val_main_v62, val_main_v61, val_main_v60, val_main_v59,
      val_main_v51, val_main_v50, val_main_v49, val_main_v46, val_main_cst_10, val_main_cst_11, val_main_cst_12]
  rw [e, r45 x0 x1 x2 x3 a ha, lsum_real _ _ _ hM, Fin.sum_univ_one]
  simp only [r56 x0 x1 x2 x3 a ha, r44 x0 x1 x2 x3 a ha, ex_real _ _ _ hM]
  simp only [← EReal.coe_one, ← EReal.coe_mul, div_real hp, div_real (mul_ne_zero hp hp), coe_sum, ← EReal.coe_neg, ← EReal.coe_add]
  refine congrArg (fun r : ℝ => (r : EReal)) (ds_of a h t s (fun u => if u ≤ t then Real.exp (lr a h t u - M) else 0) _ hp fun u => ?_)
  exact (sm_div _ _ _ _).trans (sm_shift (lg a h t) (lr a h t) (a.c h t) (fun _ => rfl) t u)
include ha in
theorem r71 (h : Fin 16) (t s : Fin 4096) : (val_main_v71 (F := Ideal) x0 x1 x2 x3 (ix3 h t s) : EReal) = (ds a h t s : EReal) := by
  have e : (val_main_v71 (F := Ideal) x0 x1 x2 x3 (ix3 h t s) : EReal) =
      Scalar.select (IntOp.cmpi CmpIPredicate.sge (BitVec.ofNat 32 t.val) (BitVec.ofNat 32 s.val)) (val_main_v70 (F := Ideal) x0 x1 x2 x3 (ix3 h t s) : EReal) (0 : EReal) := by
    pointwise [val_main_v71, val_main_v23_1, val_main_call1_v0, val_main_call1_cst, val_main_v22, val_main_v21, val_main_v20, val_main_v19,
    val_main_v18, val_main_v17, val_main_v16]
  rw [e, sge_iff]
  split_ifs with hs
  · exact r70 x0 x1 x2 x3 a ha h t s
  · rw [ds_zero a h t s hs]
    exact EReal.coe_zero.symm
include ha in
theorem r86 (h i : Fin 8) (l : Fin 128) (t : Fin 512) : (val_main_v86 (F := Ideal) x0 x1 x2 x3 (ix4 h i l t) : EReal) =
    (dq a ⟨i.val * 512 + t.val, by omega⟩ ⟨(h.val * 128 + l.val) / 64, by omega⟩ ⟨(h.val * 128 + l.val) % 64, by omega⟩ : EReal) := by
  pointwise [val_main_v86, val_main_v85, val_main_v84, val_main_v83, val_main_v80, val_main_v79, val_main_cst_17, val_main_v3, val_main_v2]
  simp only [r71 x0 x1 x2 x3 a ha, bits_eighth]
  refine Eq.trans (α := EReal) (Finset.sum_congr (M := EReal) rfl fun s _ => congrArg (fun y : EReal => ((ds a ⟨h.val * 2 + l.val / 64, by omega⟩ ⟨i.val * 512 + t.val, by omega⟩ s : ℝ) : EReal) * ((1 / 8 : ℝ) : EReal) * y)
    (ha.k' s ((h.val * 2 + l.val / 64) * 64 + l.val % 64) (by omega) (by omega))) ?_
  simp only [← EReal.coe_mul, coe_sum]
  refine congrArg (fun r : ℝ => (r : EReal)) ?_
  unfold dq
  have e1 : (⟨h.val * 2 + l.val / 64, by omega⟩ : Fin 16) = ⟨(h.val * 128 + l.val) / 64, by omega⟩ := Fin.ext (by show h.val * 2 + l.val / 64 = (h.val * 128 + l.val) / 64; omega)
  have e2 : (⟨((h.val * 2 + l.val / 64) * 64 + l.val % 64) / 64, by omega⟩ : Fin 16) = ⟨(h.val * 128 + l.val) / 64, by omega⟩ := Fin.ext (by show ((h.val * 2 + l.val / 64) * 64 + l.val % 64) / 64 = (h.val * 128 + l.val) / 64; omega)
  have e3 : (⟨((h.val * 2 + l.val / 64) * 64 + l.val % 64) % 64, by omega⟩ : Fin 64) = ⟨(h.val * 128 + l.val) % 64, by omega⟩ := Fin.ext (by show ((h.val * 2 + l.val / 64) * 64 + l.val % 64) % 64 = (h.val * 128 + l.val) % 64; omega)
  rw [e1, e2, e3]
include ha in
theorem r88 (s : Fin 4096) (n : Fin 1024) : (val_main_v88 (F := Ideal) x0 x1 x2 x3 (ix2 s n) : EReal) =
    (dk a s ⟨n.val / 64, by omega⟩ ⟨n.val % 64, by omega⟩ : EReal) := by
  pointwise [val_main_v88, val_main_v87, val_main_v82, val_main_v81, val_main_v80, val_main_v79, val_main_cst_17, val_main_v1, val_main_v0]
  simp only [r71 x0 x1 x2 x3 a ha, bits_eighth]
  refine Eq.trans (α := EReal) (Finset.sum_congr (M := EReal) rfl fun t _ => congrArg (fun y : EReal => ((ds a ⟨n.val / 64, by omega⟩ t s : ℝ) : EReal) * ((1 / 8 : ℝ) : EReal) * y)
    (ha.q' t n.val n.isLt (by omega))) ?_
  simp only [← EReal.coe_mul, coe_sum]
  rfl
include ha in
theorem r90 (s : Fin 4096) (n : Fin 1024) : (val_main_v90 (F := Ideal) x0 x1 x2 x3 (ix2 s n) : EReal) =
    (dv a s ⟨n.val / 64, by omega⟩ ⟨n.val % 64, by omega⟩ : EReal) := by
  pointwise [val_main_v90, val_main_v89, val_main_v58, val_main_v57, val_main_v55, val_main_v54]
  simp only [r48 x0 x1 x2 x3 a ha]
  refine Eq.trans (α := EReal) (Finset.sum_congr (M := EReal) rfl fun t _ => congrArg (fun y : EReal => y * ((wt a ⟨n.val / 64, by omega⟩ t s : ℝ) : EReal))
    (ha.g' t n.val n.isLt)) ?_
  simp only [← EReal.coe_mul, coe_sum]
  refine congrArg (fun r : ℝ => (r : EReal)) ?_
  unfold dv
  exact Finset.sum_congr rfl fun t _ => mul_comm _ _
include ha in
theorem r92 (h i : Fin 8) (l : Fin 2) (t : Fin 512) : (val_main_v92 (F := Ideal) x0 x1 x2 x3 (ix4 h i l t) : EReal) =
    (dck a ⟨h.val * 2 + l.val, by omega⟩ ⟨i.val * 512 + t.val, by omega⟩ : EReal) := by
  pointwise [val_main_v92, val_main_v91, val_main_v75, val_main_v74, val_main_v73, val_main_v72, val_main_cst_13, val_main_cst_14]
  rw [Fin.sum_univ_one]
  simp only [r71 x0 x1 x2 x3 a ha, ← EReal.coe_neg, coe_sum, Finset.sum_neg_distrib]
  rfl
include ha in
theorem r94 (h i : Fin 8) (l : Fin 2) (t : Fin 512) : (val_main_v94 (F := Ideal) x0 x1 x2 x3 (ix4 h i l t) : EReal) =
    (dcq a ⟨h.val * 2 + l.val, by omega⟩ ⟨i.val * 512 + t.val, by omega⟩ : EReal) := by
  pointwise [val_main_v94, val_main_v93, val_main_v78, val_main_v77, val_main_v76, val_main_cst_15, val_main_cst_16]
  rw [Fin.sum_univ_one]
  simp only [r71 x0 x1 x2 x3 a ha, coe_sum]
  rfl
end Cert.ReferenceIdeal.Hand
-- ==== Proof.Hand.Arrays.lean ====
module

public import proofs.«01_k».proof.Proof.Hand.Sums
public import proofs.«01_k».proof.Proof.Hand.Ref
public import Idealize.ShloMosaic.Lib.StableHlo.ReadAt
public import Idealize.ShloMosaic.Lib.Tactic.WordOmega
public import Idealize.ShloMosaic.Lib.Pipeline.ValueKit
public import Idealize.ShloMosaic.Lib.IdealHost

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen
open Idealize.ShloMosaic.Pipeline (Dat Cfg Window cellOf)

variable (m : (ℓ : Loc nD τ sig) → Buf (Elt Ideal) ℓ) (ρ : Dev nD → PrngReg)
open Cert.Soft (Ar lg wt dp dl ds dq dk dv dck dcq zs sm)
open Cert.ReferenceIdeal.Read (val_main_v86 val_main_v88 val_main_v90 val_main_v92 val_main_v94)
open Cert.ReferenceIdeal.Hand (r86 r88 r90 r92 r94)

variable (c : Dev nD) (a : Ar) (ha : KL m c a)

theorem ix_10 : ∀ t : Fin grid0.N, win0_10.index t = ![t.val / 8, 0, 0, 0] := by decide +kernel

theorem at_10 (G : S8x8x128x512.Idx → EReal) (t : Fin cfg0.N) (y : S1x8x128x512.Idx) : G (((cfg0.win 10).blk t).view.emb y) = G (ix4 (pp t) (y 1) (y 2) (y 3)) := by
  refine Eq.trans (b := G ((win0_10.blk t).view.emb y)) rfl ?_
  refine congrArg G ?_
  idx_bounds
  funext d
  apply Fin.ext
  fin_cases d <;>
  · simp only [ValueKit.finMkLit, Fin.isValue]
    blk_simp
    rw [ix_10 t]
    try simp only [Matrix.cons_val, pp, jj, row, Fin.isValue, Fin.val_zero]
    try omega

theorem real_10 (x0 : S4096x2048.Idx → EReal) (x1 : S4096x2176.Idx → EReal) (x2 : S128x4096.Idx → EReal) (x3 : S4096x1024.Idx → EReal)
    (a : Ar) (ha : Cert.Soft.Lifts x0 x1 x2 x3 a) (t : Fin cfg0.N) (y : S1x8x128x512.Idx) (z : EReal)
    (hz : z = ((dq a (row (y 1) (y 3)) (hh (pp t) (hd (y 2))) (dd (y 2)) : ℝ) : EReal)) :
    z = (val_main_v86 (F := Ideal) x0 x1 x2 x3 (ix4 (pp t) (y 1) (y 2) (y 3)) : EReal) := by
  have e : ∀ (p i : Fin 8) (l : Fin 128) (r : Fin 512), (val_main_v86 (F := Ideal) x0 x1 x2 x3 (ix4 p i l r) : EReal) = ((dq a (row i r) (hh p (hd l)) (dd l) : ℝ) : EReal) :=
    fun p i l r => (r86 _ _ _ _ a ha p i l r).trans (by simp only [hh_hd, dd_eq, row_eq])
  exact hz.trans (e (pp t) (y 1) (y 2) (y 3)).symm

theorem arr_10 (c : Dev nD) (a : Ar) (ha : KL m c a) : (dats m 0 c).arrAt 10 cfg0.N =
    val_main_v86 (F := Ideal) (m (c, Proc.devRef .tc main_arg0)) (m (c, Proc.devRef .tc main_arg1)) (m (c, Proc.devRef .tc main_arg2)) (m (c, Proc.devRef .tc main_arg3)) := by
  refine (dats m 0 c).arrAt_eq_of_covers 10 _ (by decide +kernel) fun t hf y => ?_
  refine Eq.trans (α := EReal) (b := qAcc m c t y) (congrFun (after_10 m c t) _) ?_
  exact (real_10 _ _ _ _ a ha t y _ (qAcc_real m c a ha t ((flush0_10 t).1 hf) y)).trans (at_10 _ t y).symm

theorem ix_11 : ∀ t : Fin grid0.N, win0_11.index t = ![t.val % 8, t.val / 8] := by decide +kernel

theorem at_11 (G : S4096x1024.Idx → EReal) (t : Fin cfg0.N) (y : S512x128.Idx) : G (((cfg0.win 11).blk t).view.emb y) = G (ix2 (row (jj t) (y 0)) ⟨(pp t).val * 128 + (y 1).val, by have : (y 1).val < 128 := (y 1).isLt; omega⟩) := by
  refine Eq.trans (b := G ((win0_11.blk t).view.emb y)) rfl ?_
  refine congrArg G ?_
  idx_bounds
  funext d
  apply Fin.ext
  fin_cases d <;>
  · simp only [ValueKit.finMkLit, Fin.isValue]
    blk_simp
    rw [ix_11 t]
    try simp only [Matrix.cons_val, pp, jj, row, Fin.isValue, Fin.val_zero]
    try omega

theorem real_11 (x0 : S4096x2048.Idx → EReal) (x1 : S4096x2176.Idx → EReal) (x2 : S128x4096.Idx → EReal) (x3 : S4096x1024.Idx → EReal)
    (a : Ar) (ha : Cert.Soft.Lifts x0 x1 x2 x3 a) (t : Fin cfg0.N) (y : S512x128.Idx) (z : EReal)
    (hz : z = ((dk a (row (jj t) (y 0)) (hh (pp t) (hd (y 1))) (dd (y 1)) : ℝ) : EReal)) :
    z = (val_main_v88 (F := Ideal) x0 x1 x2 x3 (ix2 (row (jj t) (y 0)) ⟨(pp t).val * 128 + (y 1).val, by have : (y 1).val < 128 := (y 1).isLt; omega⟩) : EReal) := by
  have e : ∀ (p : Fin 8) (l : Fin 128) (T : Fin 4096), (val_main_v88 (F := Ideal) x0 x1 x2 x3 (ix2 T ⟨p.val * 128 + l.val, by omega⟩) : EReal) = ((dk a T (hh p (hd l)) (dd l) : ℝ) : EReal) :=
    fun p l T => (r88 _ _ _ _ a ha T _).trans (by simp only [hh_hd, dd_eq])
  exact hz.trans (e (pp t) (y 1) (row (jj t) (y 0))).symm

theorem arr_11 (c : Dev nD) (a : Ar) (ha : KL m c a) : (dats m 0 c).arrAt 11 cfg0.N =
    val_main_v88 (F := Ideal) (m (c, Proc.devRef .tc main_arg0)) (m (c, Proc.devRef .tc main_arg1)) (m (c, Proc.devRef .tc main_arg2)) (m (c, Proc.devRef .tc main_arg3)) := by
  refine (dats m 0 c).arrAt_eq_of_covers 11 _ (by decide +kernel) fun t hf y => ?_
  refine Eq.trans (α := EReal) (b := kOut m c t y) (congrFun (after_11 m c t) _) ?_
  exact (real_11 _ _ _ _ a ha t y _ (kOut_real m c a ha t y)).trans (at_11 _ t y).symm

theorem ix_12 : ∀ t : Fin grid0.N, win0_12.index t = ![t.val % 8, t.val / 8] := by decide +kernel

theorem at_12 (G : S4096x1024.Idx → EReal) (t : Fin cfg0.N) (y : S512x128.Idx) : G (((cfg0.win 12).blk t).view.emb y) = G (ix2 (row (jj t) (y 0)) ⟨(pp t).val * 128 + (y 1).val, by have : (y 1).val < 128 := (y 1).isLt; omega⟩) := by
  refine Eq.trans (b := G ((win0_12.blk t).view.emb y)) rfl ?_
  refine congrArg G ?_
  idx_bounds
  funext d
  apply Fin.ext
  fin_cases d <;>
  · simp only [ValueKit.finMkLit, Fin.isValue]
    blk_simp
    rw [ix_12 t]
    try simp only [Matrix.cons_val, pp, jj, row, Fin.isValue, Fin.val_zero]
    try omega

theorem real_12 (x0 : S4096x2048.Idx → EReal) (x1 : S4096x2176.Idx → EReal) (x2 : S128x4096.Idx → EReal) (x3 : S4096x1024.Idx → EReal)
    (a : Ar) (ha : Cert.Soft.Lifts x0 x1 x2 x3 a) (t : Fin cfg0.N) (y : S512x128.Idx) (z : EReal)
    (hz : z = ((dv a (row (jj t) (y 0)) (hh (pp t) (hd (y 1))) (dd (y 1)) : ℝ) : EReal)) :
    z = (val_main_v90 (F := Ideal) x0 x1 x2 x3 (ix2 (row (jj t) (y 0)) ⟨(pp t).val * 128 + (y 1).val, by have : (y 1).val < 128 := (y 1).isLt; omega⟩) : EReal) := by
  have e : ∀ (p : Fin 8) (l : Fin 128) (T : Fin 4096), (val_main_v90 (F := Ideal) x0 x1 x2 x3 (ix2 T ⟨p.val * 128 + l.val, by omega⟩) : EReal) = ((dv a T (hh p (hd l)) (dd l) : ℝ) : EReal) :=
    fun p l T => (r90 _ _ _ _ a ha T _).trans (by simp only [hh_hd, dd_eq])
  exact hz.trans (e (pp t) (y 1) (row (jj t) (y 0))).symm

theorem arr_12 (c : Dev nD) (a : Ar) (ha : KL m c a) : (dats m 0 c).arrAt 12 cfg0.N =
    val_main_v90 (F := Ideal) (m (c, Proc.devRef .tc main_arg0)) (m (c, Proc.devRef .tc main_arg1)) (m (c, Proc.devRef .tc main_arg2)) (m (c, Proc.devRef .tc main_arg3)) := by
  refine (dats m 0 c).arrAt_eq_of_covers 12 _ (by decide +kernel) fun t hf y => ?_
  refine Eq.trans (α := EReal) (b := vOut m c t y) (congrFun (after_12 m c t) _) ?_
  exact (real_12 _ _ _ _ a ha t y _ (vOut_real m c a ha t y)).trans (at_12 _ t y).symm

theorem ix_13 : ∀ t : Fin grid0.N, win0_13.index t = ![t.val / 8, t.val % 8, 0, 0] := by decide +kernel

theorem at_13 (G : S8x8x2x512.Idx → EReal) (t : Fin cfg0.N) (y : S1x1x2x512.Idx) : G (((cfg0.win 13).blk t).view.emb y) = G (ix4 (pp t) (jj t) (y 2) (y 3)) := by
  refine Eq.trans (b := G ((win0_13.blk t).view.emb y)) rfl ?_
  refine congrArg G ?_
  idx_bounds
  funext d
  apply Fin.ext
  fin_cases d <;>
  · simp only [ValueKit.finMkLit, Fin.isValue]
    blk_simp
    rw [ix_13 t]
    try simp only [Matrix.cons_val, pp, jj, row, Fin.isValue, Fin.val_zero]
    try omega

theorem real_13 (x0 : S4096x2048.Idx → EReal) (x1 : S4096x2176.Idx → EReal) (x2 : S128x4096.Idx → EReal) (x3 : S4096x1024.Idx → EReal)
    (a : Ar) (ha : Cert.Soft.Lifts x0 x1 x2 x3 a) (t : Fin cfg0.N) (y : S1x1x2x512.Idx) (z : EReal)
    (hz : z = ((dck a (hh (pp t) (y 2)) (row (jj t) (y 3)) : ℝ) : EReal)) :
    z = (val_main_v92 (F := Ideal) x0 x1 x2 x3 (ix4 (pp t) (jj t) (y 2) (y 3)) : EReal) := by
  have e : ∀ (p i : Fin 8) (l : Fin 2) (r : Fin 512), (val_main_v92 (F := Ideal) x0 x1 x2 x3 (ix4 p i l r) : EReal) = ((dck a (hh p l) (row i r) : ℝ) : EReal) :=
    fun p i l r => (r92 _ _ _ _ a ha p i l r).trans (by simp only [row_eq]; rfl)
  exact hz.trans (e (pp t) (jj t) (y 2) (y 3)).symm

theorem arr_13 (c : Dev nD) (a : Ar) (ha : KL m c a) : (dats m 0 c).arrAt 13 cfg0.N =
    val_main_v92 (F := Ideal) (m (c, Proc.devRef .tc main_arg0)) (m (c, Proc.devRef .tc main_arg1)) (m (c, Proc.devRef .tc main_arg2)) (m (c, Proc.devRef .tc main_arg3)) := by
  refine (dats m 0 c).arrAt_eq_of_covers 13 _ (by decide +kernel) fun t hf y => ?_
  refine Eq.trans (α := EReal) (b := lOut m c t y) (congrFun (after_13 m c t) _) ?_
  exact (real_13 _ _ _ _ a ha t y _ (lOut_real m c a ha t y)).trans (at_13 _ t y).symm

theorem ix_14 : ∀ t : Fin grid0.N, win0_14.index t = ![t.val / 8, 0, 0, 0] := by decide +kernel

theorem at_14 (G : S8x8x2x512.Idx → EReal) (t : Fin cfg0.N) (y : S1x8x2x512.Idx) : G (((cfg0.win 14).blk t).view.emb y) = G (ix4 (pp t) (y 1) (y 2) (y 3)) := by
  refine Eq.trans (b := G ((win0_14.blk t).view.emb y)) rfl ?_
  refine congrArg G ?_
  idx_bounds
  funext d
  apply Fin.ext
  fin_cases d <;>
  · simp only [ValueKit.finMkLit, Fin.isValue]
    blk_simp
    rw [ix_14 t]
    try simp only [Matrix.cons_val, pp, jj, row, Fin.isValue, Fin.val_zero]
    try omega

theorem real_14 (x0 : S4096x2048.Idx → EReal) (x1 : S4096x2176.Idx → EReal) (x2 : S128x4096.Idx → EReal) (x3 : S4096x1024.Idx → EReal)
    (a : Ar) (ha : Cert.Soft.Lifts x0 x1 x2 x3 a) (t : Fin cfg0.N) (y : S1x8x2x512.Idx) (z : EReal)
    (hz : z = ((dcq a (hh (pp t) (y 2)) (row (y 1) (y 3)) : ℝ) : EReal)) :
    z = (val_main_v94 (F := Ideal) x0 x1 x2 x3 (ix4 (pp t) (y 1) (y 2) (y 3)) : EReal) := by
  have e : ∀ (p i : Fin 8) (l : Fin 2) (r : Fin 512), (val_main_v94 (F := Ideal) x0 x1 x2 x3 (ix4 p i l r) : EReal) = ((dcq a (hh p l) (row i r) : ℝ) : EReal) :=
    fun p i l r => (r94 _ _ _ _ a ha p i l r).trans (by simp only [row_eq]; rfl)
  exact hz.trans (e (pp t) (y 1) (y 2) (y 3)).symm

theorem arr_14 (c : Dev nD) (a : Ar) (ha : KL m c a) : (dats m 0 c).arrAt 14 cfg0.N =
    val_main_v94 (F := Ideal) (m (c, Proc.devRef .tc main_arg0)) (m (c, Proc.devRef .tc main_arg1)) (m (c, Proc.devRef .tc main_arg2)) (m (c, Proc.devRef .tc main_arg3)) := by
  refine (dats m 0 c).arrAt_eq_of_covers 14 _ (by decide +kernel) fun t hf y => ?_
  refine Eq.trans (α := EReal) (b := cAcc m c t y) (congrFun (after_14 m c t) _) ?_
  exact (real_14 _ _ _ _ a ha t y _ (cAcc_real m c a ha t ((flush0_14 t).1 hf) y)).trans (at_14 _ t y).symm

end Cert.KernelIdeal.Hand
-- ==== Proof.Hand.Results.lean ====
module

public import proofs.«01_k».proof.Proof.Hand.Arrays
public import Idealize.ShloMosaic.Lib.Pipeline.ValueKit
public import Idealize.ShloMosaic.Lib.IdealHost

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen
open Idealize.ShloMosaic.Pipeline (Dat Cfg Window cellOf)

variable (m : (ℓ : Loc nD τ sig) → Buf (Elt Ideal) ℓ) (ρ : Dev nD → PrngReg)
open Cert.Soft (Ar)
open Cert.ReferenceIdeal.Read (val_main_v86 val_main_v88 val_main_v90 val_main_v92 val_main_v94)

variable (r : PUnit × MemSt nD τ sig (Elt Ideal)) (h : Pipeline.FramePost cfgs (dats m) 0 (V m) r) (c : Dev nD)

include h in
theorem mem_10 : r.2.mem ((c.tc : Thread nD τ).loc main_v95_0) = (dats m 0 c).arrAt 10 cfg0.N := h.out_eq c 10

include h in
theorem res_10 (a : Ar) (ha : KL m c a) : r.2.mem ((c.tc : Thread nD τ).loc main_v95_0) =
    val_main_v86 (F := Ideal) (m (c, Proc.devRef .tc main_arg0)) (m (c, Proc.devRef .tc main_arg1)) (m (c, Proc.devRef .tc main_arg2)) (m (c, Proc.devRef .tc main_arg3)) := by
  have e1 := mem_10 m r h c
  have e2 := arr_10 m c a ha
  generalize (dats m 0 c).arrAt 10 cfg0.N = X at e1 e2
  exact e1.trans e2

include h in
theorem mem_11 : r.2.mem ((c.tc : Thread nD τ).loc main_v95_1) = (dats m 0 c).arrAt 11 cfg0.N := h.out_eq c 11

include h in
theorem res_11 (a : Ar) (ha : KL m c a) : r.2.mem ((c.tc : Thread nD τ).loc main_v95_1) =
    val_main_v88 (F := Ideal) (m (c, Proc.devRef .tc main_arg0)) (m (c, Proc.devRef .tc main_arg1)) (m (c, Proc.devRef .tc main_arg2)) (m (c, Proc.devRef .tc main_arg3)) := by
  have e1 := mem_11 m r h c
  have e2 := arr_11 m c a ha
  generalize (dats m 0 c).arrAt 11 cfg0.N = X at e1 e2
  exact e1.trans e2

include h in
theorem mem_12 : r.2.mem ((c.tc : Thread nD τ).loc main_v95_2) = (dats m 0 c).arrAt 12 cfg0.N := h.out_eq c 12

include h in
theorem res_12 (a : Ar) (ha : KL m c a) : r.2.mem ((c.tc : Thread nD τ).loc main_v95_2) =
    val_main_v90 (F := Ideal) (m (c, Proc.devRef .tc main_arg0)) (m (c, Proc.devRef .tc main_arg1)) (m (c, Proc.devRef .tc main_arg2)) (m (c, Proc.devRef .tc main_arg3)) := by
  have e1 := mem_12 m r h c
  have e2 := arr_12 m c a ha
  generalize (dats m 0 c).arrAt 12 cfg0.N = X at e1 e2
  exact e1.trans e2

include h in
theorem mem_13 : r.2.mem ((c.tc : Thread nD τ).loc main_v95_3) = (dats m 0 c).arrAt 13 cfg0.N := h.out_eq c 13

include h in
theorem res_13 (a : Ar) (ha : KL m c a) : r.2.mem ((c.tc : Thread nD τ).loc main_v95_3) =
    val_main_v92 (F := Ideal) (m (c, Proc.devRef .tc main_arg0)) (m (c, Proc.devRef .tc main_arg1)) (m (c, Proc.devRef .tc main_arg2)) (m (c, Proc.devRef .tc main_arg3)) := by
  have e1 := mem_13 m r h c
  have e2 := arr_13 m c a ha
  generalize (dats m 0 c).arrAt 13 cfg0.N = X at e1 e2
  exact e1.trans e2

include h in
theorem mem_14 : r.2.mem ((c.tc : Thread nD τ).loc main_v95_4) = (dats m 0 c).arrAt 14 cfg0.N := h.out_eq c 14

include h in
theorem res_14 (a : Ar) (ha : KL m c a) : r.2.mem ((c.tc : Thread nD τ).loc main_v95_4) =
    val_main_v94 (F := Ideal) (m (c, Proc.devRef .tc main_arg0)) (m (c, Proc.devRef .tc main_arg1)) (m (c, Proc.devRef .tc main_arg2)) (m (c, Proc.devRef .tc main_arg3)) := by
  have e1 := mem_14 m r h c
  have e2 := arr_14 m c a ha
  generalize (dats m 0 c).arrAt 14 cfg0.N = X at e1 e2
  exact e1.trans e2

end Cert.KernelIdeal.Hand
-- ==== Proof.Hand.Fin.lean ====
module

public import proofs.«01_k».proof.Pre_finite
public import Idealize.ShloMosaic.PureOps.Ideal.Laws
public import Idealize.ShloMosaic.Lib.Affine
public import Idealize.ShloMosaic.Lib.Decide

@[expose] public section

set_option maxRecDepth 16384

noncomputable section

namespace Cert.Pre_finite.Hand

open Idealize.ShloMosaic Cert.Pre_finite

/-- The side conditions of the precondition's operations. -/
theorem facts : Cert.Pre_finite.Facts where
  bcast_S_S4096x2048 := by decide
  reducesTo_S4096x2048_S_d0_1 := by decide
  h_S_ := by decide
  bcast_S_S4096x2176 := by decide
  reducesTo_S4096x2176_S_d0_1 := by decide
  bcast_S_S128x4096 := by decide
  reducesTo_S128x4096_S_d0_1 := by decide
  bcast_S_S4096x1024 := by decide
  reducesTo_S4096x1024_S_d0_1 := by decide

theorem and_one {c d : BitVec 1} (h : IntOp.andi c d = 1#1) : c = 1#1 ∧ d = 1#1 := by
  revert c d; decide

theorem foldl_one {ι : Type} (x : ι → BitVec 1) (l : List ι) :
    ∀ b : BitVec 1, l.foldl (fun r i => IntOp.andi r (x i)) b = 1#1 → b = 1#1 ∧ ∀ i ∈ l, x i = 1#1 := by
  induction l with
  | nil => intro b h; exact ⟨h, by simp⟩
  | cons i l ih =>
    intro b h
    obtain ⟨h1, h2⟩ := ih _ h
    obtain ⟨h3, h4⟩ := and_one h1
    refine ⟨h3, fun k hk => ?_⟩
    rcases List.mem_cons.1 hk with rfl | hk
    · exact h4
    · exact h2 k hk

/-- A conjunction over a whole array that is one has every element one. -/
theorem all_one {s : Shape} {axes : List (Fin s.rank)} (x : s.Idx → BitVec 1) (v : S_.Idx → BitVec 1) (h : s.ReducesTo axes S_) (hu : 0 < S_.numel)
    (j : S_.Idx) (e : Host.reduce IntOp.andi x v h hu j = 1#1) (i : s.Idx) : x i = 1#1 := by
  rw [Host.reduce_eq_foldl] at e
  refine (foldl_one x _ _ e).2 i ?_
  refine List.mem_filter.2 ⟨List.mem_map.2 ⟨s.rowMajor i, List.mem_finRange _, s.rowMajor.symm_apply_apply i⟩, ?_⟩
  exact decide_eq_true (funext fun a => a.elim0)

theorem bits_inf : Ideal.ofBits .f32 0x7F800000#32 = ⊤ := by simp [Ideal.ofBits, Ideal.ieee]

/-- An extended real whose absolute value is below infinity is a real. -/
theorem real_of (y : EReal) (h : Ideal.cmp .olt (max y (-y)) (Ideal.ofBits .f32 0x7F800000#32) = 1#1) : ∃ r : ℝ, y = (r : EReal) := by
  rw [bits_inf] at h
  induction y with
  | bot => simp [Ideal.cmp] at h
  | top => simp [Ideal.cmp] at h
  | coe r => exact ⟨r, rfl⟩

attribute [local instance] facts

/-- The precondition, read: every element of the four arguments is a real. -/
theorem reals (x0 : FVec Ideal S4096x2048 .f32) (x1 : FVec Ideal S4096x2176 .f32) (x2 : FVec Ideal S128x4096 .f32) (x3 : FVec Ideal S4096x1024 .f32)
    (h : Cert.Pre_finite.fn (F := Ideal) x0 x1 x2 x3 = fun _ => 1#1) :
    (∀ i, ∃ r : ℝ, (x0 i : EReal) = (r : EReal)) ∧ (∀ i, ∃ r : ℝ, (x1 i : EReal) = (r : EReal))
      ∧ (∀ i, ∃ r : ℝ, (x2 i : EReal) = (r : EReal)) ∧ (∀ i, ∃ r : ℝ, (x3 i : EReal) = (r : EReal)) := by
  have h := congrFun h (fun a => a.elim0)
  unfold Cert.Pre_finite.fn Cert.Pre_finite.fn_part1 at h
  obtain ⟨h, e3⟩ := and_one h
  obtain ⟨h, e2⟩ := and_one h
  obtain ⟨e0, e1⟩ := and_one h
  exact ⟨fun i => real_of _ (all_one _ _ _ _ _ e0 i), fun i => real_of _ (all_one _ _ _ _ _ e1 i),
    fun i => real_of _ (all_one _ _ _ _ _ e2 i), fun i => real_of _ (all_one _ _ _ _ _ e3 i)⟩

end Cert.Pre_finite.Hand
-- ==== Proof.Hand.WOut.lean ====
/- The gradient of the feed-forward output matrix: what the call leaves in its result is, entry by entry, the sum over the
   tokens of the two arguments' products, and so is the reference's result. -/
module

public import proofs.«01_k».proof.Defs
public import proofs.«01_k».proof.Proof.Gen.WOutIdeal.Value
public import proofs.«01_k».proof.Proof.Gen.WOutRefIdeal.Run
public import proofs.«01_k».proof.Proof.Gen.WOutRefIdeal
public import Idealize.ShloMosaic.Lib.StableHlo.ReadAt
public import Idealize.ShloMosaic.Lib.Tactic.WordOmega
public import Idealize.ShloMosaic.Lib.Pipeline.ValueKit
public import Idealize.ShloMosaic.Lib.IdealHost

@[expose] public section

set_option maxRecDepth 16384

noncomputable section

namespace Cert.WOutIdeal.Hand

open Idealize.ShloMosaic Idealize.ShloMosaic.TcCoe Idealize.ShloMosaic.Tactic
open Cert.WOutIdeal Cert.WOutIdeal.Gen
open Idealize.ShloMosaic.Pipeline (Dat Cfg Window cellOf)

theorem hz : (![0, 0] : Fin 2 → Nat) = fun _ => 0 := funext fun a => by fin_cases a <;> rfl
theorem hz3 : (![0, 0, 0] : Fin 3 → Nat) = fun _ => 0 := funext fun a => by fin_cases a <;> rfl

/-- The first of a block's two points leaves zero plus its tile's products. -/
theorem acc_A (c : Dev nD) (i : grid0.Coords) (a2 : Memref sig .tc .vmem S1x2048x704 .bf16) (h2 : a2.IsWhole) (a3 : Memref sig .tc .vmem S2048x1024 .bf16) (h3 : a3.IsWhole)
    (a4 : Memref sig .tc .vmem S704x1024 .bf16) (h4 : a4.IsWhole) (a5 : Memref sig .tc .vmem S704x1024 .f32) (h5 : a5.IsWhole) (hc0 : cond0_0 i) (hc1 : ¬cond0_1 i)
    (x : Vec Ideal S1x2048x704 .bf16) (y : Vec Ideal S2048x1024 .bf16) :
    sout0_A_0 c i a2 h2 a3 h3 a4 h4 a5 h5 hc0 hc1 x y = k0_pay2 (k0_pay1 (F := Ideal)) x y := by
  unfold sout0_A_0
  rw [View.read_writes_eq_canon _ _ _ (scover0_A_0 c i a2 h2 a3 h3 a4 h4 a5 h5 hc0 hc1 x y)]
  unfold kernelRun0_A
  dsimp only
  sl_unfold_words
  rw [View.canon_cons_unit_zero (S := S704x1024) hz, View.readCov_unit_zero (S := S704x1024) _ hz]
  simp only [View.readAt_eq_ld, h2.read_unread, h3.read_unread, View.ld_unit_zero (S := S1x2048x704) hz3, View.ld_unit_zero (S := S2048x1024) hz, View.ld_unit_zero (S := S704x1024) hz]

/-- The second point stores what the first left plus its tile's products. -/
theorem out_B (c : Dev nD) (i : grid0.Coords) (a2 : Memref sig .tc .vmem S1x2048x704 .bf16) (h2 : a2.IsWhole) (a3 : Memref sig .tc .vmem S2048x1024 .bf16) (h3 : a3.IsWhole)
    (a4 : Memref sig .tc .vmem S704x1024 .bf16) (h4 : a4.IsWhole) (a5 : Memref sig .tc .vmem S704x1024 .f32) (h5 : a5.IsWhole) (hc0 : ¬cond0_0 i) (hc1 : cond0_1 i)
    (x : Vec Ideal S1x2048x704 .bf16) (y : Vec Ideal S2048x1024 .bf16) (s : Vec Ideal S704x1024 .f32) :
    out0_B_2 c i a2 h2 a3 h3 a4 h4 a5 h5 hc0 hc1 x y s = k0_pay3 (k0_pay2 s x y) := by
  unfold out0_B_2
  rw [View.read_writes_eq_canon _ _ _ (cover0_B_2 c i a2 h2 a3 h3 a4 h4 a5 h5 hc0 hc1 x y s)]
  unfold kernelRun0_B
  dsimp only
  sl_unfold_words
  rw [View.canon_unit_zero (S := S704x1024) hz, View.readCov_unit_zero (S := S704x1024) _ hz]
  simp only [View.readAt_eq_ld, h2.read_unread, h3.read_unread, h5.read_unread, View.ld_unit_zero (S := S1x2048x704) hz3, View.ld_unit_zero (S := S2048x1024) hz, View.ld_unit_zero (S := S704x1024) hz]

/-- One tile's products added to an accumulator, at an entry. -/
theorem pay2_apply (s : Vec Ideal S704x1024 .f32) (x : Vec Ideal S1x2048x704 .bf16) (y : Vec Ideal S2048x1024 .bf16) (k : Fin 704) (n : Fin 1024) :
    (k0_pay2 s x y (ix2 k n) : EReal) = s (ix2 k n) + ∑ t : Fin 2048, (x (ix3 0 t k) : EReal) * (y (ix2 t n) : EReal) := by
  pointwise [k0_pay2]

theorem pay1_apply (k : Fin 704) (n : Fin 1024) : (k0_pay1 (F := Ideal) (ix2 k n) : EReal) = 0 := by
  pointwise [k0_pay1]

theorem pay3_apply (s : Vec Ideal S704x1024 .f32) (k : Fin 704) (n : Fin 1024) : (k0_pay3 s (ix2 k n) : EReal) = s (ix2 k n) := by
  pointwise [k0_pay3]

variable (m : (ℓ : Loc nD τ sig) → Buf (Elt Ideal) ℓ)

/-- The point's token among all of them. -/
def tok (t : Fin 2) (r : Fin 2048) : Fin 4096 := ⟨2048 * t.val + r.val, by omega⟩

theorem ix_0 : ∀ t : Fin grid0.N, win0_0.index t = ![t.val / 2, t.val % 2, 0] := by decide +kernel
theorem ix_1 : ∀ t : Fin grid0.N, win0_1.index t = ![t.val % 2, 0] := by decide +kernel

theorem rd_x (c : Dev nD) (U : (b : Ref sig .tc) → Buf (Elt Ideal) ((c : Thread nD τ).loc b)) (t : Fin cfg0.N) (b : Fin 4) (q : Fin 2) (hb : t.val = 2 * b.val + q.val) (r : Fin 2048) (k : Fin 704) :
    (((cfg0.win 0).blk t).view.read (Elt Ideal) (U (Pipeline.arrRef spec0 0)) (ix3 0 r k) : EReal) = U main_arg0 (ix3 b (tok q r) k) := by
  refine Eq.trans (α := EReal) (b := U main_arg0 ((win0_0.blk t).view.emb (ix3 0 r k))) rfl ?_
  refine congrArg (U main_arg0) ?_
  funext d
  apply Fin.ext
  fin_cases d <;>
  · simp only [ValueKit.finMkLit, Fin.isValue]
    blk_simp
    rw [ix_0 t]
    try simp only [Matrix.cons_val, tok, Fin.isValue, Fin.val_zero]
    try omega

theorem rd_y (c : Dev nD) (U : (b : Ref sig .tc) → Buf (Elt Ideal) ((c : Thread nD τ).loc b)) (t : Fin cfg0.N) (b : Fin 4) (q : Fin 2) (hb : t.val = 2 * b.val + q.val) (r : Fin 2048) (n : Fin 1024) :
    (((cfg0.win 1).blk t).view.read (Elt Ideal) (U (Pipeline.arrRef spec0 1)) (ix2 r n) : EReal) = U main_arg1 (ix2 (tok q r) n) := by
  refine Eq.trans (α := EReal) (b := U main_arg1 ((win0_1.blk t).view.emb (ix2 r n))) rfl ?_
  refine congrArg (U main_arg1) ?_
  funext d
  apply Fin.ext
  fin_cases d <;>
  · simp only [ValueKit.finMkLit, Fin.isValue]
    blk_simp
    rw [ix_1 t]
    try simp only [Matrix.cons_val, tok, Fin.isValue, Fin.val_zero]
    try omega

/-- A sum over the tokens, tile by tile. -/
theorem sum_tok (f : Fin 4096 → EReal) : ∑ t, f t = ∑ r, f (tok 0 r) + ∑ r, f (tok 1 r) := by
  refine (Fin.sum_univ_add (a := 2048) (b := 2048) f).trans ?_
  refine congrArg₂ (· + ·) (Finset.sum_congr rfl fun r _ => congrArg f (Fin.ext ?_)) (Finset.sum_congr rfl fun r _ => congrArg f (Fin.ext ?_))
  · show r.val = 2048 * 0 + r.val
    omega
  · show 2048 + r.val = 2048 * 1 + r.val
    omega

/-- What both compute: the sum over the tokens. -/
def dw (x : S4x4096x704.Idx → EReal) (y : S4096x1024.Idx → EReal) (b : Fin 4) (k : Fin 704) (n : Fin 1024) : EReal :=
  ∑ t : Fin 4096, x (ix3 b t k) * y (ix2 t n)

theorem out_apply (c : Dev nD) (t : Fin cfg0.N) (b : Fin 4) (hb : t.val = 2 * b.val + 1) (k : Fin 704) (n : Fin 1024) :
    ((outsAt0 m c t.val t.isLt).1 (ix2 k n) : EReal) = dw (V m c main_arg0) (V m c main_arg1) b k n := by
  have hN := lt_of_lt_of_eq t.isLt N_0
  have ht : t.val - 1 < cfg0.N := by omega
  rw [outsAt0_B m c t (by omega) (by omega)]
  dsimp only
  rw [out_B, pay3_apply, pay2_apply]
  have e : (outsAt0 m c (t.val - 1) ht).2 = _ := congrArg Prod.snd (outsAt0_A m c ⟨t.val - 1, ht⟩ (by show (t.val - 1) % 2 = 0; omega) (by show ¬(t.val - 1) % 2 = 1; omega))
  rw [e]
  dsimp only
  rw [acc_A, pay2_apply, pay1_apply, zero_add, dw, sum_tok]
  unfold iblk
  refine congrArg₂ (· + ·) (Finset.sum_congr rfl fun r _ => congrArg₂ (· * ·) ?_ ?_) (Finset.sum_congr rfl fun r _ => congrArg₂ (· * ·) ?_ ?_)
  · exact rd_x c (V m c) _ b 0 (by show t.val - 1 = 2 * b.val + 0; omega) r k
  · exact rd_y c (V m c) _ b 0 (by show t.val - 1 = 2 * b.val + 0; omega) r n
  · exact rd_x c (V m c) t b 1 hb r k
  · exact rd_y c (V m c) t b 1 hb r n

end Cert.WOutIdeal.Hand

namespace Cert.WOutRefIdeal.Hand

open Idealize.ShloMosaic Idealize.ShloMosaic.TcCoe Idealize.ShloMosaic.Tactic
open Cert.WOutRefIdeal Cert.WOutRefIdeal.Gen
open Cert.WOutIdeal.Hand (dw)

/-- The reference's result, as a function of the arguments. -/
abbrev ref (x : Vec Ideal S4x4096x704 .bf16) (y : Vec Ideal S4096x1024 .bf16) : Vec Ideal S2816x1024 .bf16 :=
  truncf (F := Ideal) .bf16 (transpose S2816x1024 [1, 0] (Host.dotGeneral dot_S4096x1024_S4096x2816_S1024x2816_0_0_1_1_n_n none (extf .f32 y bitsLt_bf16_f32)
    (shapeCast _ (transpose S4096x4x704 [1, 0, 2] (extf .f32 x bitsLt_bf16_f32) transposes_S4x4096x704_S4096x4x704_1_0_2) shapeCasts_S4096x4x704_S4096x2816)) transposes_S1024x2816_S2816x1024_1_0) bitsLt_bf16_f32

theorem ref_apply (x : Vec Ideal S4x4096x704 .bf16) (y : Vec Ideal S4096x1024 .bf16) (j : Fin 2816) (n : Fin 1024) :
    (ref x y (ix2 j n) : EReal) = dw x y ⟨j.val / 704, by omega⟩ ⟨j.val % 704, by omega⟩ n := by
  unfold ref
  pointwise [dw]
  refine Finset.sum_congr rfl fun t _ => ?_
  exact mul_comm (G := EReal) _ _

end Cert.WOutRefIdeal.Hand

namespace Cert.WOutIdeal.Hand

open Idealize.ShloMosaic Idealize.ShloMosaic.TcCoe Idealize.ShloMosaic.Tactic Idealize.SL.Sem
open Cert.WOutIdeal Cert.WOutIdeal.Gen
open Cert.WOutRefIdeal.Hand (ref ref_apply)

variable (m : (ℓ : Loc nD τ sig) → Buf (Elt Ideal) ℓ) (ρ : Dev nD → PrngReg)

/-- The result array is the reference's. -/
theorem final (c : Dev nD) : Value.G2 m c = ref (m ((c : Thread nD τ).loc main_arg0)) (m ((c : Thread nD τ).loc main_arg1)) := by
  refine funext fun i => ?_
  have h0 : (i 0).val < 2816 := (i 0).isLt
  have h1 : (i 1).val < 1024 := (i 1).isLt
  have hp : Value.pt2Of i < cfg0.N := by rw [show cfg0.N = 8 from N_0]; show 2 * (1 * ((i 0).val / 704 - 0) + 1 * ((i 1).val / 1024 - 0)) + 1 < 8; omega
  have e : Value.pt2Of i = 2 * ((i 0).val / 704) + 1 := by show 2 * (1 * ((i 0).val / 704 - 0) + 1 * ((i 1).val / 1024 - 0)) + 1 = _; omega
  unfold Value.G2
  rw [dif_pos hp, ← Value.outsAt0_sweep m c _ hp]
  have el : Value.loc2Of i = ix2 ⟨(i 0).val % 704, by omega⟩ ⟨(i 1).val, h1⟩ := by
    funext a; fin_cases a
    · rfl
    · exact Fin.ext (Nat.mod_eq_of_lt h1)
  have ei : i = ix2 ⟨(i 0).val, h0⟩ ⟨(i 1).val, h1⟩ := by
    funext a; fin_cases a <;> rfl
  rw [el]
  refine (out_apply m c ⟨_, hp⟩ ⟨(i 0).val / 704, by omega⟩ e _ _).trans ?_
  refine Eq.trans ?_ (congrArg (ref (m ((c : Thread nD τ).loc main_arg0)) (m ((c : Thread nD τ).loc main_arg1))) ei).symm
  exact (ref_apply _ _ _ _).symm

/-- The call's result is the reference's, whatever the arguments. -/
theorem values : Cert.algebraic_WOutIdeal_WOutRefIdeal := by
  intro m g m' g' _ hargs
  refine ⟨fun c => ref (m ((c : Thread nD τ).loc main_arg0)) (m ((c : Thread nD τ).loc main_arg1)), ?_, ?_⟩
  · refine (θ_run _ _ _).mono (fun r h c => ?_) (Value.run (F := Ideal) m g)
    exact ⟨(h c).1.trans (final m c), (h c).2⟩
  · refine (θ_run _ _ _).mono (fun r h c => ?_) (Cert.WOutRefIdeal.Value.run (F := Ideal) m' g')
    obtain ⟨h0, e⟩ := h c
    obtain ⟨a0, a1⟩ := hargs c
    rw [a0, a1] at h0
    exact ⟨h0, e⟩

/-- The reference's frame: it declares no semaphore. -/
theorem frame_r (m : (ℓ : Loc Cert.WOutRefIdeal.nD Cert.WOutRefIdeal.τ Cert.WOutRefIdeal.sig) → Buf (Elt Ideal) ℓ) (g : Dev Cert.WOutRefIdeal.nD → PrngReg) :
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1))
      ∧ r.2.sem = fun _ => 0) :=
  (θ_run _ _ _).mono (fun r h => ⟨fun c => (h c).2, Idealize.ShloMosaic.sem_eq_zero_of_no_sems (by decide) r.2⟩) (Cert.WOutRefIdeal.Value.run (F := Ideal) m g)

end Cert.WOutIdeal.Hand
-- ==== Proof.Hand.WIn.lean ====
/- The gradient of the feed-forward input matrix: what the call leaves in its result is, entry by entry, the sum over the
   tokens of the two arguments' products, and so is the reference's result. -/
module

public import proofs.«01_k».proof.Defs
public import proofs.«01_k».proof.Proof.Gen.WInIdeal.Value
public import proofs.«01_k».proof.Proof.Gen.WInRefIdeal.Run
public import proofs.«01_k».proof.Proof.Gen.WInRefIdeal
public import Idealize.ShloMosaic.Lib.StableHlo.ReadAt
public import Idealize.ShloMosaic.Lib.Tactic.WordOmega
public import Idealize.ShloMosaic.Lib.Pipeline.ValueKit
public import Idealize.ShloMosaic.Lib.IdealHost

@[expose] public section

set_option maxRecDepth 16384

noncomputable section

namespace Cert.WInIdeal.Hand

open Idealize.ShloMosaic Idealize.ShloMosaic.TcCoe Idealize.ShloMosaic.Tactic
open Cert.WInIdeal Cert.WInIdeal.Gen
open Idealize.ShloMosaic.Pipeline (Dat Cfg Window cellOf)

theorem hz : (![0, 0] : Fin 2 → Nat) = fun _ => 0 := funext fun a => by fin_cases a <;> rfl
theorem hz3 : (![0, 0, 0] : Fin 3 → Nat) = fun _ => 0 := funext fun a => by fin_cases a <;> rfl

/-- The first of a block's two points leaves zero plus its tile's products. -/
theorem acc_A (c : Dev nD) (i : grid0.Coords) (a2 : Memref sig .tc .vmem S1x2048x704 .bf16) (h2 : a2.IsWhole) (a3 : Memref sig .tc .vmem S2048x1024 .bf16) (h3 : a3.IsWhole)
    (a4 : Memref sig .tc .vmem S704x1024 .bf16) (h4 : a4.IsWhole) (a5 : Memref sig .tc .vmem S704x1024 .f32) (h5 : a5.IsWhole) (hc0 : cond0_0 i) (hc1 : ¬cond0_1 i)
    (x : Vec Ideal S1x2048x704 .bf16) (y : Vec Ideal S2048x1024 .bf16) :
    sout0_A_0 c i a2 h2 a3 h3 a4 h4 a5 h5 hc0 hc1 x y = k0_pay2 (k0_pay1 (F := Ideal)) x y := by
  unfold sout0_A_0
  rw [View.read_writes_eq_canon _ _ _ (scover0_A_0 c i a2 h2 a3 h3 a4 h4 a5 h5 hc0 hc1 x y)]
  unfold kernelRun0_A
  dsimp only
  sl_unfold_words
  rw [View.canon_cons_unit_zero (S := S704x1024) hz, View.readCov_unit_zero (S := S704x1024) _ hz]
  simp only [View.readAt_eq_ld, h2.read_unread, h3.read_unread, View.ld_unit_zero (S := S1x2048x704) hz3, View.ld_unit_zero (S := S2048x1024) hz, View.ld_unit_zero (S := S704x1024) hz]

/-- The second point stores what the first left plus its tile's products. -/
theorem out_B (c : Dev nD) (i : grid0.Coords) (a2 : Memref sig .tc .vmem S1x2048x704 .bf16) (h2 : a2.IsWhole) (a3 : Memref sig .tc .vmem S2048x1024 .bf16) (h3 : a3.IsWhole)
    (a4 : Memref sig .tc .vmem S704x1024 .bf16) (h4 : a4.IsWhole) (a5 : Memref sig .tc .vmem S704x1024 .f32) (h5 : a5.IsWhole) (hc0 : ¬cond0_0 i) (hc1 : cond0_1 i)
    (x : Vec Ideal S1x2048x704 .bf16) (y : Vec Ideal S2048x1024 .bf16) (s : Vec Ideal S704x1024 .f32) :
    out0_B_2 c i a2 h2 a3 h3 a4 h4 a5 h5 hc0 hc1 x y s = k0_pay3 (k0_pay2 s x y) := by
  unfold out0_B_2
  rw [View.read_writes_eq_canon _ _ _ (cover0_B_2 c i a2 h2 a3 h3 a4 h4 a5 h5 hc0 hc1 x y s)]
  unfold kernelRun0_B
  dsimp only
  sl_unfold_words
  rw [View.canon_unit_zero (S := S704x1024) hz, View.readCov_unit_zero (S := S704x1024) _ hz]
  simp only [View.readAt_eq_ld, h2.read_unread, h3.read_unread, h5.read_unread, View.ld_unit_zero (S := S1x2048x704) hz3, View.ld_unit_zero (S := S2048x1024) hz, View.ld_unit_zero (S := S704x1024) hz]

/-- One tile's products added to an accumulator, at an entry. -/
theorem pay2_apply (s : Vec Ideal S704x1024 .f32) (x : Vec Ideal S1x2048x704 .bf16) (y : Vec Ideal S2048x1024 .bf16) (k : Fin 704) (n : Fin 1024) :
    (k0_pay2 s x y (ix2 k n) : EReal) = s (ix2 k n) + ∑ t : Fin 2048, (x (ix3 0 t k) : EReal) * (y (ix2 t n) : EReal) := by
  pointwise [k0_pay2]

theorem pay1_apply (k : Fin 704) (n : Fin 1024) : (k0_pay1 (F := Ideal) (ix2 k n) : EReal) = 0 := by
  pointwise [k0_pay1]

theorem pay3_apply (s : Vec Ideal S704x1024 .f32) (k : Fin 704) (n : Fin 1024) : (k0_pay3 s (ix2 k n) : EReal) = s (ix2 k n) := by
  pointwise [k0_pay3]

variable (m : (ℓ : Loc nD τ sig) → Buf (Elt Ideal) ℓ)

/-- The point's token among all of them. -/
def tok (t : Fin 2) (r : Fin 2048) : Fin 4096 := ⟨2048 * t.val + r.val, by omega⟩

theorem ix_0 : ∀ t : Fin grid0.N, win0_0.index t = ![t.val / 2, t.val % 2, 0] := by decide +kernel
theorem ix_1 : ∀ t : Fin grid0.N, win0_1.index t = ![t.val % 2, 0] := by decide +kernel

theorem rd_x (c : Dev nD) (U : (b : Ref sig .tc) → Buf (Elt Ideal) ((c : Thread nD τ).loc b)) (t : Fin cfg0.N) (b : Fin 8) (q : Fin 2) (hb : t.val = 2 * b.val + q.val) (r : Fin 2048) (k : Fin 704) :
    (((cfg0.win 0).blk t).view.read (Elt Ideal) (U (Pipeline.arrRef spec0 0)) (ix3 0 r k) : EReal) = U main_arg0 (ix3 b (tok q r) k) := by
  refine Eq.trans (α := EReal) (b := U main_arg0 ((win0_0.blk t).view.emb (ix3 0 r k))) rfl ?_
  refine congrArg (U main_arg0) ?_
  funext d
  apply Fin.ext
  fin_cases d <;>
  · simp only [ValueKit.finMkLit, Fin.isValue]
    blk_simp
    rw [ix_0 t]
    try simp only [Matrix.cons_val, tok, Fin.isValue, Fin.val_zero]
    try omega

theorem rd_y (c : Dev nD) (U : (b : Ref sig .tc) → Buf (Elt Ideal) ((c : Thread nD τ).loc b)) (t : Fin cfg0.N) (b : Fin 8) (q : Fin 2) (hb : t.val = 2 * b.val + q.val) (r : Fin 2048) (n : Fin 1024) :
    (((cfg0.win 1).blk t).view.read (Elt Ideal) (U (Pipeline.arrRef spec0 1)) (ix2 r n) : EReal) = U main_arg1 (ix2 (tok q r) n) := by
  refine Eq.trans (α := EReal) (b := U main_arg1 ((win0_1.blk t).view.emb (ix2 r n))) rfl ?_
  refine congrArg (U main_arg1) ?_
  funext d
  apply Fin.ext
  fin_cases d <;>
  · simp only [ValueKit.finMkLit, Fin.isValue]
    blk_simp
    rw [ix_1 t]
    try simp only [Matrix.cons_val, tok, Fin.isValue, Fin.val_zero]
    try omega

/-- A sum over the tokens, tile by tile. -/
theorem sum_tok (f : Fin 4096 → EReal) : ∑ t, f t = ∑ r, f (tok 0 r) + ∑ r, f (tok 1 r) := by
  refine (Fin.sum_univ_add (a := 2048) (b := 2048) f).trans ?_
  refine congrArg₂ (· + ·) (Finset.sum_congr rfl fun r _ => congrArg f (Fin.ext ?_)) (Finset.sum_congr rfl fun r _ => congrArg f (Fin.ext ?_))
  · show r.val = 2048 * 0 + r.val
    omega
  · show 2048 + r.val = 2048 * 1 + r.val
    omega

/-- What both compute: the sum over the tokens. -/
def dw (x : S8x4096x704.Idx → EReal) (y : S4096x1024.Idx → EReal) (b : Fin 8) (k : Fin 704) (n : Fin 1024) : EReal :=
  ∑ t : Fin 4096, x (ix3 b t k) * y (ix2 t n)

theorem out_apply (c : Dev nD) (t : Fin cfg0.N) (b : Fin 8) (hb : t.val = 2 * b.val + 1) (k : Fin 704) (n : Fin 1024) :
    ((outsAt0 m c t.val t.isLt).1 (ix2 k n) : EReal) = dw (V m c main_arg0) (V m c main_arg1) b k n := by
  have hN := lt_of_lt_of_eq t.isLt N_0
  have ht : t.val - 1 < cfg0.N := by omega
  rw [outsAt0_B m c t (by omega) (by omega)]
  dsimp only
  rw [out_B, pay3_apply, pay2_apply]
  have e : (outsAt0 m c (t.val - 1) ht).2 = _ := congrArg Prod.snd (outsAt0_A m c ⟨t.val - 1, ht⟩ (by show (t.val - 1) % 2 = 0; omega) (by show ¬(t.val - 1) % 2 = 1; omega))
  rw [e]
  dsimp only
  rw [acc_A, pay2_apply, pay1_apply, zero_add, dw, sum_tok]
  unfold iblk
  refine congrArg₂ (· + ·) (Finset.sum_congr rfl fun r _ => congrArg₂ (· * ·) ?_ ?_) (Finset.sum_congr rfl fun r _ => congrArg₂ (· * ·) ?_ ?_)
  · exact rd_x c (V m c) _ b 0 (by show t.val - 1 = 2 * b.val + 0; omega) r k
  · exact rd_y c (V m c) _ b 0 (by show t.val - 1 = 2 * b.val + 0; omega) r n
  · exact rd_x c (V m c) t b 1 hb r k
  · exact rd_y c (V m c) t b 1 hb r n

end Cert.WInIdeal.Hand

namespace Cert.WInRefIdeal.Hand

open Idealize.ShloMosaic Idealize.ShloMosaic.TcCoe Idealize.ShloMosaic.Tactic
open Cert.WInRefIdeal Cert.WInRefIdeal.Gen
open Cert.WInIdeal.Hand (dw)

/-- The reference's result, as a function of the arguments. -/
abbrev ref (x : Vec Ideal S8x4096x704 .bf16) (y : Vec Ideal S4096x1024 .bf16) : Vec Ideal S5632x1024 .bf16 :=
  truncf (F := Ideal) .bf16 (transpose S5632x1024 [1, 0] (transpose S1024x5632 [1, 0] (Host.dotGeneral dot_S4096x5632_S4096x1024_S5632x1024_0_0_1_1_n_n none
    (shapeCast _ (transpose S4096x8x704 [1, 0, 2] (extf .f32 x bitsLt_bf16_f32) transposes_S8x4096x704_S4096x8x704_1_0_2) shapeCasts_S4096x8x704_S4096x5632)
    (extf .f32 y bitsLt_bf16_f32)) transposes_S5632x1024_S1024x5632_1_0) transposes_S1024x5632_S5632x1024_1_0) bitsLt_bf16_f32

theorem ref_apply (x : Vec Ideal S8x4096x704 .bf16) (y : Vec Ideal S4096x1024 .bf16) (j : Fin 5632) (n : Fin 1024) :
    (ref x y (ix2 j n) : EReal) = dw x y ⟨j.val / 704, by omega⟩ ⟨j.val % 704, by omega⟩ n := by
  unfold ref
  pointwise [dw]

end Cert.WInRefIdeal.Hand

namespace Cert.WInIdeal.Hand

open Idealize.ShloMosaic Idealize.ShloMosaic.TcCoe Idealize.ShloMosaic.Tactic Idealize.SL.Sem
open Cert.WInIdeal Cert.WInIdeal.Gen
open Cert.WInRefIdeal.Hand (ref ref_apply)

variable (m : (ℓ : Loc nD τ sig) → Buf (Elt Ideal) ℓ) (ρ : Dev nD → PrngReg)

/-- The result array is the reference's. -/
theorem final (c : Dev nD) : Value.G2 m c = ref (m ((c : Thread nD τ).loc main_arg0)) (m ((c : Thread nD τ).loc main_arg1)) := by
  refine funext fun i => ?_
  have h0 : (i 0).val < 5632 := (i 0).isLt
  have h1 : (i 1).val < 1024 := (i 1).isLt
  have hp : Value.pt2Of i < cfg0.N := by rw [show cfg0.N = 16 from N_0]; show 2 * (1 * ((i 0).val / 704 - 0) + 1 * ((i 1).val / 1024 - 0)) + 1 < 16; omega
  have e : Value.pt2Of i = 2 * ((i 0).val / 704) + 1 := by show 2 * (1 * ((i 0).val / 704 - 0) + 1 * ((i 1).val / 1024 - 0)) + 1 = _; omega
  unfold Value.G2
  rw [dif_pos hp, ← Value.outsAt0_sweep m c _ hp]
  have el : Value.loc2Of i = ix2 ⟨(i 0).val % 704, by omega⟩ ⟨(i 1).val, h1⟩ := by
    funext a; fin_cases a
    · rfl
    · exact Fin.ext (Nat.mod_eq_of_lt h1)
  have ei : i = ix2 ⟨(i 0).val, h0⟩ ⟨(i 1).val, h1⟩ := by
    funext a; fin_cases a <;> rfl
  rw [el]
  refine (out_apply m c ⟨_, hp⟩ ⟨(i 0).val / 704, by omega⟩ e _ _).trans ?_
  refine Eq.trans ?_ (congrArg (ref (m ((c : Thread nD τ).loc main_arg0)) (m ((c : Thread nD τ).loc main_arg1))) ei).symm
  exact (ref_apply _ _ _ _).symm

/-- The call's result is the reference's, whatever the arguments. -/
theorem values : Cert.algebraic_WInIdeal_WInRefIdeal := by
  intro m g m' g' _ hargs
  refine ⟨fun c => ref (m ((c : Thread nD τ).loc main_arg0)) (m ((c : Thread nD τ).loc main_arg1)), ?_, ?_⟩
  · refine (θ_run _ _ _).mono (fun r h c => ?_) (Value.run (F := Ideal) m g)
    exact ⟨(h c).1.trans (final m c), (h c).2⟩
  · refine (θ_run _ _ _).mono (fun r h c => ?_) (Cert.WInRefIdeal.Value.run (F := Ideal) m' g')
    obtain ⟨h0, e⟩ := h c
    obtain ⟨a0, a1⟩ := hargs c
    rw [a0, a1] at h0
    exact ⟨h0, e⟩

/-- The reference's frame: it declares no semaphore. -/
theorem frame_r (m : (ℓ : Loc Cert.WInRefIdeal.nD Cert.WInRefIdeal.τ Cert.WInRefIdeal.sig) → Buf (Elt Ideal) ℓ) (g : Dev Cert.WInRefIdeal.nD → PrngReg) :
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1))
      ∧ r.2.sem = fun _ => 0) :=
  (θ_run _ _ _).mono (fun r h => ⟨fun c => (h c).2, Idealize.ShloMosaic.sem_eq_zero_of_no_sems (by decide) r.2⟩) (Cert.WInRefIdeal.Value.run (F := Ideal) m g)

end Cert.WInIdeal.Hand
-- ==== Proof.Hand.FfnOut.lean ====
/- The feed-forward output product with its norm and residual: what the call leaves in its two results is what the reference leaves. -/
module

public import proofs.«01_k».proof.Defs
public import proofs.«01_k».proof.Proof.Gen.FfnOutIdeal.Value
public import proofs.«01_k».proof.Proof.Gen.FfnOutRefIdeal.Run
public import proofs.«01_k».proof.Proof.Gen.FfnOutRefIdeal.Read
public import proofs.«01_k».proof.Proof.Gen.FfnOutRefIdeal
public import Idealize.ShloMosaic.Lib.StableHlo.ReadAt
public import Idealize.ShloMosaic.Lib.Pointwise
public import Idealize.ShloMosaic.Lib.Tactic.WordOmega
public import Idealize.ShloMosaic.Lib.Pipeline.ValueKit
public import Idealize.ShloMosaic.Lib.IdealHost

@[expose] public section

set_option maxRecDepth 16384

noncomputable section

namespace Cert.FfnOutIdeal.Hand

open Idealize.ShloMosaic Idealize.ShloMosaic.TcCoe Idealize.ShloMosaic.Tactic
open Cert.FfnOutIdeal Cert.FfnOutIdeal.Gen
open Idealize.ShloMosaic.Pipeline (Dat Cfg Window cellOf)

theorem hz : (![0, 0] : Fin 2 → Nat) = fun _ => 0 := funext fun a => by fin_cases a <;> rfl
theorem hz3 : (![0, 0, 0] : Fin 3 → Nat) = fun _ => 0 := funext fun a => by fin_cases a <;> rfl

/-- A block's first point leaves zero plus its tile's products. -/
theorem acc_A (c : Dev nD) (i : grid0.Coords) (a2 : Memref sig .tc .vmem S1x1024x704 .bf16) (h2 : a2.IsWhole) (a3 : Memref sig .tc .vmem S704x1024 .bf16) (h3 : a3.IsWhole)
    (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (a8 : Memref sig .tc .vmem S1024x1024 .f32) (h8 : a8.IsWhole) (hc0 : cond0_0 i) (hc1 : ¬cond0_1 i)
    (x : Vec Ideal S1x1024x704 .bf16) (w : Vec Ideal S704x1024 .bf16) (h : Vec Ideal S1024x1024 .f32) (g : Vec Ideal S1x1024 .f32) :
    sout0_A_0 c i a2 h2 a3 h3 a4 h4 a5 h5 a6 h6 a7 h7 a8 h8 hc0 hc1 x w h g = k0_pay2 (k0_pay1 (F := Ideal)) x w := by
  unfold sout0_A_0
  rw [View.read_writes_eq_canon _ _ _ (scover0_A_0 c i a2 h2 a3 h3 a4 h4 a5 h5 a6 h6 a7 h7 a8 h8 hc0 hc1 x w h g)]
  unfold kernelRun0_A
  dsimp only
  sl_unfold_words
  rw [View.canon_cons_unit_zero (S := S1024x1024) hz, View.readCov_unit_zero (S := S1024x1024) _ hz]
  simp only [View.readAt_eq_ld, h2.read_unread, h3.read_unread, h4.read_unread, h5.read_unread, h8.read_unread, View.ld_unit_zero (S := S1x1024x704) hz3, View.ld_unit_zero (S := S704x1024) hz,
    View.ld_unit_zero (S := S1x1024) hz, View.ld_unit_zero (S := S1024x1024) hz]

/-- A middle point adds its tile's products. -/
theorem acc_B (c : Dev nD) (i : grid0.Coords) (a2 : Memref sig .tc .vmem S1x1024x704 .bf16) (h2 : a2.IsWhole) (a3 : Memref sig .tc .vmem S704x1024 .bf16) (h3 : a3.IsWhole)
    (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (a8 : Memref sig .tc .vmem S1024x1024 .f32) (h8 : a8.IsWhole) (hc0 : ¬cond0_0 i) (hc1 : ¬cond0_1 i)
    (x : Vec Ideal S1x1024x704 .bf16) (w : Vec Ideal S704x1024 .bf16) (h : Vec Ideal S1024x1024 .f32) (g : Vec Ideal S1x1024 .f32) (s : Vec Ideal S1024x1024 .f32) :
    sout0_B_0 c i a2 h2 a3 h3 a4 h4 a5 h5 a6 h6 a7 h7 a8 h8 hc0 hc1 x w h g s = k0_pay2 s x w := by
  unfold sout0_B_0
  rw [View.read_writes_eq_canon _ _ _ (scover0_B_0 c i a2 h2 a3 h3 a4 h4 a5 h5 a6 h6 a7 h7 a8 h8 hc0 hc1 x w h g s)]
  unfold kernelRun0_B
  dsimp only
  sl_unfold_words
  rw [View.canon_unit_zero (S := S1024x1024) hz]
  simp only [View.readAt_eq_ld, h2.read_unread, h3.read_unread, h4.read_unread, h5.read_unread, h8.read_unread, View.ld_unit_zero (S := S1x1024x704) hz3, View.ld_unit_zero (S := S704x1024) hz,
    View.ld_unit_zero (S := S1x1024) hz, View.ld_unit_zero (S := S1024x1024) hz]

/-- The last point stores the product. -/
theorem out_C_5 (c : Dev nD) (i : grid0.Coords) (a2 : Memref sig .tc .vmem S1x1024x704 .bf16) (h2 : a2.IsWhole) (a3 : Memref sig .tc .vmem S704x1024 .bf16) (h3 : a3.IsWhole)
    (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (a8 : Memref sig .tc .vmem S1024x1024 .f32) (h8 : a8.IsWhole) (hc0 : ¬cond0_0 i) (hc1 : cond0_1 i)
    (x : Vec Ideal S1x1024x704 .bf16) (w : Vec Ideal S704x1024 .bf16) (h : Vec Ideal S1024x1024 .f32) (g : Vec Ideal S1x1024 .f32) (s : Vec Ideal S1024x1024 .f32) :
    out0_C_5 c i a2 h2 a3 h3 a4 h4 a5 h5 a6 h6 a7 h7 a8 h8 hc0 hc1 x w h g s = k0_pay2 s x w := by
  unfold out0_C_5
  rw [View.read_writes_eq_canon _ _ _ (cover0_C_5 c i a2 h2 a3 h3 a4 h4 a5 h5 a6 h6 a7 h7 a8 h8 hc0 hc1 x w h g s)]
  unfold kernelRun0_C
  dsimp only
  sl_unfold_words
  rw [View.canon_unit_zero (S := S1024x1024) hz, View.readCov_unit_zero (S := S1024x1024) _ hz]
  simp only [View.readAt_eq_ld, h2.read_unread, h3.read_unread, h4.read_unread, h5.read_unread, h8.read_unread, View.ld_unit_zero (S := S1x1024x704) hz3, View.ld_unit_zero (S := S704x1024) hz,
    View.ld_unit_zero (S := S1x1024) hz, View.ld_unit_zero (S := S1024x1024) hz]

/-- The last point stores the normalised product, scaled, over the residual. -/
theorem out_C_4 (c : Dev nD) (i : grid0.Coords) (a2 : Memref sig .tc .vmem S1x1024x704 .bf16) (h2 : a2.IsWhole) (a3 : Memref sig .tc .vmem S704x1024 .bf16) (h3 : a3.IsWhole)
    (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (a8 : Memref sig .tc .vmem S1024x1024 .f32) (h8 : a8.IsWhole) (hc0 : ¬cond0_0 i) (hc1 : cond0_1 i)
    (x : Vec Ideal S1x1024x704 .bf16) (w : Vec Ideal S704x1024 .bf16) (h : Vec Ideal S1024x1024 .f32) (g : Vec Ideal S1x1024 .f32) (s : Vec Ideal S1024x1024 .f32) :
    out0_C_4 c i a2 h2 a3 h3 a4 h4 a5 h5 a6 h6 a7 h7 a8 h8 hc0 hc1 x w h g s = k0_pay3 (k0_pay2 s x w) h g := by
  unfold out0_C_4
  rw [View.read_writes_eq_canon _ _ _ (cover0_C_4 c i a2 h2 a3 h3 a4 h4 a5 h5 a6 h6 a7 h7 a8 h8 hc0 hc1 x w h g s)]
  unfold kernelRun0_C
  dsimp only
  sl_unfold_words
  rw [View.canon_unit_zero (S := S1024x1024) hz, View.readCov_unit_zero (S := S1024x1024) _ hz]
  simp only [View.readAt_eq_ld, h2.read_unread, h3.read_unread, h4.read_unread, h5.read_unread, h8.read_unread, View.ld_unit_zero (S := S1x1024x704) hz3, View.ld_unit_zero (S := S704x1024) hz,
    View.ld_unit_zero (S := S1x1024) hz, View.ld_unit_zero (S := S1024x1024) hz]

theorem pay1_apply (r : Fin 1024) (n : Fin 1024) : (k0_pay1 (F := Ideal) (ix2 r n) : EReal) = 0 := by
  pointwise [k0_pay1]

/-- One tile's products added to an accumulator, at an entry. -/
theorem pay2_apply (s : Vec Ideal S1024x1024 .f32) (x : Vec Ideal S1x1024x704 .bf16) (w : Vec Ideal S704x1024 .bf16) (r : Fin 1024) (n : Fin 1024) :
    (k0_pay2 s x w (ix2 r n) : EReal) = s (ix2 r n) + ∑ k : Fin 704, (x (ix3 0 r k) : EReal) * (w (ix2 k n) : EReal) := by
  pointwise [k0_pay2]

/-- A row, normalised, scaled by the gain and by a half, over the residual. -/
def nrm (y : Fin 1024 → EReal) (h g : EReal) (n : Fin 1024) : EReal :=
  h + Ideal.ofBits .f32 0x3F000000#32 * (y n * Ideal.rsqrt (Ideal.div (∑ j, y j * y j) (Ideal.ofBits .f32 0x44800000#32) + Ideal.ofBits .f32 0x358637BD#32) * g)

theorem pay3_apply (y : Vec Ideal S1024x1024 .f32) (h : Vec Ideal S1024x1024 .f32) (g : Vec Ideal S1x1024 .f32) (r : Fin 1024) (n : Fin 1024) :
    (k0_pay3 y h g (ix2 r n) : EReal) = nrm (fun j => y (ix2 r j)) (h (ix2 r n)) (g (ix2 0 n)) n := by
  pointwise [k0_pay3, nrm]

variable (m : (ℓ : Loc nD τ sig) → Buf (Elt Ideal) ℓ)

/-- The tile's token and feature. -/
def tok (b : Fin 4) (r : Fin 1024) : Fin 4096 := ⟨1024 * b.val + r.val, by omega⟩
def feat (q : Fin 4) (k : Fin 704) : Fin 2816 := ⟨704 * q.val + k.val, by omega⟩

theorem ix_0 : ∀ t : Fin grid0.N, win0_0.index t = ![t.val % 4, t.val / 4, 0] := by decide +kernel
theorem ix_1 : ∀ t : Fin grid0.N, win0_1.index t = ![t.val % 4, 0] := by decide +kernel
theorem ix_2 : ∀ t : Fin grid0.N, win0_2.index t = ![t.val / 4, 0] := by decide +kernel
theorem ix_3 : ∀ t : Fin grid0.N, win0_3.index t = ![0, 0] := by decide +kernel

theorem rd_0 (c : Dev nD) (U : (b : Ref sig .tc) → Buf (Elt Ideal) ((c : Thread nD τ).loc b)) (t : Fin cfg0.N) (b q : Fin 4) (hb : t.val = 4 * b.val + q.val) (r : Fin 1024) (k : Fin 704) :
    (((cfg0.win 0).blk t).view.read (Elt Ideal) (U (Pipeline.arrRef spec0 0)) (ix3 0 r k) : EReal) = U main_arg0 (ix3 q (tok b r) k) := by
  refine Eq.trans (α := EReal) (b := U main_arg0 ((win0_0.blk t).view.emb (ix3 0 r k))) rfl ?_
  refine congrArg (U main_arg0) ?_
  funext d
  apply Fin.ext
  fin_cases d <;>
  · simp only [ValueKit.finMkLit, Fin.isValue]
    blk_simp
    rw [ix_0 t]
    try simp only [Matrix.cons_val, tok, Fin.isValue, Fin.val_zero]
    try omega

theorem rd_1 (c : Dev nD) (U : (b : Ref sig .tc) → Buf (Elt Ideal) ((c : Thread nD τ).loc b)) (t : Fin cfg0.N) (b q : Fin 4) (hb : t.val = 4 * b.val + q.val) (k : Fin 704) (n : Fin 1024) :
    (((cfg0.win 1).blk t).view.read (Elt Ideal) (U (Pipeline.arrRef spec0 1)) (ix2 k n) : EReal) = U main_arg1 (ix2 (feat q k) n) := by
  refine Eq.trans (α := EReal) (b := U main_arg1 ((win0_1.blk t).view.emb (ix2 k n))) rfl ?_
  refine congrArg (U main_arg1) ?_
  funext d
  apply Fin.ext
  fin_cases d <;>
  · simp only [ValueKit.finMkLit, Fin.isValue]
    blk_simp
    rw [ix_1 t]
    try simp only [Matrix.cons_val, feat, Fin.isValue, Fin.val_zero]
    try omega

theorem rd_2 (c : Dev nD) (U : (b : Ref sig .tc) → Buf (Elt Ideal) ((c : Thread nD τ).loc b)) (t : Fin cfg0.N) (b q : Fin 4) (hb : t.val = 4 * b.val + q.val) (r : Fin 1024) (n : Fin 1024) :
    (((cfg0.win 2).blk t).view.read (Elt Ideal) (U (Pipeline.arrRef spec0 2)) (ix2 r n) : EReal) = U main_arg3 (ix2 (tok b r) n) := by
  refine Eq.trans (α := EReal) (b := U main_arg3 ((win0_2.blk t).view.emb (ix2 r n))) rfl ?_
  refine congrArg (U main_arg3) ?_
  funext d
  apply Fin.ext
  fin_cases d <;>
  · simp only [ValueKit.finMkLit, Fin.isValue]
    blk_simp
    rw [ix_2 t]
    try simp only [Matrix.cons_val, tok, Fin.isValue, Fin.val_zero]
    try omega

theorem rd_3 (c : Dev nD) (U : (b : Ref sig .tc) → Buf (Elt Ideal) ((c : Thread nD τ).loc b)) (t : Fin cfg0.N) (n : Fin 1024) :
    (((cfg0.win 3).blk t).view.read (Elt Ideal) (U (Pipeline.arrRef spec0 3)) (ix2 0 n) : EReal) = U main_arg2 (ix2 0 n) := by
  refine Eq.trans (α := EReal) (b := U main_arg2 ((win0_3.blk t).view.emb (ix2 0 n))) rfl ?_
  refine congrArg (U main_arg2) ?_
  funext d
  apply Fin.ext
  fin_cases d <;>
  · simp only [ValueKit.finMkLit, Fin.isValue]
    blk_simp
    rw [ix_3 t]
    try simp only [Matrix.cons_val, Fin.isValue, Fin.val_zero]
    try omega

/-- One tile's part of the product. -/
def part (x : S4x4096x704.Idx → EReal) (w : S2816x1024.Idx → EReal) (q : Fin 4) (i : Fin 4096) (n : Fin 1024) : EReal :=
  ∑ k : Fin 704, x (ix3 q i k) * w (ix2 (feat q k) n)

/-- The product: the sum over the features, tile by tile. -/
def prod (x : S4x4096x704.Idx → EReal) (w : S2816x1024.Idx → EReal) (i : Fin 4096) (n : Fin 1024) : EReal :=
  part x w 0 i n + part x w 1 i n + part x w 2 i n + part x w 3 i n

theorem pay2_at (c : Dev nD) (s : Vec Ideal S1024x1024 .f32) (t : Fin cfg0.N) (b q : Fin 4) (hb : t.val = 4 * b.val + q.val) (r n : Fin 1024) :
    (k0_pay2 s (iblk m c 0 t) (iblk m c 1 t) (ix2 r n) : EReal) = s (ix2 r n) + part (V m c main_arg0) (V m c main_arg1) q (tok b r) n := by
  refine (pay2_apply s _ _ r n).trans (congrArg (s (ix2 r n) + ·) ?_)
  unfold iblk part
  exact Finset.sum_congr rfl fun k _ => congrArg₂ (· * ·) (rd_0 c (V m c) t b q hb r k) (rd_1 c (V m c) t b q hb k n)

/-- The accumulator after a block's third point. -/
theorem acc_apply (c : Dev nD) (t : Fin cfg0.N) (b : Fin 4) (hb : t.val = 4 * b.val + 2) (r n : Fin 1024) :
    ((outsAt0 m c t.val t.isLt).2.2 (ix2 r n) : EReal) = part (V m c main_arg0) (V m c main_arg1) 0 (tok b r) n + part (V m c main_arg0) (V m c main_arg1) 1 (tok b r) n + part (V m c main_arg0) (V m c main_arg1) 2 (tok b r) n := by
  have hN := lt_of_lt_of_eq t.isLt N_0
  have ht1 : t.val - 1 < cfg0.N := by omega
  have ht0 : t.val - 1 - 1 < cfg0.N := by omega
  rw [outsAt0_B m c t (by omega) (by omega)]
  dsimp only
  rw [acc_B, pay2_at m c _ t b 2 hb]
  have e1 : (outsAt0 m c (t.val - 1) ht1).2.2 = _ := congrArg (fun p => p.2.2) (outsAt0_B m c ⟨t.val - 1, ht1⟩ (by show ¬(t.val - 1) % 4 = 0; omega) (by show ¬(t.val - 1) % 4 = 3; omega))
  rw [e1]
  dsimp only
  rw [acc_B, pay2_at m c _ ⟨t.val - 1, ht1⟩ b 1 (by show t.val - 1 = 4 * b.val + 1; omega)]
  have e0 : (outsAt0 m c (t.val - 1 - 1) ht0).2.2 = _ := congrArg (fun p => p.2.2) (outsAt0_A m c ⟨t.val - 1 - 1, ht0⟩ (by show (t.val - 1 - 1) % 4 = 0; omega) (by show ¬(t.val - 1 - 1) % 4 = 3; omega))
  rw [e0]
  dsimp only
  rw [acc_A, pay2_at m c _ ⟨t.val - 1 - 1, ht0⟩ b 0 (by show t.val - 1 - 1 = 4 * b.val + 0; omega), pay1_apply, zero_add]

/-- The last point's sum. -/
theorem sum_apply (c : Dev nD) (t : Fin cfg0.N) (b : Fin 4) (hb : t.val = 4 * b.val + 3) (r n : Fin 1024) :
    (k0_pay2 (outsAt0 m c (t.val - 1) (Nat.lt_of_le_of_lt (Nat.sub_le _ _) t.isLt)).2.2 (iblk m c 0 t) (iblk m c 1 t) (ix2 r n) : EReal) = prod (V m c main_arg0) (V m c main_arg1) (tok b r) n := by
  have ht1 : t.val - 1 < cfg0.N := Nat.lt_of_le_of_lt (Nat.sub_le _ _) t.isLt
  rw [pay2_at m c _ t b 3 hb, acc_apply m c ⟨t.val - 1, ht1⟩ b (by show t.val - 1 = 4 * b.val + 2; omega), prod]

theorem out5_apply (c : Dev nD) (t : Fin cfg0.N) (b : Fin 4) (hb : t.val = 4 * b.val + 3) (r n : Fin 1024) :
    ((outsAt0 m c t.val t.isLt).2.1 (ix2 r n) : EReal) = prod (V m c main_arg0) (V m c main_arg1) (tok b r) n := by
  rw [outsAt0_C m c t (by omega) (by omega)]
  dsimp only
  rw [out_C_5, sum_apply m c t b hb]

theorem out4_apply (c : Dev nD) (t : Fin cfg0.N) (b : Fin 4) (hb : t.val = 4 * b.val + 3) (r n : Fin 1024) :
    ((outsAt0 m c t.val t.isLt).1 (ix2 r n) : EReal) = nrm (fun j => prod (V m c main_arg0) (V m c main_arg1) (tok b r) j) (V m c main_arg3 (ix2 (tok b r) n)) (V m c main_arg2 (ix2 0 n)) n := by
  rw [outsAt0_C m c t (by omega) (by omega)]
  dsimp only
  rw [out_C_4, pay3_apply]
  simp only [sum_apply m c t b hb]
  unfold iblk
  rw [rd_2 c (V m c) t b 3 hb, rd_3 c (V m c) t]

end Cert.FfnOutIdeal.Hand

namespace Cert.FfnOutRefIdeal.Hand

open Idealize.ShloMosaic Idealize.ShloMosaic.TcCoe Idealize.ShloMosaic.Tactic
open Cert.FfnOutRefIdeal Cert.FfnOutRefIdeal.Gen Cert.FfnOutRefIdeal.Read
open Cert.FfnOutIdeal.Hand

variable (x : (⟨S4x4096x704, .bf16⟩ : BufTy).Contents (Elt Ideal)) (w : (⟨S2816x1024, .bf16⟩ : BufTy).Contents (Elt Ideal)) (g : (⟨S1x1024, .f32⟩ : BufTy).Contents (Elt Ideal)) (h : (⟨S4096x1024, .f32⟩ : BufTy).Contents (Elt Ideal))

/-- A sum over the features, tile by tile. -/
theorem sum_feat (f : Fin 2816 → EReal) : ∑ j, f j = ∑ k, f (feat 0 k) + ∑ k, f (feat 1 k) + ∑ k, f (feat 2 k) + ∑ k, f (feat 3 k) := by
  have e := Fintype.sum_equiv (finProdFinEquiv (m := 4) (n := 704)) (fun p => f (feat p.1 p.2)) f (fun p => congrArg f (Fin.ext (by
    show 704 * p.1.val + p.2.val = p.2.val + 704 * p.1.val
    omega)))
  rw [← e, Fintype.sum_prod_type, Fin.sum_univ_four]

theorem v4_apply (i : Fin 4096) (n : Fin 1024) : (val_main_v4 (F := Ideal) x w (ix2 i n) : EReal) = prod x w i n := by
  have e : (val_main_v4 (F := Ideal) x w (ix2 i n) : EReal) = ∑ j : Fin 2816, (x (ix3 ⟨j.val / 704, by omega⟩ i ⟨j.val % 704, by omega⟩) : EReal) * (w (ix2 j n) : EReal) := by
    pointwise [val_main_v4, val_main_v3, val_main_v2, val_main_v1, val_main_v0]
  rw [e, sum_feat]
  unfold prod part
  refine congrArg₂ (· + ·) (congrArg₂ (· + ·) (congrArg₂ (· + ·) ?_ ?_) ?_) ?_ <;>
  exact Finset.sum_congr rfl fun k _ => congrArg (fun p => x p * _) (congrArg₂ (fun a b => ix3 a i b) (Fin.ext (by simp only [feat]; omega)) (Fin.ext (by simp only [feat]; omega)))

theorem v21_apply (i : Fin 4096) (n : Fin 1024) : (val_main_v21 (F := Ideal) x w g h (ix2 i n) : EReal) = nrm (fun j => prod x w i j) (h (ix2 i n)) (g (ix2 0 n)) n := by
  have e : (val_main_v21 (F := Ideal) x w g h (ix2 i n) : EReal) = nrm (fun j => (val_main_v4 (F := Ideal) x w (ix2 i j) : EReal)) (h (ix2 i n)) (g (ix2 0 n)) n := by
    unfold nrm
    pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1, val_main_cst_2]
  rw [e]
  simp only [v4_apply]

end Cert.FfnOutRefIdeal.Hand

namespace Cert.FfnOutIdeal.Hand

open Idealize.ShloMosaic Idealize.ShloMosaic.TcCoe Idealize.ShloMosaic.Tactic Idealize.SL.Sem
open Cert.FfnOutIdeal Cert.FfnOutIdeal.Gen
open Cert.FfnOutRefIdeal.Hand
open Cert.FfnOutRefIdeal.Read (val_main_v21 val_main_v4)

variable (m : (ℓ : Loc nD τ sig) → Buf (Elt Ideal) ℓ) (ρ : Dev nD → PrngReg)

/-- The residual's array is the reference's. -/
theorem final4 (c : Dev nD) : Value.G4 m c = val_main_v21 (F := Ideal) (m ((c : Thread nD τ).loc main_arg0)) (m ((c : Thread nD τ).loc main_arg1)) (m ((c : Thread nD τ).loc main_arg2)) (m ((c : Thread nD τ).loc main_arg3)) := by
  refine funext fun i => ?_
  have h0 : (i 0).val < 4096 := (i 0).isLt
  have h1 : (i 1).val < 1024 := (i 1).isLt
  have hp : Value.pt4Of i < cfg0.N := by rw [show cfg0.N = 16 from N_0]; show 4 * (1 * ((i 0).val / 1024 - 0) + 1 * ((i 1).val / 1024 - 0)) + 3 < 16; omega
  have e : Value.pt4Of i = 4 * ((i 0).val / 1024) + 3 := by show 4 * (1 * ((i 0).val / 1024 - 0) + 1 * ((i 1).val / 1024 - 0)) + 3 = _; omega
  unfold Value.G4
  rw [dif_pos hp, ← Value.outsAt0_sweep m c _ hp]
  have el : Value.loc4Of i = ix2 ⟨(i 0).val % 1024, by omega⟩ ⟨(i 1).val, h1⟩ := by
    funext a; fin_cases a
    · rfl
    · exact Fin.ext (Nat.mod_eq_of_lt h1)
  have ei : i = ix2 (tok ⟨(i 0).val / 1024, by omega⟩ ⟨(i 0).val % 1024, by omega⟩) ⟨(i 1).val, h1⟩ := by
    funext a; fin_cases a
    · exact Fin.ext (Nat.div_add_mod (i 0).val 1024).symm
    · rfl
  rw [el]
  refine (out4_apply m c ⟨_, hp⟩ ⟨(i 0).val / 1024, by omega⟩ e _ _).trans ?_
  refine Eq.trans ?_ (congrArg (val_main_v21 (F := Ideal) (m ((c : Thread nD τ).loc main_arg0)) (m ((c : Thread nD τ).loc main_arg1)) (m ((c : Thread nD τ).loc main_arg2)) (m ((c : Thread nD τ).loc main_arg3))) ei).symm
  exact (v21_apply _ _ _ _ _ _).symm

/-- The product's array is the reference's. -/
theorem final5 (c : Dev nD) : Value.G5 m c = val_main_v4 (F := Ideal) (m ((c : Thread nD τ).loc main_arg0)) (m ((c : Thread nD τ).loc main_arg1)) := by
  refine funext fun i => ?_
  have h0 : (i 0).val < 4096 := (i 0).isLt
  have h1 : (i 1).val < 1024 := (i 1).isLt
  have hp : Value.pt5Of i < cfg0.N := by rw [show cfg0.N = 16 from N_0]; show 4 * (1 * ((i 0).val / 1024 - 0) + 1 * ((i 1).val / 1024 - 0)) + 3 < 16; omega
  have e : Value.pt5Of i = 4 * ((i 0).val / 1024) + 3 := by show 4 * (1 * ((i 0).val / 1024 - 0) + 1 * ((i 1).val / 1024 - 0)) + 3 = _; omega
  unfold Value.G5
  rw [dif_pos hp, ← Value.outsAt0_sweep m c _ hp]
  have el : Value.loc5Of i = ix2 ⟨(i 0).val % 1024, by omega⟩ ⟨(i 1).val, h1⟩ := by
    funext a; fin_cases a
    · rfl
    · exact Fin.ext (Nat.mod_eq_of_lt h1)
  have ei : i = ix2 (tok ⟨(i 0).val / 1024, by omega⟩ ⟨(i 0).val % 1024, by omega⟩) ⟨(i 1).val, h1⟩ := by
    funext a; fin_cases a
    · exact Fin.ext (Nat.div_add_mod (i 0).val 1024).symm
    · rfl
  rw [el]
  refine (out5_apply m c ⟨_, hp⟩ ⟨(i 0).val / 1024, by omega⟩ e _ _).trans ?_
  refine Eq.trans ?_ (congrArg (val_main_v4 (F := Ideal) (m ((c : Thread nD τ).loc main_arg0)) (m ((c : Thread nD τ).loc main_arg1))) ei).symm
  exact (v4_apply _ _ _ _).symm

/-- The call's results are the reference's, whatever the arguments. -/
theorem values : Cert.algebraic_FfnOutIdeal_FfnOutRefIdeal := by
  intro m g m' g' _ hargs
  refine ⟨fun c => val_main_v21 (F := Ideal) (m ((c : Thread nD τ).loc main_arg0)) (m ((c : Thread nD τ).loc main_arg1)) (m ((c : Thread nD τ).loc main_arg2)) (m ((c : Thread nD τ).loc main_arg3)),
    fun c => val_main_v4 (F := Ideal) (m ((c : Thread nD τ).loc main_arg0)) (m ((c : Thread nD τ).loc main_arg1)), ?_, ?_⟩
  · refine (θ_run _ _ _).mono (fun r h c => ?_) (Value.run (F := Ideal) m g)
    exact ⟨(h c).1.trans (final4 m c), (h c).2.1.trans (final5 m c), (h c).2.2⟩
  · refine (θ_run _ _ _).mono (fun r h c => ?_) (Cert.FfnOutRefIdeal.Value.run (F := Ideal) m' g')
    obtain ⟨h0, h1, e⟩ := h c
    obtain ⟨a0, a1, a2, a3⟩ := hargs c
    rw [a0, a1, a2, a3] at h0
    rw [a0, a1] at h1
    exact ⟨h0, h1, e⟩

/-- The reference's frame: it declares no semaphore. -/
theorem frame_r (m : (ℓ : Loc Cert.FfnOutRefIdeal.nD Cert.FfnOutRefIdeal.τ Cert.FfnOutRefIdeal.sig) → Buf (Elt Ideal) ℓ) (g : Dev Cert.FfnOutRefIdeal.nD → PrngReg) :
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3))
      ∧ r.2.sem = fun _ => 0) :=
  (θ_run _ _ _).mono (fun r h => ⟨fun c => (h c).2.2, Idealize.ShloMosaic.sem_eq_zero_of_no_sems (by decide) r.2⟩) (Cert.FfnOutRefIdeal.Value.run (F := Ideal) m g)

end Cert.FfnOutIdeal.Hand
-- ==== Proof.Hand.Norm.lean ====
module

public import Idealize.ShloMosaic.PureOps.Ideal.Laws
public import Idealize.ShloMosaic.Lib.ValueIdx
public import Idealize.ShloMosaic.Lib.PointwiseCore
public import Idealize.ShloMosaic.Lib.IdealHost

@[expose] public section

/-! The gradient of the root-mean-square norm, among the extended reals: the two ways of writing it agree on every row. -/

noncomputable section

namespace Cert.Norm

open Idealize.ShloMosaic

/-- The length of a row and the norm's small constant, as the programs print them. -/
def len : EReal := Ideal.ofBits .f32 0x44800000#32
def eps : EReal := Ideal.ofBits .f32 0x358637BD#32

theorem len_eq : len = ((1024 : ℝ) : EReal) := by
  simp [len, Ideal.ofBits, Ideal.ieee, -EReal.coe_mul]; norm_num

theorem eps_pos : ∃ e : ℝ, 0 < e ∧ eps = (e : EReal) := by
  refine ⟨_, ?_, by simp [eps, Ideal.ofBits, Ideal.ieee, -EReal.coe_mul]; rfl⟩
  norm_num

theorem bits_two : Ideal.ofBits .f32 0x40000000#32 = ((2 : ℝ) : EReal) := by
  simp [Ideal.ofBits, Ideal.ieee, -EReal.coe_mul]; norm_num

theorem bits_mhalf : Ideal.ofBits .f32 0xBF000000#32 = ((-(1 / 2) : ℝ) : EReal) := by
  simp [Ideal.ofBits, Ideal.ieee, -EReal.coe_mul]; norm_num

/-- A row's mean square and its inverse root. -/
def ms (x : Fin 1024 → EReal) : EReal := Ideal.div (∑ j, x j * x j) len + eps
def rt (x : Fin 1024 → EReal) : EReal := Ideal.rsqrt (ms x)

/-- The gradient through the norm, as the kernel writes it. -/
def dn (x d : Fin 1024 → EReal) (n : Fin 1024) : EReal :=
  rt x * (d n - x n * rt x * Ideal.div (∑ j, d j * (x j * rt x)) len)

/-- The gradient through the norm, as differentiating the forward line writes it. -/
def dr (x d : Fin 1024 → EReal) (n : Fin 1024) : EReal :=
  d n * rt x + Ideal.div ((∑ j, x j * d j) * (Ideal.ofBits .f32 0xBF000000#32 * Ideal.div (rt x) (ms x))) len * (Ideal.ofBits .f32 0x40000000#32 * x n)

theorem sum_coe {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A nonnegative real factor goes into a sum. -/
theorem mul_sum' {ι : Type} (s : Finset ι) (r : ℝ) (hr : 0 ≤ r) (f : ι → EReal) : (r : EReal) * ∑ i ∈ s, f i = ∑ i ∈ s, (r : EReal) * f i := by
  classical
  induction s using Finset.induction_on with
  | empty => simp
  | insert a s h ih =>
    rw [Finset.sum_insert h, Finset.sum_insert h, ← ih]
    exact EReal.left_distrib_of_nonneg_of_ne_top (EReal.coe_nonneg.2 hr) (EReal.coe_ne_top r) _ _

theorem sq_nonneg' (y : EReal) : 0 ≤ y * y := by
  rcases le_total 0 y with h | h
  · exact mul_nonneg h h
  · rw [← neg_mul_neg]
    exact mul_nonneg (EReal.neg_nonneg.2 h) (EReal.neg_nonneg.2 h)

theorem div_len (y : EReal) : Ideal.div y len = y * ((1 / 1024 : ℝ) : EReal) := by
  rw [len_eq, Ideal.div_coe (by norm_num)]

/-- A row with an infinite element has the inverse root zero. -/
theorem rt_zero (x : Fin 1024 → EReal) (k : Fin 1024) (hk : x k = ⊤ ∨ x k = ⊥) : ms x = ⊤ ∧ rt x = 0 := by
  obtain ⟨e, he, e'⟩ := eps_pos
  have h1 : x k * x k = ⊤ := by rcases hk with h | h <;> rw [h] <;> rfl
  have h2 : ∑ j, x j * x j = ⊤ := by
    refine top_le_iff.1 ?_
    rw [← h1]
    exact Finset.single_le_sum (f := fun j => x j * x j) (fun j _ => sq_nonneg' (x j)) (Finset.mem_univ k)
  have h3 : ms x = ⊤ := by
    unfold ms
    rw [h2, div_len, EReal.top_mul_coe_of_pos (by norm_num), e', EReal.top_add_coe]
  exact ⟨h3, by unfold rt; rw [h3]; rfl⟩

/-- A real row has a positive real mean square, and the inverse root of it. -/
theorem rt_real (y : Fin 1024 → ℝ) : ∃ v r : ℝ, 0 < v ∧ 0 < r ∧ r * r = 1 / v ∧ ms (fun j => (y j : EReal)) = (v : EReal) ∧ rt (fun j => (y j : EReal)) = (r : EReal) := by
  obtain ⟨e, he, e'⟩ := eps_pos
  have hs : 0 ≤ ∑ j, y j * y j := Finset.sum_nonneg fun j _ => mul_self_nonneg (y j)
  have hv : 0 < (∑ j, y j * y j) * (1 / 1024) + e := by positivity
  have h1 : ms (fun j => (y j : EReal)) = (((∑ j, y j * y j) * (1 / 1024) + e : ℝ) : EReal) := by
    unfold ms
    simp only [← EReal.coe_mul]
    rw [sum_coe, div_len, e', ← EReal.coe_mul, ← EReal.coe_add]
  refine ⟨_, (Real.sqrt _)⁻¹, hv, inv_pos.2 (Real.sqrt_pos.2 hv), ?_, h1, ?_⟩
  · rw [← mul_inv, Real.mul_self_sqrt hv.le]
    exact (one_div _).symm
  · unfold rt
    rw [h1, Ideal.rsqrt_coe, if_neg (not_lt.2 hv.le), if_neg hv.ne']

theorem dn_eq_dr (x d : Fin 1024 → EReal) (n : Fin 1024) : dn x d n = dr x d n := by
  by_cases hx : ∃ k, x k = ⊤ ∨ x k = ⊥
  · obtain ⟨k, hk⟩ := hx
    obtain ⟨h1, h2⟩ := rt_zero x k hk
    unfold dn dr
    rw [h1, h2, show Ideal.div 0 ⊤ = 0 from by simp [Ideal.div], div_len, div_len]
    simp only [mul_zero, zero_mul, add_zero]
  · have hy : ∀ j, ∃ y : ℝ, x j = (y : EReal) := fun j => by
      have h := fun hh => hx ⟨j, hh⟩
      exact ⟨(x j).toReal, (EReal.coe_toReal (fun a => h (Or.inl a)) (fun a => h (Or.inr a))).symm⟩
    choose y hy using hy
    obtain rfl : x = fun j => (y j : EReal) := funext hy
    obtain ⟨v, r, hv, hr, hvr, h1, h2⟩ := rt_real y
    unfold dn dr
    rw [h1, h2, bits_two, bits_mhalf, Ideal.div_coe hv.ne', div_len, div_len]
    have hS : ∑ j, d j * ((y j : EReal) * (r : EReal)) = (r : EReal) * ∑ j, (y j : EReal) * d j := by
      rw [mul_sum' _ r hr.le]
      exact Finset.sum_congr rfl fun j _ => by ac_rfl
    rw [hS, sub_eq_add_neg, EReal.left_distrib_of_nonneg_of_ne_top (EReal.coe_nonneg.2 hr.le) (EReal.coe_ne_top r), mul_comm (r : EReal) (d n)]
    refine congrArg (d n * (r : EReal) + ·) ?_
    generalize ∑ j, (y j : EReal) * d j = S
    have e : (r : EReal) * -((y n : EReal) * (r : EReal) * ((r : EReal) * S * ((1 / 1024 : ℝ) : EReal))) = S * ((-(r * y n * r * r * (1 / 1024)) : ℝ) : EReal) := by
      rw [EReal.coe_neg, mul_neg, mul_neg]
      refine congrArg (- ·) ?_
      simp only [EReal.coe_mul]
      ac_rfl
    have e2 : S * (((-(1 / 2) : ℝ) : EReal) * ((r : EReal) * ((1 / v : ℝ) : EReal))) * ((1 / 1024 : ℝ) : EReal) * (((2 : ℝ) : EReal) * (y n : EReal)) = S * ((-(1 / 2) * (r * (1 / v)) * (1 / 1024) * (2 * y n) : ℝ) : EReal) := by
      simp only [EReal.coe_mul]
      ac_rfl
    rw [e, e2]
    refine congrArg (fun z : ℝ => S * (z : EReal)) ?_
    rw [← hvr]
    ring

end Cert.Norm
-- ==== Proof.Hand.BwdIn.lean ====
/- The feed-forward input's backward product with the norm's gradient: what the call leaves in its two results is what the reference leaves. -/
module

public import proofs.«01_k».proof.Defs
public import proofs.«01_k».proof.Proof.Gen.BwdInIdeal.Value
public import proofs.«01_k».proof.Proof.Gen.BwdInRefIdeal.Run
public import proofs.«01_k».proof.Proof.Gen.BwdInRefIdeal.Read
public import proofs.«01_k».proof.Proof.Gen.BwdInRefIdeal
public import proofs.«01_k».proof.Proof.Hand.Norm
public import Idealize.ShloMosaic.Lib.StableHlo.ReadAt
public import Idealize.ShloMosaic.Lib.Pointwise
public import Idealize.ShloMosaic.Lib.Tactic.WordOmega
public import Idealize.ShloMosaic.Lib.Pipeline.ValueKit
public import Idealize.ShloMosaic.Lib.IdealHost

@[expose] public section

set_option maxRecDepth 16384

noncomputable section

namespace Cert.BwdInIdeal.Hand

open Idealize.ShloMosaic Idealize.ShloMosaic.TcCoe Idealize.ShloMosaic.Tactic
open Cert.BwdInIdeal Cert.BwdInIdeal.Gen
open Idealize.ShloMosaic.Pipeline (Dat Cfg Window cellOf)
open Cert.Norm

theorem hz : (![0, 0] : Fin 2 → Nat) = fun _ => 0 := funext fun a => by fin_cases a <;> rfl
theorem hz3 : (![0, 0, 0] : Fin 3 → Nat) = fun _ => 0 := funext fun a => by fin_cases a <;> rfl

/-- The first point leaves zero plus its tile's products. -/
theorem acc_A (c : Dev nD) (i : grid0.Coords) (a2 : Memref sig .tc .vmem S1x1024x704 .bf16) (h2 : a2.IsWhole) (a3 : Memref sig .tc .vmem S1x704x1024 .bf16) (h3 : a3.IsWhole)
    (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (a8 : Memref sig .tc .vmem S1x1024 .f32) (h8 : a8.IsWhole) (a9 : Memref sig .tc .vmem S1024x1024 .f32) (h9 : a9.IsWhole) (hc0 : cond0_0 i) (hc1 : cond0_1 i) (hc2 : ¬cond0_2 i)
    (x : Vec Ideal S1x1024x704 .bf16) (w : Vec Ideal S1x704x1024 .bf16) (h : Vec Ideal S1024x1024 .f32) (g : Vec Ideal S1x1024 .f32) (d : Vec Ideal S1024x1024 .f32) :
    sout0_A_0 c i a2 h2 a3 h3 a4 h4 a5 h5 a6 h6 a7 h7 a8 h8 a9 h9 hc0 hc1 hc2 x w h g d = k0_pay3 (k0_pay2 (F := Ideal)) x w := by
  unfold sout0_A_0
  rw [View.read_writes_eq_canon _ _ _ (scover0_A_0 c i a2 h2 a3 h3 a4 h4 a5 h5 a6 h6 a7 h7 a8 h8 a9 h9 hc0 hc1 hc2 x w h g d)]
  unfold kernelRun0_A
  dsimp only
  sl_unfold_words
  rw [View.canon_cons_unit_zero (S := S1024x1024) hz, View.readCov_unit_zero (S := S1024x1024) _ hz]
  simp only [View.readAt_eq_ld, h2.read_unread, h3.read_unread, h4.read_unread, h5.read_unread, h6.read_unread, h8.read_unread, h9.read_unread, View.ld_unit_zero (S := S1x1024x704) hz3,
    View.ld_unit_zero (S := S1x704x1024) hz3, View.ld_unit_zero (S := S1x1024) hz, View.ld_unit_zero (S := S1024x1024) hz]

/-- The first point stores zero as the gain's gradient. -/
theorem dg_A (c : Dev nD) (i : grid0.Coords) (a2 : Memref sig .tc .vmem S1x1024x704 .bf16) (h2 : a2.IsWhole) (a3 : Memref sig .tc .vmem S1x704x1024 .bf16) (h3 : a3.IsWhole)
    (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (a8 : Memref sig .tc .vmem S1x1024 .f32) (h8 : a8.IsWhole) (a9 : Memref sig .tc .vmem S1024x1024 .f32) (h9 : a9.IsWhole) (hc0 : cond0_0 i) (hc1 : cond0_1 i) (hc2 : ¬cond0_2 i)
    (x : Vec Ideal S1x1024x704 .bf16) (w : Vec Ideal S1x704x1024 .bf16) (h : Vec Ideal S1024x1024 .f32) (g : Vec Ideal S1x1024 .f32) (d : Vec Ideal S1024x1024 .f32) :
    out0_A_6 c i a2 h2 a3 h3 a4 h4 a5 h5 a6 h6 a7 h7 a8 h8 a9 h9 hc0 hc1 hc2 x w h g d = k0_pay1 (F := Ideal) := by
  unfold out0_A_6
  rw [View.read_writes_eq_canon _ _ _ (cover0_A_6 c i a2 h2 a3 h3 a4 h4 a5 h5 a6 h6 a7 h7 a8 h8 a9 h9 hc0 hc1 hc2 x w h g d)]
  unfold kernelRun0_A
  dsimp only
  sl_unfold_words
  rw [View.canon_unit_zero (S := S1x1024) hz]

/-- Another block's first point leaves zero plus its tile's products. -/
theorem acc_D (c : Dev nD) (i : grid0.Coords) (a2 : Memref sig .tc .vmem S1x1024x704 .bf16) (h2 : a2.IsWhole) (a3 : Memref sig .tc .vmem S1x704x1024 .bf16) (h3 : a3.IsWhole)
    (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (a8 : Memref sig .tc .vmem S1x1024 .f32) (h8 : a8.IsWhole) (a9 : Memref sig .tc .vmem S1024x1024 .f32) (h9 : a9.IsWhole) (hc0 : ¬cond0_0 i) (hc1 : cond0_1 i) (hc2 : ¬cond0_2 i)
    (x : Vec Ideal S1x1024x704 .bf16) (w : Vec Ideal S1x704x1024 .bf16) (h : Vec Ideal S1024x1024 .f32) (g : Vec Ideal S1x1024 .f32) (d : Vec Ideal S1024x1024 .f32) :
    sout0_D_0 c i a2 h2 a3 h3 a4 h4 a5 h5 a6 h6 a7 h7 a8 h8 a9 h9 hc0 hc1 hc2 x w h g d = k0_pay3 (k0_pay2 (F := Ideal)) x w := by
  unfold sout0_D_0
  rw [View.read_writes_eq_canon _ _ _ (scover0_D_0 c i a2 h2 a3 h3 a4 h4 a5 h5 a6 h6 a7 h7 a8 h8 a9 h9 hc0 hc1 hc2 x w h g d)]
  unfold kernelRun0_D
  dsimp only
  sl_unfold_words
  rw [View.canon_cons_unit_zero (S := S1024x1024) hz, View.readCov_unit_zero (S := S1024x1024) _ hz]
  simp only [View.readAt_eq_ld, h2.read_unread, h3.read_unread, h4.read_unread, h5.read_unread, h6.read_unread, h8.read_unread, h9.read_unread, View.ld_unit_zero (S := S1x1024x704) hz3,
    View.ld_unit_zero (S := S1x704x1024) hz3, View.ld_unit_zero (S := S1x1024) hz, View.ld_unit_zero (S := S1024x1024) hz]

/-- A middle point adds its tile's products. -/
theorem acc_B (c : Dev nD) (i : grid0.Coords) (a2 : Memref sig .tc .vmem S1x1024x704 .bf16) (h2 : a2.IsWhole) (a3 : Memref sig .tc .vmem S1x704x1024 .bf16) (h3 : a3.IsWhole)
    (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (a8 : Memref sig .tc .vmem S1x1024 .f32) (h8 : a8.IsWhole) (a9 : Memref sig .tc .vmem S1024x1024 .f32) (h9 : a9.IsWhole) (hc0 : ¬cond0_0 i) (hc1 : ¬cond0_1 i) (hc2 : ¬cond0_2 i)
    (x : Vec Ideal S1x1024x704 .bf16) (w : Vec Ideal S1x704x1024 .bf16) (h : Vec Ideal S1024x1024 .f32) (g : Vec Ideal S1x1024 .f32) (d : Vec Ideal S1024x1024 .f32) (s : Vec Ideal S1024x1024 .f32) :
    sout0_B_0 c i a2 h2 a3 h3 a4 h4 a5 h5 a6 h6 a7 h7 a8 h8 a9 h9 hc0 hc1 hc2 x w h g d s = k0_pay3 s x w := by
  unfold sout0_B_0
  rw [View.read_writes_eq_canon _ _ _ (scover0_B_0 c i a2 h2 a3 h3 a4 h4 a5 h5 a6 h6 a7 h7 a8 h8 a9 h9 hc0 hc1 hc2 x w h g d s)]
  unfold kernelRun0_B
  dsimp only
  sl_unfold_words
  rw [View.canon_unit_zero (S := S1024x1024) hz]
  simp only [View.readAt_eq_ld, h2.read_unread, h3.read_unread, h4.read_unread, h5.read_unread, h6.read_unread, h8.read_unread, h9.read_unread, View.ld_unit_zero (S := S1x1024x704) hz3,
    View.ld_unit_zero (S := S1x704x1024) hz3, View.ld_unit_zero (S := S1x1024) hz, View.ld_unit_zero (S := S1024x1024) hz]

/-- A block's last point adds its tokens to the gain's gradient. -/
theorem out_C_6 (c : Dev nD) (i : grid0.Coords) (a2 : Memref sig .tc .vmem S1x1024x704 .bf16) (h2 : a2.IsWhole) (a3 : Memref sig .tc .vmem S1x704x1024 .bf16) (h3 : a3.IsWhole)
    (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (a8 : Memref sig .tc .vmem S1x1024 .f32) (h8 : a8.IsWhole) (a9 : Memref sig .tc .vmem S1024x1024 .f32) (h9 : a9.IsWhole) (hc0 : ¬cond0_0 i) (hc1 : ¬cond0_1 i) (hc2 : cond0_2 i)
    (x : Vec Ideal S1x1024x704 .bf16) (w : Vec Ideal S1x704x1024 .bf16) (h : Vec Ideal S1024x1024 .f32) (g : Vec Ideal S1x1024 .f32) (d : Vec Ideal S1024x1024 .f32) (dg : Vec Ideal S1x1024 .f32) (s : Vec Ideal S1024x1024 .f32) :
    out0_C_6 c i a2 h2 a3 h3 a4 h4 a5 h5 a6 h6 a7 h7 a8 h8 a9 h9 hc0 hc1 hc2 x w h g d dg s = k0_pay6 h (k0_pay3 s x w) dg := by
  unfold out0_C_6
  rw [View.read_writes_eq_canon _ _ _ (cover0_C_6 c i a2 h2 a3 h3 a4 h4 a5 h5 a6 h6 a7 h7 a8 h8 a9 h9 hc0 hc1 hc2 x w h g d dg s)]
  unfold kernelRun0_C
  dsimp only
  sl_unfold_words
  rw [View.canon_unit_zero (S := S1x1024) hz, View.readCov_unit_zero (S := S1024x1024) _ hz]
  simp only [View.readAt_eq_ld, h2.read_unread, h3.read_unread, h4.read_unread, h5.read_unread, h6.read_unread, h8.read_unread, h9.read_unread, View.ld_unit_zero (S := S1x1024x704) hz3,
    View.ld_unit_zero (S := S1x704x1024) hz3, View.ld_unit_zero (S := S1x1024) hz, View.ld_unit_zero (S := S1024x1024) hz]

/-- A block's last point stores its tokens' gradient. -/
theorem out_C_5 (c : Dev nD) (i : grid0.Coords) (a2 : Memref sig .tc .vmem S1x1024x704 .bf16) (h2 : a2.IsWhole) (a3 : Memref sig .tc .vmem S1x704x1024 .bf16) (h3 : a3.IsWhole)
    (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (a8 : Memref sig .tc .vmem S1x1024 .f32) (h8 : a8.IsWhole) (a9 : Memref sig .tc .vmem S1024x1024 .f32) (h9 : a9.IsWhole) (hc0 : ¬cond0_0 i) (hc1 : ¬cond0_1 i) (hc2 : cond0_2 i)
    (x : Vec Ideal S1x1024x704 .bf16) (w : Vec Ideal S1x704x1024 .bf16) (h : Vec Ideal S1024x1024 .f32) (g : Vec Ideal S1x1024 .f32) (d : Vec Ideal S1024x1024 .f32) (dg : Vec Ideal S1x1024 .f32) (s : Vec Ideal S1024x1024 .f32) :
    out0_C_5 c i a2 h2 a3 h3 a4 h4 a5 h5 a6 h6 a7 h7 a8 h8 a9 h9 hc0 hc1 hc2 x w h g d dg s = k0_pay7 h g (k0_pay3 s x w) d := by
  unfold out0_C_5
  rw [View.read_writes_eq_canon _ _ _ (cover0_C_5 c i a2 h2 a3 h3 a4 h4 a5 h5 a6 h6 a7 h7 a8 h8 a9 h9 hc0 hc1 hc2 x w h g d dg s)]
  unfold kernelRun0_C
  dsimp only
  sl_unfold_words
  rw [View.canon_unit_zero (S := S1024x1024) hz, View.readCov_unit_zero (S := S1024x1024) _ hz]
  simp only [View.readAt_eq_ld, h2.read_unread, h3.read_unread, h4.read_unread, h5.read_unread, h6.read_unread, h8.read_unread, h9.read_unread, View.ld_unit_zero (S := S1x1024x704) hz3,
    View.ld_unit_zero (S := S1x704x1024) hz3, View.ld_unit_zero (S := S1x1024) hz, View.ld_unit_zero (S := S1024x1024) hz]

theorem pay1_apply (n : Fin 1024) : (k0_pay1 (F := Ideal) (ix2 0 n) : EReal) = 0 := by
  pointwise [k0_pay1]

theorem pay2_apply (r : Fin 1024) (n : Fin 1024) : (k0_pay2 (F := Ideal) (ix2 r n) : EReal) = 0 := by
  pointwise [k0_pay2]

/-- One tile's products added to an accumulator, at an entry. -/
theorem pay3_apply (s : Vec Ideal S1024x1024 .f32) (x : Vec Ideal S1x1024x704 .bf16) (w : Vec Ideal S1x704x1024 .bf16) (r : Fin 1024) (n : Fin 1024) :
    (k0_pay3 s x w (ix2 r n) : EReal) = s (ix2 r n) + ∑ k : Fin 704, (x (ix3 0 r k) : EReal) * (w (ix3 0 k n) : EReal) := by
  pointwise [k0_pay3]

theorem pay4_apply (h : Vec Ideal S1024x1024 .f32) (r : Fin 1024) : (k0_pay4 h (ix2 r 0) : EReal) = rt (fun j => h (ix2 r j)) := by
  unfold rt ms len eps
  pointwise [k0_pay4]

theorem pay5_apply (h : Vec Ideal S1024x1024 .f32) (r n : Fin 1024) : (k0_pay5 h (ix2 r n) : EReal) = h (ix2 r n) * rt (fun j => h (ix2 r j)) := by
  refine Eq.trans (α := EReal) (b := h (ix2 r n) * k0_pay4 h (ix2 r 0)) ?_ (congrArg _ (pay4_apply h r))
  pointwise [k0_pay5]

/-- The gain's gradient, at an entry: a block's tokens added. -/
theorem pay6_apply (h : Vec Ideal S1024x1024 .f32) (s : Vec Ideal S1024x1024 .f32) (dg : Vec Ideal S1x1024 .f32) (n : Fin 1024) :
    (k0_pay6 h s dg (ix2 0 n) : EReal) = dg (ix2 0 n) + ∑ r : Fin 1024, (s (ix2 r n) : EReal) * (h (ix2 r n) * rt (fun j => h (ix2 r j))) := by
  refine Eq.trans (α := EReal) (b := dg (ix2 0 n) + ∑ r : Fin 1024, (s (ix2 r n) : EReal) * k0_pay5 h (ix2 r n)) ?_ ?_
  · pointwise [k0_pay6]
  · simp only [pay5_apply]

/-- The tokens' gradient, at an entry. -/
theorem pay7_apply (h : Vec Ideal S1024x1024 .f32) (g : Vec Ideal S1x1024 .f32) (s : Vec Ideal S1024x1024 .f32) (d : Vec Ideal S1024x1024 .f32) (r n : Fin 1024) :
    (k0_pay7 h g s d (ix2 r n) : EReal) = d (ix2 r n) + dn (fun j => h (ix2 r j)) (fun j => s (ix2 r j) * g (ix2 0 j)) n := by
  refine Eq.trans (α := EReal) (b := d (ix2 r n) + k0_pay4 h (ix2 r 0) * (s (ix2 r n) * g (ix2 0 n) - k0_pay5 h (ix2 r n) * Ideal.div (∑ j : Fin 1024, s (ix2 r j) * g (ix2 0 j) * k0_pay5 h (ix2 r j)) len)) ?_ ?_
  · unfold len
    pointwise [k0_pay7]
  · unfold dn
    simp only [pay4_apply, pay5_apply]

variable (m : (ℓ : Loc nD τ sig) → Buf (Elt Ideal) ℓ)

/-- The tile's token. -/
def tok (b : Fin 4) (r : Fin 1024) : Fin 4096 := ⟨1024 * b.val + r.val, by omega⟩

theorem ix_0 : ∀ t : Fin grid0.N, win0_0.index t = ![t.val % 8, t.val / 8, 0] := by decide +kernel
theorem ix_1 : ∀ t : Fin grid0.N, win0_1.index t = ![t.val % 8, 0, 0] := by decide +kernel
theorem ix_2 : ∀ t : Fin grid0.N, win0_2.index t = ![t.val / 8, 0] := by decide +kernel
theorem ix_3 : ∀ t : Fin grid0.N, win0_3.index t = ![0, 0] := by decide +kernel
theorem ix_4 : ∀ t : Fin grid0.N, win0_4.index t = ![t.val / 8, 0] := by decide +kernel

theorem rd_0 (c : Dev nD) (U : (b : Ref sig .tc) → Buf (Elt Ideal) ((c : Thread nD τ).loc b)) (t : Fin cfg0.N) (b : Fin 4) (q : Fin 8) (hb : t.val = 8 * b.val + q.val) (r : Fin 1024) (k : Fin 704) :
    (((cfg0.win 0).blk t).view.read (Elt Ideal) (U (Pipeline.arrRef spec0 0)) (ix3 0 r k) : EReal) = U main_arg0 (ix3 q (tok b r) k) := by
  refine Eq.trans (α := EReal) (b := U main_arg0 ((win0_0.blk t).view.emb (ix3 0 r k))) rfl ?_
  refine congrArg (U main_arg0) ?_
  funext d
  apply Fin.ext
  fin_cases d <;>
  · simp only [ValueKit.finMkLit, Fin.isValue]
    blk_simp
    rw [ix_0 t]
    try simp only [Matrix.cons_val, tok, Fin.isValue, Fin.val_zero]
    try omega

theorem rd_1 (c : Dev nD) (U : (b : Ref sig .tc) → Buf (Elt Ideal) ((c : Thread nD τ).loc b)) (t : Fin cfg0.N) (b : Fin 4) (q : Fin 8) (hb : t.val = 8 * b.val + q.val) (k : Fin 704) (n : Fin 1024) :
    (((cfg0.win 1).blk t).view.read (Elt Ideal) (U (Pipeline.arrRef spec0 1)) (ix3 0 k n) : EReal) = U main_arg1 (ix3 q k n) := by
  refine Eq.trans (α := EReal) (b := U main_arg1 ((win0_1.blk t).view.emb (ix3 0 k n))) rfl ?_
  refine congrArg (U main_arg1) ?_
  funext d
  apply Fin.ext
  fin_cases d <;>
  · simp only [ValueKit.finMkLit, Fin.isValue]
    blk_simp
    rw [ix_1 t]
    try simp only [Matrix.cons_val, Fin.isValue, Fin.val_zero]
    try omega

theorem rd_2 (c : Dev nD) (U : (b : Ref sig .tc) → Buf (Elt Ideal) ((c : Thread nD τ).loc b)) (t : Fin cfg0.N) (b : Fin 4) (q : Fin 8) (hb : t.val = 8 * b.val + q.val) (r : Fin 1024) (n : Fin 1024) :
    (((cfg0.win 2).blk t).view.read (Elt Ideal) (U (Pipeline.arrRef spec0 2)) (ix2 r n) : EReal) = U main_arg2 (ix2 (tok b r) n) := by
  refine Eq.trans (α := EReal) (b := U main_arg2 ((win0_2.blk t).view.emb (ix2 r n))) rfl ?_
  refine congrArg (U main_arg2) ?_
  funext d
  apply Fin.ext
  fin_cases d <;>
  · simp only [ValueKit.finMkLit, Fin.isValue]
    blk_simp
    rw [ix_2 t]
    try simp only [Matrix.cons_val, tok, Fin.isValue, Fin.val_zero]
    try omega

theorem rd_3 (c : Dev nD) (U : (b : Ref sig .tc) → Buf (Elt Ideal) ((c : Thread nD τ).loc b)) (t : Fin cfg0.N) (n : Fin 1024) :
    (((cfg0.win 3).blk t).view.read (Elt Ideal) (U (Pipeline.arrRef spec0 3)) (ix2 0 n) : EReal) = U main_arg3 (ix2 0 n) := by
  refine Eq.trans (α := EReal) (b := U main_arg3 ((win0_3.blk t).view.emb (ix2 0 n))) rfl ?_
  refine congrArg (U main_arg3) ?_
  funext d
  apply Fin.ext
  fin_cases d <;>
  · simp only [ValueKit.finMkLit, Fin.isValue]
    blk_simp
    rw [ix_3 t]
    try simp only [Matrix.cons_val, Fin.isValue, Fin.val_zero]
    try omega

theorem rd_4 (c : Dev nD) (U : (b : Ref sig .tc) → Buf (Elt Ideal) ((c : Thread nD τ).loc b)) (t : Fin cfg0.N) (b : Fin 4) (q : Fin 8) (hb : t.val = 8 * b.val + q.val) (r : Fin 1024) (n : Fin 1024) :
    (((cfg0.win 4).blk t).view.read (Elt Ideal) (U (Pipeline.arrRef spec0 4)) (ix2 r n) : EReal) = U main_arg4 (ix2 (tok b r) n) := by
  refine Eq.trans (α := EReal) (b := U main_arg4 ((win0_4.blk t).view.emb (ix2 r n))) rfl ?_
  refine congrArg (U main_arg4) ?_
  funext d
  apply Fin.ext
  fin_cases d <;>
  · simp only [ValueKit.finMkLit, Fin.isValue]
    blk_simp
    rw [ix_4 t]
    try simp only [Matrix.cons_val, tok, Fin.isValue, Fin.val_zero]
    try omega

/-- One block's part of the product, and the product: the sum over the features, block by block. -/
def part (x : S8x4096x704.Idx → EReal) (w : S8x704x1024.Idx → EReal) (i : Fin 4096) (n : Fin 1024) (q : Fin 8) : EReal :=
  ∑ k : Fin 704, x (ix3 q i k) * w (ix3 q k n)
def prod (x : S8x4096x704.Idx → EReal) (w : S8x704x1024.Idx → EReal) (i : Fin 4096) (n : Fin 1024) : EReal := ∑ q, part x w i n q

/-- The blocks before a point's, summed. -/
def upto (f : Fin 8 → EReal) (q : ℕ) : EReal := ∑ s ∈ Finset.range q, if h : s < 8 then f ⟨s, h⟩ else 0
theorem upto_succ (f : Fin 8 → EReal) (q : Fin 8) : upto f (q.val + 1) = upto f q.val + f q := by
  unfold upto
  rw [Finset.sum_range_succ, dif_pos q.isLt]
theorem upto_all (f : Fin 8 → EReal) : upto f 8 = ∑ q, f q := by
  unfold upto
  rw [Finset.sum_range]
  exact Finset.sum_congr rfl fun q _ => dif_pos q.isLt

theorem pay3_at (c : Dev nD) (s : Vec Ideal S1024x1024 .f32) (t : Fin cfg0.N) (b : Fin 4) (q : Fin 8) (hb : t.val = 8 * b.val + q.val) (r n : Fin 1024) :
    (k0_pay3 s (iblk m c 0 t) (iblk m c 1 t) (ix2 r n) : EReal) = s (ix2 r n) + part (V m c main_arg0) (V m c main_arg1) (tok b r) n q := by
  refine (pay3_apply s _ _ r n).trans (congrArg (s (ix2 r n) + ·) ?_)
  unfold iblk part
  exact Finset.sum_congr rfl fun k _ => congrArg₂ (· * ·) (rd_0 c (V m c) t b q hb r k) (rd_1 c (V m c) t b q hb k n)

/-- The accumulator before a block's last point. -/
theorem acc_apply (c : Dev nD) (b : Fin 4) (r n : Fin 1024) : ∀ (q : ℕ) (hq : q < 7) (t : ℕ) (ht : t < cfg0.N), t = 8 * b.val + q →
    ((outsAt0 m c t ht).2.2 (ix2 r n) : EReal) = upto (part (V m c main_arg0) (V m c main_arg1) (tok b r) n) (q + 1) := by
  intro q
  induction q with
  | zero =>
    intro hq t ht e
    have hz0 : upto (part (V m c main_arg0) (V m c main_arg1) (tok b r) n) (0 + 1) = part (V m c main_arg0) (V m c main_arg1) (tok b r) n 0 := by
      refine (upto_succ _ 0).trans ?_
      unfold upto
      rw [show (0 : Fin 8).val = 0 from rfl, Finset.sum_range_zero, zero_add]
    rw [hz0]
    by_cases h0 : t % 32 = 0
    · have e1 : (outsAt0 m c t ht).2.2 = _ := congrArg (fun p => p.2.2) (outsAt0_A m c ⟨t, ht⟩ h0 (by show t % 8 = 0; omega) (by show ¬t % 8 = 7; omega))
      rw [e1]
      dsimp only
      rw [acc_A, pay3_at m c _ ⟨t, ht⟩ b 0 e, pay2_apply, zero_add]
    · have e1 : (outsAt0 m c t ht).2.2 = _ := congrArg (fun p => p.2.2) (outsAt0_D m c ⟨t, ht⟩ h0 (by show t % 8 = 0; omega) (by show ¬t % 8 = 7; omega))
      rw [e1]
      dsimp only
      rw [acc_D, pay3_at m c _ ⟨t, ht⟩ b 0 e, pay2_apply, zero_add]
  | succ q ih =>
    intro hq t ht e
    have e1 : (outsAt0 m c t ht).2.2 = _ := congrArg (fun p => p.2.2) (outsAt0_B m c ⟨t, ht⟩ (by show ¬t % 32 = 0; omega) (by show ¬t % 8 = 0; omega) (by show ¬t % 8 = 7; omega))
    rw [e1]
    dsimp only
    rw [acc_B, pay3_at m c _ ⟨t, ht⟩ b ⟨q + 1, by omega⟩ e, ih (by omega) (t - 1) (by omega) (by omega)]
    exact (upto_succ _ ⟨q + 1, by omega⟩).symm

/-- The last point's sum. -/
theorem sum_apply (c : Dev nD) (t : Fin cfg0.N) (b : Fin 4) (hb : t.val = 8 * b.val + 7) (r n : Fin 1024) :
    (k0_pay3 (outsAt0 m c (t.val - 1) (Nat.lt_of_le_of_lt (Nat.sub_le _ _) t.isLt)).2.2 (iblk m c 0 t) (iblk m c 1 t) (ix2 r n) : EReal) = prod (V m c main_arg0) (V m c main_arg1) (tok b r) n := by
  rw [pay3_at m c _ t b 7 hb, acc_apply m c b r n 6 (by omega) (t.val - 1) _ (by omega), prod, ← upto_all]
  exact (upto_succ _ 7).symm

/-- The tokens' gradient, as the kernel's arithmetic has it. -/
def dtok (x : S8x4096x704.Idx → EReal) (w : S8x704x1024.Idx → EReal) (h : S4096x1024.Idx → EReal) (g : S1x1024.Idx → EReal) (d : S4096x1024.Idx → EReal) (i : Fin 4096) (n : Fin 1024) : EReal :=
  d (ix2 i n) + dn (fun j => h (ix2 i j)) (fun j => prod x w i j * g (ix2 0 j)) n

theorem out5_apply (c : Dev nD) (t : Fin cfg0.N) (b : Fin 4) (hb : t.val = 8 * b.val + 7) (r n : Fin 1024) :
    ((outsAt0 m c t.val t.isLt).1 (ix2 r n) : EReal) = dtok (V m c main_arg0) (V m c main_arg1) (V m c main_arg2) (V m c main_arg3) (V m c main_arg4) (tok b r) n := by
  unfold dtok
  rw [outsAt0_C m c t (by omega) (by omega) (by omega)]
  dsimp only
  rw [out_C_5, pay7_apply]
  simp only [sum_apply m c t b hb]
  unfold iblk
  simp only [rd_2 c (V m c) t b 7 hb, rd_3 c (V m c) t, rd_4 c (V m c) t b 7 hb]

/-- One block's tokens in the gain's gradient. -/
def col (x : S8x4096x704.Idx → EReal) (w : S8x704x1024.Idx → EReal) (h : S4096x1024.Idx → EReal) (n : Fin 1024) (b : ℕ) : EReal :=
  if hb : b < 4 then ∑ r : Fin 1024, prod x w (tok ⟨b, hb⟩ r) n * (h (ix2 (tok ⟨b, hb⟩ r) n) * rt (fun j => h (ix2 (tok ⟨b, hb⟩ r) j))) else 0

theorem out6_apply (c : Dev nD) (n : Fin 1024) : ∀ (t : ℕ) (ht : t < cfg0.N),
    ((outsAt0 m c t ht).2.1 (ix2 0 n) : EReal) = ∑ b ∈ Finset.range ((t + 1) / 8), col (V m c main_arg0) (V m c main_arg1) (V m c main_arg2) n b := by
  intro t
  induction t with
  | zero =>
    intro ht
    have e1 : (outsAt0 m c 0 ht).2.1 = _ := congrArg (fun p => p.2.1) (outsAt0_A m c ⟨0, ht⟩ rfl rfl (by show ¬0 % 8 = 7; omega))
    rw [e1]
    dsimp only
    rw [dg_A, pay1_apply]
    rfl
  | succ t ih =>
    intro ht
    have hN : t + 1 < 32 := lt_of_lt_of_eq ht N_0
    have ht' : t < cfg0.N := Nat.lt_of_succ_lt ht
    by_cases h2 : (t + 1) % 8 = 7
    · have e1 : (outsAt0 m c (t + 1) ht).2.1 = _ := congrArg (fun p => p.2.1) (outsAt0_C m c ⟨t + 1, ht⟩ (by show ¬(t + 1) % 32 = 0; omega) (by show ¬(t + 1) % 8 = 0; omega) h2)
      rw [e1]
      dsimp only
      have hd : (t + 1 + 1) / 8 = (t + 1) / 8 + 1 := by omega
      have hb4 : (t + 1) / 8 < 4 := by omega
      rw [out_C_6, pay6_apply, hd, Finset.sum_range_succ]
      refine congrArg₂ (· + ·) (ih ht') ?_
      unfold col
      rw [dif_pos hb4]
      refine Finset.sum_congr rfl fun r _ => ?_
      rw [sum_apply m c ⟨t + 1, ht⟩ ⟨(t + 1) / 8, hb4⟩ (by show t + 1 = 8 * ((t + 1) / 8) + 7; omega)]
      unfold iblk
      simp only [rd_2 c (V m c) ⟨t + 1, ht⟩ ⟨(t + 1) / 8, hb4⟩ 7 (by show t + 1 = 8 * ((t + 1) / 8) + 7; omega)]
    · have hd : (t + 1 + 1) / 8 = (t + 1) / 8 := by omega
      rw [hd, ← ih ht']
      by_cases h1 : (t + 1) % 8 = 0
      · have e1 : (outsAt0 m c (t + 1) ht).2.1 = _ := congrArg (fun p => p.2.1) (outsAt0_D m c ⟨t + 1, ht⟩ (by show ¬(t + 1) % 32 = 0; omega) h1 h2)
        rw [e1]
        rfl
      · have e1 : (outsAt0 m c (t + 1) ht).2.1 = _ := congrArg (fun p => p.2.1) (outsAt0_B m c ⟨t + 1, ht⟩ (by show ¬(t + 1) % 32 = 0; omega) h1 h2)
        rw [e1]
        rfl

/-- The gain's gradient, all tokens at once. -/
def dgain (x : S8x4096x704.Idx → EReal) (w : S8x704x1024.Idx → EReal) (h : S4096x1024.Idx → EReal) (n : Fin 1024) : EReal :=
  ∑ i : Fin 4096, (h (ix2 i n) * rt (fun j => h (ix2 i j))) * prod x w i n

/-- A sum over the tokens, block by block. -/
theorem sum_tok (f : Fin 4096 → EReal) : ∑ i, f i = ∑ b, ∑ r, f (tok b r) := by
  have e := Fintype.sum_equiv (finProdFinEquiv (m := 4) (n := 1024)) (fun p => f (tok p.1 p.2)) f (fun p => congrArg f (Fin.ext (by
    show 1024 * p.1.val + p.2.val = p.2.val + 1024 * p.1.val
    omega)))
  rw [← e, Fintype.sum_prod_type]

theorem cols (x : S8x4096x704.Idx → EReal) (w : S8x704x1024.Idx → EReal) (h : S4096x1024.Idx → EReal) (n : Fin 1024) :
    ∑ b ∈ Finset.range 4, col x w h n b = dgain x w h n := by
  rw [Finset.sum_range, dgain, sum_tok]
  refine Finset.sum_congr rfl fun b _ => ?_
  unfold col
  rw [dif_pos b.isLt]
  exact Finset.sum_congr rfl fun r _ => mul_comm (G := EReal) _ _

end Cert.BwdInIdeal.Hand

namespace Cert.BwdInRefIdeal.Hand

open Idealize.ShloMosaic Idealize.ShloMosaic.TcCoe Idealize.ShloMosaic.Tactic
open Cert.BwdInRefIdeal Cert.BwdInRefIdeal.Gen Cert.BwdInRefIdeal.Read
open Cert.BwdInIdeal.Hand Cert.Norm

variable (x : (⟨S8x4096x704, .bf16⟩ : BufTy).Contents (Elt Ideal)) (w : (⟨S8x704x1024, .bf16⟩ : BufTy).Contents (Elt Ideal)) (h : (⟨S4096x1024, .f32⟩ : BufTy).Contents (Elt Ideal))
  (g : (⟨S1x1024, .f32⟩ : BufTy).Contents (Elt Ideal)) (d : (⟨S4096x1024, .f32⟩ : BufTy).Contents (Elt Ideal))

/-- A feature among all of them. -/
def feat (q : Fin 8) (k : Fin 704) : Fin 5632 := ⟨704 * q.val + k.val, by omega⟩

/-- A sum over the features, block by block. -/
theorem sum_feat (f : Fin 5632 → EReal) : ∑ j, f j = ∑ q, ∑ k, f (feat q k) := by
  have e := Fintype.sum_equiv (finProdFinEquiv (m := 8) (n := 704)) (fun p => f (feat p.1 p.2)) f (fun p => congrArg f (Fin.ext (by
    show 704 * p.1.val + p.2.val = p.2.val + 704 * p.1.val
    omega)))
  rw [← e, Fintype.sum_prod_type]

theorem v26_apply (i : Fin 4096) (n : Fin 1024) : (val_main_v26 (F := Ideal) x w (ix2 i n) : EReal) = prod x w i n := by
  have e : (val_main_v26 (F := Ideal) x w (ix2 i n) : EReal) = ∑ j : Fin 5632, (x (ix3 ⟨j.val / 704, by omega⟩ i ⟨j.val % 704, by omega⟩) : EReal) * (w (ix3 ⟨j.val / 704, by omega⟩ ⟨j.val % 704, by omega⟩ n) : EReal) := by
    pointwise [val_main_v26, val_main_v25, val_main_v24, val_main_v23, val_main_v21, val_main_v20, val_main_v19]
  rw [e, sum_feat]
  unfold prod part
  refine Finset.sum_congr rfl fun q _ => Finset.sum_congr rfl fun k _ => ?_
  have e1 : (⟨(feat q k).val / 704, by omega⟩ : Fin 8) = q := Fin.ext (by simp only [feat]; omega)
  have e2 : (⟨(feat q k).val % 704, by omega⟩ : Fin 704) = k := Fin.ext (by simp only [feat]; omega)
  exact congrArg₂ (· * ·) (congrArg₂ (fun a b => x (ix3 a i b)) e1 e2) (congrArg₂ (fun a b => w (ix3 a b n)) e1 e2)

theorem v9_apply (i : Fin 4096) : (val_main_v9 (F := Ideal) h (ix2 i 0) : EReal) = ms (fun j => h (ix2 i j)) := by
  unfold ms len eps
  pointwise [val_main_v9, val_main_v8, val_main_v7, val_main_v6, val_main_v5, val_main_v4, val_main_v1, val_main_cst_0, val_main_cst_1, val_main_cst_2]

theorem v10_apply (i : Fin 4096) : (val_main_v10 (F := Ideal) h (ix2 i 0) : EReal) = rt (fun j => h (ix2 i j)) := by
  refine Eq.trans (α := EReal) (b := Ideal.rsqrt (val_main_v9 (F := Ideal) h (ix2 i 0))) ?_ (congrArg Ideal.rsqrt (v9_apply h i))
  pointwise [val_main_v10]

theorem v46_apply (n : Fin 1024) : (val_main_v46 (F := Ideal) x w h (ix2 0 n) : EReal) = dgain x w h n := by
  have e : (val_main_v46 (F := Ideal) x w h (ix2 0 n) : EReal) = ∑ _u : Fin 1, ∑ i : Fin 4096, (h (ix2 i n) * val_main_v10 (F := Ideal) h (ix2 i 0)) * val_main_v26 (F := Ideal) x w (ix2 i n) := by
    pointwise [val_main_v46, val_main_v32, val_main_v29, val_main_v28, val_main_v27, val_main_v15, val_main_v14, val_main_cst_4, val_main_cst_5]
  rw [e, Fin.sum_univ_one, dgain]
  simp only [v10_apply, v26_apply]

theorem v45_apply (i : Fin 4096) (n : Fin 1024) : (val_main_v45 (F := Ideal) x w h g d (ix2 i n) : EReal) =
    d (ix2 i n) + dr (fun j => h (ix2 i j)) (fun j => prod x w i j * g (ix2 0 j)) n := by
  have e : (val_main_v45 (F := Ideal) x w h g d (ix2 i n) : EReal) = d (ix2 i n) + ((val_main_v26 (F := Ideal) x w (ix2 i n) * g (ix2 0 n)) * val_main_v10 (F := Ideal) h (ix2 i 0)
      + (∑ u : Fin 1, Ideal.div ((∑ j : Fin 1024, h (ix2 i j) * (val_main_v26 (F := Ideal) x w (ix2 i j) * g (ix2 0 j))) *
          (Ideal.ofBits .f32 0xBF000000#32 * Ideal.div (val_main_v10 (F := Ideal) h (ix2 i u)) (val_main_v9 (F := Ideal) h (ix2 i u)))) len) * (Ideal.ofBits .f32 0x40000000#32 * h (ix2 i n))) := by
    unfold len
    pointwise [val_main_v45, val_main_v44, val_main_v43, val_main_v42, val_main_v41, val_main_v40, val_main_v39, val_main_v38, val_main_v37, val_main_v36, val_main_v35, val_main_v34, val_main_v33, val_main_v31,
      val_main_v30, val_main_v16, val_main_v13, val_main_v12, val_main_v11, val_main_v3, val_main_v2, val_main_v0, val_main_cst, val_main_cst_3, val_main_cst_6, val_main_cst_7, val_main_cst_8]
  rw [e, Fin.sum_univ_one]
  unfold dr
  simp only [v10_apply, v9_apply, v26_apply]

end Cert.BwdInRefIdeal.Hand

namespace Cert.BwdInIdeal.Hand

open Idealize.ShloMosaic Idealize.ShloMosaic.TcCoe Idealize.ShloMosaic.Tactic Idealize.SL.Sem
open Cert.BwdInIdeal Cert.BwdInIdeal.Gen
open Cert.BwdInRefIdeal.Hand Cert.Norm
open Cert.BwdInRefIdeal.Read (val_main_v45 val_main_v46)

variable (m : (ℓ : Loc nD τ sig) → Buf (Elt Ideal) ℓ) (ρ : Dev nD → PrngReg)

/-- The tokens' gradient is the reference's. -/
theorem final5 (c : Dev nD) : Value.G5 m c = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine funext fun i => ?_
  have h0 : (i 0).val < 4096 := (i 0).isLt
  have h1 : (i 1).val < 1024 := (i 1).isLt
  have hp : Value.pt5Of i < cfg0.N := by rw [show cfg0.N = 32 from N_0]; show 8 * (1 * ((i 0).val / 1024 - 0) + 1 * ((i 1).val / 1024 - 0)) + 7 < 32; omega
  have e : Value.pt5Of i = 8 * ((i 0).val / 1024) + 7 := by show 8 * (1 * ((i 0).val / 1024 - 0) + 1 * ((i 1).val / 1024 - 0)) + 7 = _; omega
  unfold Value.G5
  rw [dif_pos hp, ← Value.outsAt0_sweep m c _ hp]
  have el : Value.loc5Of i = ix2 ⟨(i 0).val % 1024, by omega⟩ ⟨(i 1).val, h1⟩ := by
    funext a; fin_cases a
    · rfl
    · exact Fin.ext (Nat.mod_eq_of_lt h1)
  have ei : i = ix2 (tok ⟨(i 0).val / 1024, by omega⟩ ⟨(i 0).val % 1024, by omega⟩) ⟨(i 1).val, h1⟩ := by
    funext a; fin_cases a
    · exact Fin.ext (Nat.div_add_mod (i 0).val 1024).symm
    · rfl
  rw [el]
  refine (out5_apply m c ⟨_, hp⟩ ⟨(i 0).val / 1024, by omega⟩ e _ _).trans ?_
  rw [dtok, dn_eq_dr]
  refine Eq.trans ?_ (congrArg (val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4))) ei).symm
  exact (v45_apply _ _ _ _ _ _ _).symm

/-- The gain's gradient is the reference's. -/
theorem final6 (c : Dev nD) : Value.G6 m c = val_main_v46 (F := Ideal) (m ((c : Thread nD τ).loc main_arg0)) (m ((c : Thread nD τ).loc main_arg1)) (m ((c : Thread nD τ).loc main_arg2)) := by
  refine funext fun i => ?_
  have h0 : (i 0).val < 1 := (i 0).isLt
  have h1 : (i 1).val < 1024 := (i 1).isLt
  have hp : Value.pt6Of i < cfg0.N := by rw [show cfg0.N = 32 from N_0]; show 32 * (1 * ((i 0).val / 1 - 0) + 1 * ((i 1).val / 1024 - 0)) + 31 < 32; omega
  have e : Value.pt6Of i = 31 := by show 32 * (1 * ((i 0).val / 1 - 0) + 1 * ((i 1).val / 1024 - 0)) + 31 = _; omega
  unfold Value.G6
  rw [dif_pos hp, ← Value.outsAt0_sweep m c _ hp]
  have el : Value.loc6Of i = ix2 0 ⟨(i 1).val, h1⟩ := by
    funext a; fin_cases a
    · exact Fin.ext (Nat.mod_one _)
    · exact Fin.ext (Nat.mod_eq_of_lt h1)
  have ei : i = ix2 0 ⟨(i 1).val, h1⟩ := by
    funext a; fin_cases a
    · exact Fin.ext (by show (i 0).val = 0; omega)
    · rfl
  rw [el]
  refine (out6_apply m c ⟨(i 1).val, h1⟩ _ hp).trans ?_
  rw [show (Value.pt6Of i + 1) / 8 = 4 by rw [e], cols]
  refine Eq.trans ?_ (congrArg (val_main_v46 (F := Ideal) (m ((c : Thread nD τ).loc main_arg0)) (m ((c : Thread nD τ).loc main_arg1)) (m ((c : Thread nD τ).loc main_arg2))) ei).symm
  exact (v46_apply _ _ _ _).symm

/-- The call's results are the reference's, whatever the arguments. -/
theorem values : Cert.algebraic_BwdInIdeal_BwdInRefIdeal := by
  intro m g m' g' _ hargs
  refine ⟨fun c => val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => val_main_v46 (F := Ideal) (m ((c : Thread nD τ).loc main_arg0)) (m ((c : Thread nD τ).loc main_arg1)) (m ((c : Thread nD τ).loc main_arg2)), ?_, ?_⟩
  · refine (θ_run _ _ _).mono (fun r h c => ?_) (Value.run (F := Ideal) m g)
    exact ⟨(h c).1.trans (final5 m c), (h c).2.1.trans (final6 m c), (h c).2.2⟩
  · refine (θ_run _ _ _).mono (fun r h c => ?_) (Cert.BwdInRefIdeal.Value.run (F := Ideal) m' g')
    obtain ⟨h0, h1, e⟩ := h c
    obtain ⟨a0, a1, a2, a3, a4⟩ := hargs c
    rw [Cert.BwdInRefIdeal.Read.val_main_v45_eq] at h0
    rw [Cert.BwdInRefIdeal.Read.val_main_v46_eq] at h1
    rw [a0, a1, a2, a3, a4] at h0
    rw [a0, a1, a2] at h1
    exact ⟨h0, h1, e⟩

/-- The reference's frame: it declares no semaphore. -/
theorem frame_r (m : (ℓ : Loc Cert.BwdInRefIdeal.nD Cert.BwdInRefIdeal.τ Cert.BwdInRefIdeal.sig) → Buf (Elt Ideal) ℓ) (g : Dev Cert.BwdInRefIdeal.nD → PrngReg) :
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4))
      ∧ r.2.sem = fun _ => 0) :=
  (θ_run _ _ _).mono (fun r h => ⟨fun c => (h c).2.2, Idealize.ShloMosaic.sem_eq_zero_of_no_sems (by decide) r.2⟩) (Cert.BwdInRefIdeal.Value.run (F := Ideal) m g)

end Cert.BwdInIdeal.Hand
-- ==== Proof.Hand.FfnInFrame.lean ====
/- The feed-forward input call: its whole-body run with what every output block ends with, the pipeline's data, and the frame. -/
module

public import proofs.«01_k».proof.Proof.Gen.FfnInIdeal.Frame
public import proofs.«01_k».proof.Proof.Gen.FfnInIdeal.Skeleton
public import Idealize.ShloMosaic.Lib.Pipeline.ValueKit
public import Idealize.ShloMosaic.Lib.Pipeline.TableIdle
public import Idealize.ShloMosaic.Lib.Claim

@[expose] public section

set_option maxRecDepth 16384

noncomputable section

namespace Cert.FfnInIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnInIdeal Cert.FfnInIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- One store through a rectangle that is the whole shape leaves its payload. -/
theorem read_one {S : Shape} {e : EltTy} {κ : Kind} {sp : Space} (v : View sig κ sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  subst h
  rw [View.read_writes_eq_canon _ _ _ (fun y => ⟨_, List.mem_singleton_self _, by
    show y ∈ (Rect.whole S).set; rw [Rect.set_whole]; exact Finset.mem_univ y⟩), View.canon_unit_zero rfl]

/-- The body's branch condition holds at the first point of each row block. -/
abbrev cond0_0 (i : grid0.Coords) : Prop := k0_cond1 i = 1#1
theorem hcond0_0 : ∀ t : Fin cfg0.N, cond0_0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

set_option maxHeartbeats 1000000 in
/-- The body's triple at a point that starts a row block: the normalised rows are stored, then used. -/
theorem kernelRun0_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1x1024x704 .bf16) (harg6 : arg6.IsWhole) (arg7 : Memref sig .tc .vmem S1x1024x704 .bf16) (harg7 : arg7.IsWhole) (arg8 : Memref sig .tc .vmem S1x1024x704 .bf16) (harg8 : arg8.IsWhole) (arg9 : Memref sig .tc .vmem S1024x1024 .bf16) (harg9 : arg9.IsWhole) (hc0 : cond0_0 i)
    (x0 : Vec F S1024x1024 .f32) (x1 : Vec F S1x1024 .f32) (x2 : Vec F S1x704x1024 .bf16) (x3 : Vec F S1x704x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay9 (k0_pay3 x0 x1) x2 x3) ∗ owns (c : Thread nD τ) arg7 fullShare (k0_pay1 (k0_pay10 (k0_pay3 x0 x1) x2)) ∗ owns (c : Thread nD τ) arg8 fullShare (k0_pay2 (k0_pay6 (k0_pay3 x0 x1) x3) (k0_pay8 (k0_pay3 x0 x1) x2)) ∗ owns (c : Thread nD τ) arg9 fullShare (k0_pay3 x0 x1)) -∗ K ⟨⟩))
          ⊢ wp frame (wpE (defs₀ (F := F)) Variants.none c none) E (cc0_ffn_in i arg2 harg2 arg3 harg3 arg4 harg4 arg5 harg5 arg6 harg6 arg7 harg7 arg8 harg8 arg9 harg9) K := by
    intro E K
    simp only [cc0_ffn_in_eq_skeleton]; unfold cc0_ffn_in_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      sl_unfold_words
      rw [read_one (S := S1x1024x704) _ _ hz3]
      simp only [View.readAt_eq_ld, harg2.read_unread, harg3.read_unread, harg4.read_unread, harg5.read_unread, harg9.read_unread, View.readCov_unit_zero (S := S1024x1024) _ hz, View.ld_unit_zero (S := S1024x1024) hz, View.ld_unit_zero (S := S1x1024) hz,
        View.ld_unit_zero (S := S1x704x1024) hz3, View.ld_unit_zero (S := S1x1024x704) hz3]
    isplitl [H5]
    · iexists _; isplitr; swap; · iexact H5
      ipureintro
      sl_unfold_words
      rw [read_one (S := S1x1024x704) _ _ hz3]
      simp only [View.readAt_eq_ld, harg2.read_unread, harg3.read_unread, harg4.read_unread, harg5.read_unread, harg9.read_unread, View.readCov_unit_zero (S := S1024x1024) _ hz, View.ld_unit_zero (S := S1024x1024) hz, View.ld_unit_zero (S := S1x1024) hz,
        View.ld_unit_zero (S := S1x704x1024) hz3, View.ld_unit_zero (S := S1x1024x704) hz3]
    isplitl [H6]
    · iexists _; isplitr; swap; · iexact H6
      ipureintro
      sl_unfold_words
      rw [read_one (S := S1x1024x704) _ _ hz3]
      simp only [View.readAt_eq_ld, harg2.read_unread, harg3.read_unread, harg4.read_unread, harg5.read_unread, harg9.read_unread, View.readCov_unit_zero (S := S1024x1024) _ hz, View.ld_unit_zero (S := S1024x1024) hz, View.ld_unit_zero (S := S1x1024) hz,
        View.ld_unit_zero (S := S1x704x1024) hz3, View.ld_unit_zero (S := S1x1024x704) hz3]
    iexists _; isplitr; swap; · iexact H7
    ipureintro
    sl_unfold_words
    rw [read_one (S := S1024x1024) _ _ hz]
    simp only [View.readAt_eq_ld, harg2.read_unread, harg3.read_unread, harg4.read_unread, harg5.read_unread, harg9.read_unread, View.readCov_unit_zero (S := S1024x1024) _ hz, View.ld_unit_zero (S := S1024x1024) hz, View.ld_unit_zero (S := S1x1024) hz,
        View.ld_unit_zero (S := S1x704x1024) hz3, View.ld_unit_zero (S := S1x1024x704) hz3]

set_option maxHeartbeats 1000000 in
/-- The body's triple at a point inside a row block: the normalised rows are those already in place. -/
theorem kernelRun0_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1x1024x704 .bf16) (harg6 : arg6.IsWhole) (arg7 : Memref sig .tc .vmem S1x1024x704 .bf16) (harg7 : arg7.IsWhole) (arg8 : Memref sig .tc .vmem S1x1024x704 .bf16) (harg8 : arg8.IsWhole) (arg9 : Memref sig .tc .vmem S1024x1024 .bf16) (harg9 : arg9.IsWhole) (hc0 : ¬cond0_0 i)
    (x0 : Vec F S1024x1024 .f32) (x1 : Vec F S1x1024 .f32) (x2 : Vec F S1x704x1024 .bf16) (x3 : Vec F S1x704x1024 .bf16) (xn : Vec F S1024x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xn
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay9 xn x2 x3) ∗ owns (c : Thread nD τ) arg7 fullShare (k0_pay1 (k0_pay10 xn x2)) ∗ owns (c : Thread nD τ) arg8 fullShare (k0_pay2 (k0_pay6 xn x3) (k0_pay8 xn x2)) ∗ owns (c : Thread nD τ) arg9 fullShare xn) -∗ K ⟨⟩))
          ⊢ wp frame (wpE (defs₀ (F := F)) Variants.none c none) E (cc0_ffn_in i arg2 harg2 arg3 harg3 arg4 harg4 arg5 harg5 arg6 harg6 arg7 harg7 arg8 harg8 arg9 harg9) K := by
    intro E K
    simp only [cc0_ffn_in_eq_skeleton]; unfold cc0_ffn_in_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, Hk⟩
    obtain rfl := harg2.eq_unread hf0; obtain rfl := harg3.eq_unread hf1; obtain rfl := harg4.eq_unread hf2; obtain rfl := harg5.eq_unread hf3; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      sl_unfold_words
      rw [read_one (S := S1x1024x704) _ _ hz3]
      simp only [View.readAt_eq_ld, harg2.read_unread, harg3.read_unread, harg4.read_unread, harg5.read_unread, harg9.read_unread, View.readCov_unit_zero (S := S1024x1024) _ hz, View.ld_unit_zero (S := S1024x1024) hz, View.ld_unit_zero (S := S1x1024) hz,
        View.ld_unit_zero (S := S1x704x1024) hz3, View.ld_unit_zero (S := S1x1024x704) hz3]
    isplitl [H5]
    · iexists _; isplitr; swap; · iexact H5
      ipureintro
      sl_unfold_words
      rw [read_one (S := S1x1024x704) _ _ hz3]
      simp only [View.readAt_eq_ld, harg2.read_unread, harg3.read_unread, harg4.read_unread, harg5.read_unread, harg9.read_unread, View.readCov_unit_zero (S := S1024x1024) _ hz, View.ld_unit_zero (S := S1024x1024) hz, View.ld_unit_zero (S := S1x1024) hz,
        View.ld_unit_zero (S := S1x704x1024) hz3, View.ld_unit_zero (S := S1x1024x704) hz3]
    isplitl [H6]
    · iexists _; isplitr; swap; · iexact H6
      ipureintro
      sl_unfold_words
      rw [read_one (S := S1x1024x704) _ _ hz3]
      simp only [View.readAt_eq_ld, harg2.read_unread, harg3.read_unread, harg4.read_unread, harg5.read_unread, harg9.read_unread, View.readCov_unit_zero (S := S1024x1024) _ hz, View.ld_unit_zero (S := S1024x1024) hz, View.ld_unit_zero (S := S1x1024) hz,
        View.ld_unit_zero (S := S1x704x1024) hz3, View.ld_unit_zero (S := S1x1024x704) hz3]
    iexists _; isplitr; · ipureintro; exact harg9.read_unread _
    iexact H7

/-- Each window's current staging memref at a point. -/
abbrev ms0_0 (t : Fin cfg0.N) : Memref sig .tc .vmem S1024x1024 .f32 := win0_0.stage (cfg0.slots t 0)
abbrev ms0_1 (t : Fin cfg0.N) : Memref sig .tc .vmem S1x1024 .f32 := win0_1.stage (cfg0.slots t 1)
abbrev ms0_2 (t : Fin cfg0.N) : Memref sig .tc .vmem S1x704x1024 .bf16 := win0_2.stage (cfg0.slots t 2)
abbrev ms0_3 (t : Fin cfg0.N) : Memref sig .tc .vmem S1x704x1024 .bf16 := win0_3.stage (cfg0.slots t 3)
abbrev ms0_4 (t : Fin cfg0.N) : Memref sig .tc .vmem S1x1024x704 .bf16 := win0_4.stage (cfg0.slots t 4)
abbrev ms0_5 (t : Fin cfg0.N) : Memref sig .tc .vmem S1x1024x704 .bf16 := win0_5.stage (cfg0.slots t 5)
abbrev ms0_6 (t : Fin cfg0.N) : Memref sig .tc .vmem S1x1024x704 .bf16 := win0_6.stage (cfg0.slots t 6)
abbrev ms0_7 (t : Fin cfg0.N) : Memref sig .tc .vmem S1024x1024 .bf16 := win0_7.stage (cfg0.slots t 7)

/-- The normalised rows of the point's row block. -/
def xn (c : Dev nD) (t : Fin cfg0.N) : Vec F S1024x1024 .bf16 := k0_pay3 (iblk m c 0 t) (iblk m c 1 t)

/-- What the pipeline's arrays and buffers hold: the inputs their blocks, the outputs what the point's run stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay9 (xn m c t) (iblk m c 2 t) (iblk m c 3 t)
    | ⟨5, _⟩ => k0_pay1 (k0_pay10 (xn m c t) (iblk m c 2 t))
    | ⟨6, _⟩ => k0_pay2 (k0_pay6 (xn m c t) (iblk m c 3 t)) (k0_pay8 (xn m c t) (iblk m c 2 t))
    | ⟨7, _⟩ => xn m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay9 (xn m c t) (iblk m c 2 t) (iblk m c 3 t) := by dsimp only [dats]
theorem after0_5 (c : Dev nD) (t : Fin cfg0.N) : (dats m 0 c).after 5 t = k0_pay1 (k0_pay10 (xn m c t) (iblk m c 2 t)) := by dsimp only [dats]
theorem after0_6 (c : Dev nD) (t : Fin cfg0.N) : (dats m 0 c).after 6 t = k0_pay2 (k0_pay6 (xn m c t) (iblk m c 3 t)) (k0_pay8 (xn m c t) (iblk m c 2 t)) := by dsimp only [dats]
theorem after0_7 (c : Dev nD) (t : Fin cfg0.N) : (dats m 0 c).after 7 t = xn m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Inside a row block the rows' window has not moved. -/
theorem iblk_0_step (c : Dev nD) (t : Fin cfg0.N) (h0 : ¬t.val % 4 = 0) : iblk m c 0 t = iblk m c 0 ⟨t.val - 1, by omega⟩ := by
  have hz : t.val ≠ 0 := fun h => h0 (by rw [h])
  have hf : (cfg0.win 0).fetch t = false := by
    cases h : (cfg0.win 0).fetch t
    · rfl
    · exact absurd ((fetch0_0 t).mp h) h0
  have hl : (cfg0.win 0).flush (⟨t.val - 1, Nat.lt_of_le_of_lt (Nat.sub_le _ _) t.isLt⟩ : Fin cfg0.N) = false := (cfg0.win 0).flush_in rfl _
  have e := before0_0 m c t (iblk m c 0 t)
  unfold Dat.before at e
  rw [if_neg (by rw [hf]; exact Bool.false_ne_true), if_neg hz] at e
  dsimp only at e
  rw [if_neg (by rw [hl]; exact Bool.false_ne_true)] at e
  rw [← e]
  exact after0_0 m c ⟨t.val - 1, by omega⟩

/-- The second input is one block. -/
theorem iblk_1_step (c : Dev nD) (t : Fin cfg0.N) (h0 : ¬t.val % 4 = 0) : iblk m c 1 t = iblk m c 1 ⟨t.val - 1, by omega⟩ := by
  have hz : t.val ≠ 0 := fun h => h0 (by rw [h])
  have hN : t.val < 16 := lt_of_lt_of_eq t.isLt (show cfg0.N = 16 from N_0)
  have hf : (cfg0.win 1).fetch t = false := by
    cases h : (cfg0.win 1).fetch t
    · rfl
    · exact absurd ((fetch0_1 t).mp h) (by omega)
  have hl : (cfg0.win 1).flush (⟨t.val - 1, Nat.lt_of_le_of_lt (Nat.sub_le _ _) t.isLt⟩ : Fin cfg0.N) = false := (cfg0.win 1).flush_in rfl _
  have e := before0_1 m c t (iblk m c 1 t)
  unfold Dat.before at e
  rw [if_neg (by rw [hf]; exact Bool.false_ne_true), if_neg hz] at e
  dsimp only at e
  rw [if_neg (by rw [hl]; exact Bool.false_ne_true)] at e
  rw [← e]
  exact after0_1 m c ⟨t.val - 1, by omega⟩

theorem xn_step (c : Dev nD) (t : Fin cfg0.N) (h0 : ¬t.val % 4 = 0) : xn m c t = xn m c ⟨t.val - 1, by omega⟩ := by
  unfold xn
  rw [← iblk_0_step m c t h0, ← iblk_1_step m c t h0]

theorem live7 : ∀ t : Fin cfg0.N, cond0_0 (grid0.coords t) → cfg0.idle 7 (grid0.coords t) = false := by decide +kernel
theorem idle7 : ∀ t : Fin cfg0.N, ¬cond0_0 (grid0.coords t) → cfg0.idle 7 (grid0.coords t) = true := by decide +kernel

/-- The rows' buffer is new at the first point of a row block only. -/
def freshTab (n : ℕ) : Bool := n % 4 == 0
theorem freshTab_step : ∀ t : Fin cfg0.N, freshTab (t.val + 1) = ((cfg0.win 7).flush t || (cfg0.idle 7 (cfg0.grid.coords t) && freshTab t.val)) := by decide +kernel
theorem fresh7 (t : Fin cfg0.N) : cfg0.fresh 7 t.val = freshTab t.val :=
  Pipeline.Cfg.fresh_tab cfg0 7 freshTab rfl freshTab_step t.val (Nat.le_of_lt t.isLt)

theorem carry7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  rw [after0_7, after0_7]
  by_cases h0 : t.val % 4 = 0
  · rw [live7 t ((hcond0_0 t).mpr h0)] at hi
    exact absurd hi Bool.false_ne_true
  · exact xn_step m c t h0

theorem before0_7 (c : Dev nD) (t : Fin cfg0.N) (h0 : ¬t.val % 4 = 0) (d) : (dats m 0 c).before 7 t d = xn m c t := by
  rw [Dat.before_out_traj _ 7 rfl (fun _ _ => rfl) (carry7 m c) t.val t rfl d,
    if_neg (by rw [fresh7 t]; unfold freshTab; simpa using h0), after0_7]
  exact (xn_step m c t h0).symm

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves_w (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  show (match cfg0.idle w (cfg0.grid.coords t) with
    | true => _
    | false => _) = _
  rw [show cfg0.idle w (cfg0.grid.coords t) = false from h]

/-- The rows' window, at a point that stores nothing into it: the buffer at the rows, written back or not. -/
theorem leaves_7 (c : Dev nD) (t : Fin cfg0.N) (h0 : ¬t.val % 4 = 0) :
    owns (c : Thread nD τ) (ms0_7 t) fullShare (xn m c t) ⊢ (dats m 0 c).leavesExact 7 t := by
  have hi : cfg0.idle 7 (cfg0.grid.coords t) = true := idle7 t (fun h => h0 ((hcond0_0 t).mp h))
  cases hf : (cfg0.win 7).flush t
  · rw [Dat.leavesExact_idle (dats m 0 c) 7 t hi hf]
    iintro H
    iexists (xn m c t)
    rw [before0_7 m c t h0]
    iexact H
  · unfold Dat.leavesExact
    rw [hi, hf, after0_7]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [leaves_w m c 0 t rfl, leaves_w m c 1 t rfl, leaves_w m c 2 t rfl, leaves_w m c 3 t rfl, leaves_w m c 4 t rfl, leaves_w m c 5 t rfl, leaves_w m c 6 t rfl,
    after0_0, after0_1, after0_2, after0_3, after0_4, after0_5, after0_6]
  by_cases h0 : t.val % 4 = 0
  · rw [leaves_w m c 7 t (live7 t ((hcond0_0 t).mpr h0)), after0_7]
    unfold xn
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [before0_7 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) (xn m c t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves_7 m c t h0)
    iexact H7

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array at what the pipeline's data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the call ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.FfnInIdeal.Hand

end
-- ==== Proof.Hand.FinIn.lean ====
/- The precondition of the feed-forward input call, read. -/
module

public import proofs.«01_k».proof.Pre_finite_ffn_in
public import Idealize.ShloMosaic.PureOps.Ideal.Laws
public import Idealize.ShloMosaic.Lib.Affine
public import Idealize.ShloMosaic.Lib.Decide

@[expose] public section

set_option maxRecDepth 16384

noncomputable section

namespace Cert.Pre_finite_ffn_in.Hand

open Idealize.ShloMosaic Cert.Pre_finite_ffn_in

/-- The side conditions of the precondition's operations. -/
theorem facts : Cert.Pre_finite_ffn_in.Facts where
  bcast_S_S1x1024 := by decide
  reducesTo_S1x1024_S_d0_1 := by decide
  h_S_ := by decide
  bcast_S_S8x704x1024 := by decide
  reducesTo_S8x704x1024_S_d0_1_2 := by decide

theorem both {c d : BitVec 1} (h : IntOp.andi c d = 1#1) : c = 1#1 ∧ d = 1#1 := by
  revert c d; decide

theorem fold_both {ι : Type} (x : ι → BitVec 1) (l : List ι) :
    ∀ b : BitVec 1, l.foldl (fun r i => IntOp.andi r (x i)) b = 1#1 → b = 1#1 ∧ ∀ i ∈ l, x i = 1#1 := by
  induction l with
  | nil => intro b h; exact ⟨h, by simp⟩
  | cons i l ih =>
    intro b h
    obtain ⟨h1, h2⟩ := ih _ h
    obtain ⟨h3, h4⟩ := both h1
    exact ⟨h3, fun k hk => (List.mem_cons.1 hk).elim (fun e => e ▸ h4) (h2 k)⟩

/-- A conjunction over a whole array that is one has every element one. -/
theorem every {s : Shape} {axes : List (Fin s.rank)} (x : s.Idx → BitVec 1) (v : S_.Idx → BitVec 1) (h : s.ReducesTo axes S_) (hu : 0 < S_.numel)
    (j : S_.Idx) (e : Host.reduce IntOp.andi x v h hu j = 1#1) (i : s.Idx) : x i = 1#1 := by
  rw [Host.reduce_eq_foldl] at e
  refine (fold_both x _ _ e).2 i ?_
  refine List.mem_filter.2 ⟨List.mem_map.2 ⟨s.rowMajor i, List.mem_finRange _, s.rowMajor.symm_apply_apply i⟩, ?_⟩
  exact decide_eq_true (funext fun a => a.elim0)

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

/-- An extended real whose absolute value is below infinity is a real. -/
theorem real_of (y : EReal) (h : Ideal.cmp .olt (max y (-y)) ⊤ = 1#1) : ∃ r : ℝ, y = (r : EReal) := by
  induction y with
  | bot => simp [Ideal.cmp] at h
  | top => simp [Ideal.cmp] at h
  | coe r => exact ⟨r, rfl⟩

attribute [local instance] facts

/-- The precondition, read: every element of the gain and of the weight is a real. -/
theorem reals (x0 : FVec Ideal S4096x1024 .f32) (x1 : FVec Ideal S1x1024 .f32) (x2 : FVec Ideal S8x704x1024 .bf16)
    (h : Cert.Pre_finite_ffn_in.fn (F := Ideal) x0 x1 x2 = fun _ => 1#1) :
    (∀ i, ∃ r : ℝ, (x1 i : EReal) = (r : EReal)) ∧ (∀ i, ∃ r : ℝ, (x2 i : EReal) = (r : EReal)) := by
  have h := congrFun h (fun a => a.elim0)
  unfold Cert.Pre_finite_ffn_in.fn at h
  obtain ⟨e0, e1⟩ := both h
  refine ⟨fun i => real_of _ ?_, fun i => real_of _ ?_⟩
  · rw [← inf_f32]
    exact every _ _ _ _ _ e0 i
  · rw [← inf_bf16]
    exact every _ _ _ _ _ e1 i

end Cert.Pre_finite_ffn_in.Hand

end
-- ==== Proof.Hand.FfnIn.lean ====
/- The feed-forward input call: the norm, the two products, the gated unit and its derivative. What the call leaves in its four results is what the reference leaves. -/
module

public import proofs.«01_k».proof.Defs
public import proofs.«01_k».proof.Proof.Hand.FfnInFrame
public import proofs.«01_k».proof.Proof.Hand.FinIn
public import proofs.«01_k».proof.Proof.Hand.Norm
public import proofs.«01_k».proof.Proof.Gen.FfnInRefIdeal.Run
public import proofs.«01_k».proof.Proof.Gen.FfnInRefIdeal.Read
public import proofs.«01_k».proof.Proof.Gen.FfnInRefIdeal
public import Idealize.ShloMosaic.Lib.StableHlo.ReadAt
public import Idealize.ShloMosaic.Lib.Pointwise
public import Idealize.ShloMosaic.Lib.Tactic.WordOmega
public import Idealize.ShloMosaic.Lib.Pipeline.ValueKit
public import Idealize.ShloMosaic.Lib.IdealHost

@[expose] public section

set_option maxRecDepth 16384

noncomputable section

namespace Cert.FfnInIdeal.Hand

open Idealize.ShloMosaic Idealize.ShloMosaic.TcCoe Idealize.ShloMosaic.Tactic
open Cert.FfnInIdeal Cert.FfnInIdeal.Gen
open Idealize.ShloMosaic.Pipeline (Dat Cfg Window cellOf)

/-- One, as the programs print it. -/
def one : EReal := Ideal.ofBits .f32 0x3F800000#32

theorem one_eq : one = ((1 : ℝ) : EReal) := by
  simp [one, Ideal.ofBits, Ideal.ieee, -EReal.coe_mul]; norm_num

/-- A row, normalised and scaled by the gain. -/
def xr (h g : Fin 1024 → EReal) (n : Fin 1024) : EReal :=
  h n * Ideal.rsqrt (Ideal.div (∑ j, h j * h j) (Ideal.ofBits .f32 0x44800000#32) + Ideal.ofBits .f32 0x358637BD#32) * g n

/-- A normalised row against one feature's weights. -/
def pr (x w : Fin 1024 → EReal) : EReal := ∑ k, x k * w k

/-- The logistic function, as the kernel writes it. -/
def sg (y : EReal) : EReal := Ideal.div one (one + Ideal.exp (0 - y))

/-- The gate's derivative times the up value, as the kernel writes it. -/
def dk (y u : EReal) : EReal := u * (sg y * (one + y * (one - sg y)))

/-- The same, as differentiating the forward line writes it. -/
def dref (y u : EReal) : EReal := one * u * Ideal.div one (one + Ideal.exp (-y)) + y * (one * u) * (Ideal.div one (one + Ideal.exp (-y)) * (one - Ideal.div one (one + Ideal.exp (-y))))

theorem xr_real (h g : Fin 1024 → EReal) (hg : ∀ n, ∃ r : ℝ, g n = (r : EReal)) (n : Fin 1024) : ∃ r : ℝ, xr h g n = (r : EReal) := by
  have e : xr h g n = h n * Norm.rt h * g n := rfl
  rw [e]
  obtain ⟨b, hb⟩ := hg n
  by_cases hh : ∃ k, h k = ⊤ ∨ h k = ⊥
  · obtain ⟨k, hk⟩ := hh
    refine ⟨0, ?_⟩
    rw [(Norm.rt_zero h k hk).2, mul_zero, zero_mul]
    rfl
  · have hr : ∀ k, ∃ r : ℝ, h k = (r : EReal) := fun k => by
      have hk := fun hk => hh ⟨k, hk⟩
      cases e : h k using EReal.rec with
      | bot => exact absurd (Or.inr e) hk
      | top => exact absurd (Or.inl e) hk
      | coe r => exact ⟨r, rfl⟩
    choose y hy using hr
    have hy' : h = fun k => (y k : EReal) := funext hy
    obtain ⟨v, r, -, -, -, -, er⟩ := Norm.rt_real y
    refine ⟨y n * r * b, ?_⟩
    rw [hb, hy', er, EReal.coe_mul, EReal.coe_mul]

theorem pr_real (x w : Fin 1024 → EReal) (hx : ∀ n, ∃ r : ℝ, x n = (r : EReal)) (hw : ∀ n, ∃ r : ℝ, w n = (r : EReal)) : ∃ r : ℝ, pr x w = (r : EReal) := by
  choose y hy using hx
  choose z hz using hw
  refine ⟨∑ k, y k * z k, ?_⟩
  unfold pr
  rw [← Norm.sum_coe]
  exact Finset.sum_congr rfl fun k _ => by rw [hy, hz, EReal.coe_mul]

theorem zero_sub' (y : EReal) : 0 - y = -y := by rw [sub_eq_add_neg, zero_add]

/-- The logistic function of a real. -/
theorem sg_real (a : ℝ) : Ideal.div one (one + Ideal.exp (-(a : EReal))) = ((1 / (1 + Real.exp (-a)) : ℝ) : EReal) := by
  have h : (1 + Real.exp (-a)) ≠ 0 := by positivity
  rw [← EReal.coe_neg, show Ideal.exp ((-a : ℝ) : EReal) = ((Real.exp (-a) : ℝ) : EReal) from rfl, one_eq, ← EReal.coe_add, Ideal.div_coe h, ← EReal.coe_mul, one_mul]

/-- At real values the two derivatives are one. -/
theorem dk_eq (a b : ℝ) : dk (a : EReal) (b : EReal) = dref (a : EReal) (b : EReal) := by
  unfold dk dref sg
  rw [zero_sub', sg_real, one_eq]
  simp only [← EReal.coe_mul, ← EReal.coe_add, ← EReal.coe_sub]
  refine congrArg _ ?_
  ring

theorem xn_apply (h : Vec Ideal S1024x1024 .f32) (g : Vec Ideal S1x1024 .f32) (r n : Fin 1024) :
    (k0_pay3 h g (ix2 r n) : EReal) = xr (fun j => h (ix2 r j)) (fun j => g (ix2 0 j)) n := by
  unfold xr
  pointwise [k0_pay3]

theorem gate_apply (x : Vec Ideal S1024x1024 .bf16) (w : Vec Ideal S1x704x1024 .bf16) (r : Fin 1024) (n : Fin 704) :
    (k0_pay5 x w (ix2 r n) : EReal) = pr (fun k => x (ix2 r k)) (fun k => w (ix3 0 n k)) := by
  unfold pr
  pointwise [k0_pay5, k0_pay4]

theorem up_apply (x : Vec Ideal S1024x1024 .bf16) (w : Vec Ideal S1x704x1024 .bf16) (r : Fin 1024) (n : Fin 704) :
    (k0_pay6 x w (ix2 r n) : EReal) = pr (fun k => x (ix2 r k)) (fun k => w (ix3 0 n k)) := by
  unfold pr
  pointwise [k0_pay6, k0_pay4]

theorem sg_apply (x : Vec Ideal S1024x1024 .bf16) (w : Vec Ideal S1x704x1024 .bf16) (r : Fin 1024) (n : Fin 704) :
    (k0_pay7 x w (ix2 r n) : EReal) = sg (k0_pay5 x w (ix2 r n)) := by
  unfold sg one
  pointwise [k0_pay7]

theorem silu_apply (x : Vec Ideal S1024x1024 .bf16) (w : Vec Ideal S1x704x1024 .bf16) (r : Fin 1024) (n : Fin 704) :
    (k0_pay8 x w (ix2 r n) : EReal) = k0_pay5 x w (ix2 r n) * sg (k0_pay5 x w (ix2 r n)) := by
  rw [← sg_apply]
  pointwise [k0_pay8]

theorem dgate_apply (x : Vec Ideal S1024x1024 .bf16) (w u : Vec Ideal S1x704x1024 .bf16) (r : Fin 1024) (n : Fin 704) :
    (k0_pay9 x w u (ix3 0 r n) : EReal) = dk (k0_pay5 x w (ix2 r n)) (k0_pay6 x u (ix2 r n)) := by
  unfold dk
  rw [← sg_apply]
  unfold one
  pointwise [k0_pay9]

theorem dup_apply (x : Vec Ideal S1024x1024 .bf16) (w : Vec Ideal S1x704x1024 .bf16) (r : Fin 1024) (n : Fin 704) :
    (k0_pay1 (k0_pay10 x w) (ix3 0 r n) : EReal) = k0_pay5 x w (ix2 r n) * sg (k0_pay5 x w (ix2 r n)) := by
  rw [← silu_apply]
  pointwise [k0_pay1, k0_pay10]

theorem act_apply (x : Vec Ideal S1024x1024 .bf16) (w u : Vec Ideal S1x704x1024 .bf16) (r : Fin 1024) (n : Fin 704) :
    (k0_pay2 (k0_pay6 x u) (k0_pay8 x w) (ix3 0 r n) : EReal) = k0_pay5 x w (ix2 r n) * sg (k0_pay5 x w (ix2 r n)) * k0_pay6 x u (ix2 r n) := by
  rw [← silu_apply]
  pointwise [k0_pay2]

variable (m : (ℓ : Loc nD τ sig) → Buf (Elt Ideal) ℓ) (ρ : Dev nD → PrngReg)

/-- The tile's token and feature. -/
def tok (b : Fin 4) (r : Fin 1024) : Fin 4096 := ⟨1024 * b.val + r.val, by omega⟩
def feat (q : Fin 4) (k : Fin 704) : Fin 2816 := ⟨q.val * 704 + k.val, by omega⟩
/-- The weight's block of a gate tile and of an up tile. -/
def lo (q : Fin 4) : Fin 8 := ⟨q.val, by omega⟩
def hi (q : Fin 4) : Fin 8 := ⟨4 + q.val, by omega⟩

theorem ix_0 : ∀ t : Fin grid0.N, win0_0.index t = ![t.val / 4, 0] := by decide +kernel
theorem ix_1 : ∀ t : Fin grid0.N, win0_1.index t = ![0, 0] := by decide +kernel
theorem ix_2 : ∀ t : Fin grid0.N, win0_2.index t = ![t.val % 4, 0, 0] := by decide +kernel
theorem ix_3 : ∀ t : Fin grid0.N, win0_3.index t = ![4 + t.val % 4, 0, 0] := by decide +kernel

theorem rd_0 (c : Dev nD) (U : (b : Ref sig .tc) → Buf (Elt Ideal) ((c : Thread nD τ).loc b)) (t : Fin cfg0.N) (b q : Fin 4) (hb : t.val = 4 * b.val + q.val) (r n : Fin 1024) :
    (((cfg0.win 0).blk t).view.read (Elt Ideal) (U (Pipeline.arrRef spec0 0)) (ix2 r n) : EReal) = U main_arg0 (ix2 (tok b r) n) := by
  refine Eq.trans (α := EReal) (b := U main_arg0 ((win0_0.blk t).view.emb (ix2 r n))) rfl ?_
  refine congrArg (U main_arg0) ?_
  funext d
  apply Fin.ext
  fin_cases d <;>
  · simp only [ValueKit.finMkLit, Fin.isValue]
    blk_simp
    rw [ix_0 t]
    try simp only [Matrix.cons_val, tok, lo, hi, Fin.isValue, Fin.val_zero]
    try omega

theorem rd_1 (c : Dev nD) (U : (b : Ref sig .tc) → Buf (Elt Ideal) ((c : Thread nD τ).loc b)) (t : Fin cfg0.N) (b q : Fin 4) (hb : t.val = 4 * b.val + q.val) (n : Fin 1024) :
    (((cfg0.win 1).blk t).view.read (Elt Ideal) (U (Pipeline.arrRef spec0 1)) (ix2 0 n) : EReal) = U main_arg1 (ix2 0 n) := by
  refine Eq.trans (α := EReal) (b := U main_arg1 ((win0_1.blk t).view.emb (ix2 0 n))) rfl ?_
  refine congrArg (U main_arg1) ?_
  funext d
  apply Fin.ext
  fin_cases d <;>
  · simp only [ValueKit.finMkLit, Fin.isValue]
    blk_simp
    rw [ix_1 t]
    try simp only [Matrix.cons_val, tok, lo, hi, Fin.isValue, Fin.val_zero]
    try omega

theorem rd_2 (c : Dev nD) (U : (b : Ref sig .tc) → Buf (Elt Ideal) ((c : Thread nD τ).loc b)) (t : Fin cfg0.N) (b q : Fin 4) (hb : t.val = 4 * b.val + q.val) (n : Fin 704) (k : Fin 1024) :
    (((cfg0.win 2).blk t).view.read (Elt Ideal) (U (Pipeline.arrRef spec0 2)) (ix3 0 n k) : EReal) = U main_arg2 (ix3 (lo q) n k) := by
  refine Eq.trans (α := EReal) (b := U main_arg2 ((win0_2.blk t).view.emb (ix3 0 n k))) rfl ?_
  refine congrArg (U main_arg2) ?_
  funext d
  apply Fin.ext
  fin_cases d <;>
  · simp only [ValueKit.finMkLit, Fin.isValue]
    blk_simp
    rw [ix_2 t]
    try simp only [Matrix.cons_val, tok, lo, hi, Fin.isValue, Fin.val_zero]
    try omega

theorem rd_3 (c : Dev nD) (U : (b : Ref sig .tc) → Buf (Elt Ideal) ((c : Thread nD τ).loc b)) (t : Fin cfg0.N) (b q : Fin 4) (hb : t.val = 4 * b.val + q.val) (n : Fin 704) (k : Fin 1024) :
    (((cfg0.win 3).blk t).view.read (Elt Ideal) (U (Pipeline.arrRef spec0 3)) (ix3 0 n k) : EReal) = U main_arg2 (ix3 (hi q) n k) := by
  refine Eq.trans (α := EReal) (b := U main_arg2 ((win0_3.blk t).view.emb (ix3 0 n k))) rfl ?_
  refine congrArg (U main_arg2) ?_
  funext d
  apply Fin.ext
  fin_cases d <;>
  · simp only [ValueKit.finMkLit, Fin.isValue]
    blk_simp
    rw [ix_3 t]
    try simp only [Matrix.cons_val, tok, lo, hi, Fin.isValue, Fin.val_zero]
    try omega

/-- The token's normalised row. -/
def row (h : S4096x1024.Idx → EReal) (g : S1x1024.Idx → EReal) (i : Fin 4096) (n : Fin 1024) : EReal := xr (fun j => h (ix2 i j)) (fun j => g (ix2 0 j)) n

/-- A token's product with one feature of the weight. -/
def feed (h : S4096x1024.Idx → EReal) (g : S1x1024.Idx → EReal) (w : S8x704x1024.Idx → EReal) (i : Fin 4096) (p : Fin 8) (n : Fin 704) : EReal := pr (row h g i) (fun k => w (ix3 p n k))

theorem xn_at (c : Dev nD) (t : Fin cfg0.N) (b q : Fin 4) (hb : t.val = 4 * b.val + q.val) (r n : Fin 1024) :
    (xn m c t (ix2 r n) : EReal) = row (V m c main_arg0) (V m c main_arg1) (tok b r) n := by
  unfold xn iblk row
  rw [xn_apply]
  exact congrArg₂ (fun x y => xr x y n) (funext fun j => rd_0 c (V m c) t b q hb r j) (funext fun j => rd_1 c (V m c) t b q hb j)

theorem gate_at (c : Dev nD) (t : Fin cfg0.N) (b q : Fin 4) (hb : t.val = 4 * b.val + q.val) (r : Fin 1024) (n : Fin 704) :
    (k0_pay5 (xn m c t) (iblk m c 2 t) (ix2 r n) : EReal) = feed (V m c main_arg0) (V m c main_arg1) (V m c main_arg2) (tok b r) (lo q) n := by
  unfold feed
  rw [gate_apply]
  exact congrArg₂ pr (funext fun j => xn_at m c t b q hb r j) (funext fun k => rd_2 c (V m c) t b q hb n k)

theorem up_at (c : Dev nD) (t : Fin cfg0.N) (b q : Fin 4) (hb : t.val = 4 * b.val + q.val) (r : Fin 1024) (n : Fin 704) :
    (k0_pay6 (xn m c t) (iblk m c 3 t) (ix2 r n) : EReal) = feed (V m c main_arg0) (V m c main_arg1) (V m c main_arg2) (tok b r) (hi q) n := by
  unfold feed
  rw [up_apply]
  exact congrArg₂ pr (funext fun j => xn_at m c t b q hb r j) (funext fun k => rd_3 c (V m c) t b q hb n k)

theorem feed_real (h : S4096x1024.Idx → EReal) (g : S1x1024.Idx → EReal) (w : S8x704x1024.Idx → EReal) (hg : ∀ i, ∃ r : ℝ, g i = (r : EReal)) (hw : ∀ i, ∃ r : ℝ, w i = (r : EReal))
    (i : Fin 4096) (p : Fin 8) (n : Fin 704) : ∃ r : ℝ, feed h g w i p n = (r : EReal) :=
  pr_real _ _ (fun k => xr_real _ _ (fun j => hg _) k) (fun k => hw _)

end Cert.FfnInIdeal.Hand

namespace Cert.FfnInRefIdeal.Hand

open Idealize.ShloMosaic Idealize.ShloMosaic.TcCoe Idealize.ShloMosaic.Tactic
open Cert.FfnInRefIdeal Cert.FfnInRefIdeal.Gen Cert.FfnInRefIdeal.Read
open Cert.FfnInIdeal.Hand (one xr pr sg dk dref row feed feat lo hi)

variable (h : (⟨S4096x1024, .f32⟩ : BufTy).Contents (Elt Ideal)) (g : (⟨S1x1024, .f32⟩ : BufTy).Contents (Elt Ideal)) (w : (⟨S8x704x1024, .bf16⟩ : BufTy).Contents (Elt Ideal))

theorem v13_apply (i : Fin 4096) (n : Fin 1024) : (val_main_v13 (F := Ideal) h g (ix2 i n) : EReal) = row h g i n := by
  unfold row xr
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem v18_apply (i : Fin 4096) (q : Fin 4) (n : Fin 704) : (val_main_v18 (F := Ideal) h g w (ix2 i (feat q n)) : EReal) = feed h g w i (lo q) n := by
  have e : ∀ j : Fin 2816, (val_main_v18 (F := Ideal) h g w (ix2 i j) : EReal) = ∑ k : Fin 1024, (val_main_v13 (F := Ideal) h g (ix2 i k) : EReal) * (w (ix3 ⟨j.val / 704, by omega⟩ ⟨j.val % 704, by omega⟩ k) : EReal) := by
    intro j
    pointwise [val_main_v18, val_main_v17, val_main_v16, val_main_v15, val_main_v14]
  rw [e]
  unfold feed pr
  refine Finset.sum_congr rfl fun k _ => congrArg₂ (· * ·) (v13_apply h g i k) ?_
  exact congrArg w (congrArg₂ (fun a b => ix3 a b k) (Fin.ext (by simp only [feat, lo]; omega)) (Fin.ext (by simp only [feat]; omega)))

theorem v19_apply (i : Fin 4096) (q : Fin 4) (n : Fin 704) : (val_main_v19 (F := Ideal) h g w (ix2 i (feat q n)) : EReal) = feed h g w i (hi q) n := by
  have e : ∀ j : Fin 2816, (val_main_v19 (F := Ideal) h g w (ix2 i j) : EReal) = ∑ k : Fin 1024, (val_main_v13 (F := Ideal) h g (ix2 i k) : EReal) * (w (ix3 ⟨(2816 + j.val) / 704, by omega⟩ ⟨(2816 + j.val) % 704, by omega⟩ k) : EReal) := by
    intro j
    pointwise [val_main_v19, val_main_v17, val_main_v16, val_main_v15, val_main_v14]
  rw [e]
  unfold feed pr
  refine Finset.sum_congr rfl fun k _ => congrArg₂ (· * ·) (v13_apply h g i k) ?_
  exact congrArg w (congrArg₂ (fun a b => ix3 a b k) (Fin.ext (by simp only [feat, hi]; omega)) (Fin.ext (by simp only [feat]; omega)))

theorem s_apply (i : Fin 4096) (j : Fin 2816) : (val_main_v20_2 (F := Ideal) h g w (ix2 i j) : EReal) = Ideal.div one (one + Ideal.exp (-(val_main_v18 (F := Ideal) h g w (ix2 i j) : EReal))) := by
  unfold one
  pointwise [val_main_v20_2, val_main_call0_v4, val_main_call0_v3, val_main_call0_v2, val_main_call0_v1, val_main_call0_v0, val_main_call0_cst, val_main_call0_cst_0]

theorem v25_apply (i : Fin 4096) (j : Fin 2816) : (val_main_v25 (F := Ideal) h g w (ix2 i j) : EReal) = dref (val_main_v18 (F := Ideal) h g w (ix2 i j)) (val_main_v19 (F := Ideal) h g w (ix2 i j)) := by
  unfold dref
  rw [← s_apply]
  unfold one
  pointwise [val_main_v25, val_main_call1_v2, val_main_call1_v1, val_main_call1_v0, val_main_v24, val_main_v22, val_main_cst_2, val_main_v20_1, val_main_call0_v7, val_main_call0_v6, val_main_call0_cst_1]

theorem v23_apply (i : Fin 4096) (j : Fin 2816) : (val_main_v23 (F := Ideal) h g w (ix2 i j) : EReal) = val_main_v18 (F := Ideal) h g w (ix2 i j) * Ideal.div one (one + Ideal.exp (-(val_main_v18 (F := Ideal) h g w (ix2 i j) : EReal))) * one := by
  rw [← s_apply]
  unfold one
  pointwise [val_main_v23, val_main_v22, val_main_cst_2, val_main_v20_0]

theorem v21_apply (i : Fin 4096) (j : Fin 2816) : (val_main_v21 (F := Ideal) h g w (ix2 i j) : EReal) = val_main_v18 (F := Ideal) h g w (ix2 i j) * Ideal.div one (one + Ideal.exp (-(val_main_v18 (F := Ideal) h g w (ix2 i j) : EReal))) * val_main_v19 (F := Ideal) h g w (ix2 i j) := by
  rw [← s_apply]
  pointwise [val_main_v21, val_main_v20_0]

theorem v28_apply (q : Fin 4) (i : Fin 4096) (n : Fin 704) : (val_main_v28 (F := Ideal) h g w (ix3 q i n) : EReal) = dref (feed h g w i (lo q) n) (feed h g w i (hi q) n) := by
  have e : (val_main_v28 (F := Ideal) h g w (ix3 q i n) : EReal) = val_main_v25 (F := Ideal) h g w (ix2 i (feat q n)) := by
    unfold feat
    pointwise [val_main_v28, val_main_v27, val_main_v26]
  rw [e, v25_apply, v18_apply, v19_apply]

theorem v31_apply (q : Fin 4) (i : Fin 4096) (n : Fin 704) : (val_main_v31 (F := Ideal) h g w (ix3 q i n) : EReal) = feed h g w i (lo q) n * sg (feed h g w i (lo q) n) := by
  have e : (val_main_v31 (F := Ideal) h g w (ix3 q i n) : EReal) = val_main_v23 (F := Ideal) h g w (ix2 i (feat q n)) := by
    unfold feat
    pointwise [val_main_v31, val_main_v30, val_main_v29]
  rw [e, v23_apply, v18_apply]
  unfold sg
  rw [Cert.FfnInIdeal.Hand.zero_sub']
  exact (congrArg _ Cert.FfnInIdeal.Hand.one_eq).trans (mul_one _)

theorem v34_apply (q : Fin 4) (i : Fin 4096) (n : Fin 704) : (val_main_v34 (F := Ideal) h g w (ix3 q i n) : EReal) = feed h g w i (lo q) n * sg (feed h g w i (lo q) n) * feed h g w i (hi q) n := by
  have e : (val_main_v34 (F := Ideal) h g w (ix3 q i n) : EReal) = val_main_v21 (F := Ideal) h g w (ix2 i (feat q n)) := by
    unfold feat
    pointwise [val_main_v34, val_main_v33, val_main_v32]
  rw [e, v21_apply, v18_apply, v19_apply]
  unfold sg
  rw [Cert.FfnInIdeal.Hand.zero_sub']

theorem v35_apply (i : Fin 4096) (n : Fin 1024) : (val_main_v35 (F := Ideal) h g (ix2 i n) : EReal) = row h g i n := by
  rw [← v13_apply]
  pointwise [val_main_v35]

end Cert.FfnInRefIdeal.Hand

namespace Cert.FfnInIdeal.Hand

open Idealize.ShloMosaic Idealize.ShloMosaic.TcCoe Idealize.ShloMosaic.Tactic Idealize.SL.Sem
open Cert.FfnInIdeal Cert.FfnInIdeal.Gen
open Idealize.ShloMosaic.Pipeline (Dat Cfg Window cellOf)
open Cert.FfnInRefIdeal.Hand
open Cert.FfnInRefIdeal.Read (val_main_v28 val_main_v31 val_main_v34 val_main_v35)

variable (m : (ℓ : Loc nD τ sig) → Buf (Elt Ideal) ℓ) (ρ : Dev nD → PrngReg)

theorem ix_4 : ∀ t : Fin grid0.N, win0_4.index t = ![t.val % 4, t.val / 4, 0] := by decide +kernel
theorem ix_5 : ∀ t : Fin grid0.N, win0_5.index t = ![t.val % 4, t.val / 4, 0] := by decide +kernel
theorem ix_6 : ∀ t : Fin grid0.N, win0_6.index t = ![t.val % 4, t.val / 4, 0] := by decide +kernel
theorem ix_7 : ∀ t : Fin grid0.N, win0_7.index t = ![t.val / 4, 0] := by decide +kernel

theorem dgate_at (c : Dev nD) (hg : ∀ i, ∃ r : ℝ, (V m c main_arg1 i : EReal) = (r : EReal)) (hw : ∀ i, ∃ r : ℝ, (V m c main_arg2 i : EReal) = (r : EReal)) (t : Fin cfg0.N) (b q : Fin 4) (hb : t.val = 4 * b.val + q.val) (r : Fin 1024) (n : Fin 704) :
    ((dats m 0 c).after 4 t (ix3 0 r n) : EReal) = val_main_v28 (F := Ideal) (m ((c : Thread nD τ).loc main_arg0)) (m ((c : Thread nD τ).loc main_arg1)) (m ((c : Thread nD τ).loc main_arg2)) (ix3 q (tok b r) n) := by
  rw [after0_4, dgate_apply, gate_at m c t b q hb, up_at m c t b q hb]
  obtain ⟨y, hy⟩ := feed_real _ _ _ hg hw (tok b r) (lo q) n
  obtain ⟨u, hu⟩ := feed_real _ _ _ hg hw (tok b r) (hi q) n
  refine Eq.trans ?_ (v28_apply _ _ _ _ _ _).symm
  rw [hy, hu]
  refine (dk_eq y u).trans ?_
  rw [← hy, ← hu]

/-- What a point writes back is its block of the reference's result. -/
theorem flushed4_eq (c : Dev nD) (hg : ∀ i, ∃ r : ℝ, (V m c main_arg1 i : EReal) = (r : EReal)) (hw : ∀ i, ∃ r : ℝ, (V m c main_arg2 i : EReal) = (r : EReal)) (t : Fin cfg0.N) :
    (dats m 0 c).flushed 4 t = ((cfg0.win 4).blk t).view.read (Elt Ideal) (val_main_v28 (F := Ideal) (m ((c : Thread nD τ).loc main_arg0)) (m ((c : Thread nD τ).loc main_arg1)) (m ((c : Thread nD τ).loc main_arg2))) := by
  have hN : t.val < 16 := lt_of_lt_of_eq t.isLt N_0
  funext y
  have hy0 : (y 0).val < 1 := (y 0).isLt
  have hy1 : (y 1).val < 1024 := (y 1).isLt
  have hy2 : (y 2).val < 704 := (y 2).isLt
  have h0 : win0_4.index t (0 : Fin 3) = t.val % 4 := congrFun (ix_4 t) 0
  have h1 : win0_4.index t (1 : Fin 3) = t.val / 4 := congrFun (ix_4 t) 1
  have h2 : win0_4.index t (2 : Fin 3) = 0 := congrFun (ix_4 t) 2
  have hb0 : (((cfg0.win 4).blk t).view.emb y 0).val = win0_4.index t (0 : Fin 3) * 1 + 1 * (y 0).val := rfl
  have hb1 : (((cfg0.win 4).blk t).view.emb y 1).val = win0_4.index t (1 : Fin 3) * 1024 + 1 * (y 1).val := rfl
  have hb2 : (((cfg0.win 4).blk t).view.emb y 2).val = win0_4.index t (2 : Fin 3) * 704 + 1 * (y 2).val := rfl
  have ex : (cfg0.win 4).xinj (grid0.coords t) y = ix3 0 ⟨(y 1).val, hy1⟩ ⟨(y 2).val, hy2⟩ := by
    funext a; apply Fin.ext
    match a with
    | ⟨0, _⟩ => show (y 0).val = 0; omega
    | ⟨1, _⟩ => rfl
    | ⟨2, _⟩ => rfl
  have ey : ((cfg0.win 4).blk t).view.emb y = ix3 ⟨t.val % 4, by omega⟩ (tok ⟨t.val / 4, by omega⟩ ⟨(y 1).val, hy1⟩) ⟨(y 2).val, hy2⟩ := by
    funext a; apply Fin.ext
    match a with
    | ⟨0, _⟩ => show (((cfg0.win 4).blk t).view.emb y 0).val = t.val % 4; rw [hb0]; omega
    | ⟨1, _⟩ => show (((cfg0.win 4).blk t).view.emb y 1).val = 1024 * (t.val / 4) + (y 1).val; rw [hb1]; omega
    | ⟨2, _⟩ => show (((cfg0.win 4).blk t).view.emb y 2).val = (y 2).val; rw [hb2]; omega
  show (dats m 0 c).after 4 t ((cfg0.win 4).xinj (grid0.coords t) y) = val_main_v28 (F := Ideal) (m ((c : Thread nD τ).loc main_arg0)) (m ((c : Thread nD τ).loc main_arg1)) (m ((c : Thread nD τ).loc main_arg2)) (((cfg0.win 4).blk t).view.emb y)
  rw [ex, ey]
  exact dgate_at m c hg hw t ⟨t.val / 4, by omega⟩ ⟨t.val % 4, by omega⟩ (by show t.val = 4 * (t.val / 4) + t.val % 4; omega) _ _

theorem mem_blk4 (t : Fin cfg0.N) (i : S4x4096x704.Idx) :
    i ∈ ((cfg0.win 4).blk t).view.set ↔ ∀ a : Fin 3, win0_4.index t a * S1x1024x704.size a ≤ (i a).val ∧ (i a).val < win0_4.index t a * S1x1024x704.size a + S1x1024x704.size a := by
  show i ∈ ((View.whole main_v0_0).slice (win0_4.rect t)).set ↔ _
  rw [View.set_slice_whole, Rect.mem_set_unit]
  exact Iff.rfl

theorem cover4 (i : S4x4096x704.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 704 := (i 2).isLt
  have ht : 4 * ((i 1).val / 1024) + (i 0).val < cfg0.N := by rw [show cfg0.N = 16 from N_0]; omega
  refine ⟨⟨_, ht⟩, flush0_4 _, ?_⟩
  rw [mem_blk4]
  have e := ix_4 ⟨_, ht⟩
  have h0 : win0_4.index ⟨_, ht⟩ (0 : Fin 3) = (4 * ((i 1).val / 1024) + (i 0).val) % 4 := congrFun e 0
  have h1 : win0_4.index ⟨_, ht⟩ (1 : Fin 3) = (4 * ((i 1).val / 1024) + (i 0).val) / 4 := congrFun e 1
  have h2 : win0_4.index ⟨_, ht⟩ (2 : Fin 3) = 0 := congrFun e 2
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 1024 ≤ (i 1).val ∧ (i 1).val < win0_4.index _ (1 : Fin 3) * 1024 + 1024; omega
  | ⟨2, _⟩ => show win0_4.index _ (2 : Fin 3) * 704 ≤ (i 2).val ∧ (i 2).val < win0_4.index _ (2 : Fin 3) * 704 + 704; omega

/-- The array after the run is the reference's. -/
theorem final4 (c : Dev nD) (hg : ∀ i, ∃ r : ℝ, (V m c main_arg1 i : EReal) = (r : EReal)) (hw : ∀ i, ∃ r : ℝ, (V m c main_arg2 i : EReal) = (r : EReal)) : (dats m 0 c).arrAt 4 cfg0.N = val_main_v28 (F := Ideal) (m ((c : Thread nD τ).loc main_arg0)) (m ((c : Thread nD τ).loc main_arg1)) (m ((c : Thread nD τ).loc main_arg2)) :=
  (dats m 0 c).arrAt_eq_of_cover 4 _ (fun t _ => flushed4_eq m c hg hw t) (fun i => cover4 i)

theorem dup_at (c : Dev nD) (t : Fin cfg0.N) (b q : Fin 4) (hb : t.val = 4 * b.val + q.val) (r : Fin 1024) (n : Fin 704) :
    ((dats m 0 c).after 5 t (ix3 0 r n) : EReal) = val_main_v31 (F := Ideal) (m ((c : Thread nD τ).loc main_arg0)) (m ((c : Thread nD τ).loc main_arg1)) (m ((c : Thread nD τ).loc main_arg2)) (ix3 q (tok b r) n) := by
  rw [after0_5, dup_apply, gate_at m c t b q hb]
  exact (v31_apply _ _ _ _ _ _).symm

/-- What a point writes back is its block of the reference's result. -/
theorem flushed5_eq (c : Dev nD) (t : Fin cfg0.N) :
    (dats m 0 c).flushed 5 t = ((cfg0.win 5).blk t).view.read (Elt Ideal) (val_main_v31 (F := Ideal) (m ((c : Thread nD τ).loc main_arg0)) (m ((c : Thread nD τ).loc main_arg1)) (m ((c : Thread nD τ).loc main_arg2))) := by
  have hN : t.val < 16 := lt_of_lt_of_eq t.isLt N_0
  funext y
  have hy0 : (y 0).val < 1 := (y 0).isLt
  have hy1 : (y 1).val < 1024 := (y 1).isLt
  have hy2 : (y 2).val < 704 := (y 2).isLt
  have h0 : win0_5.index t (0 : Fin 3) = t.val % 4 := congrFun (ix_5 t) 0
  have h1 : win0_5.index t (1 : Fin 3) = t.val / 4 := congrFun (ix_5 t) 1
  have h2 : win0_5.index t (2 : Fin 3) = 0 := congrFun (ix_5 t) 2
  have hb0 : (((cfg0.win 5).blk t).view.emb y 0).val = win0_5.index t (0 : Fin 3) * 1 + 1 * (y 0).val := rfl
  have hb1 : (((cfg0.win 5).blk t).view.emb y 1).val = win0_5.index t (1 : Fin 3) * 1024 + 1 * (y 1).val := rfl
  have hb2 : (((cfg0.win 5).blk t).view.emb y 2).val = win0_5.index t (2 : Fin 3) * 704 + 1 * (y 2).val := rfl
  have ex : (cfg0.win 5).xinj (grid0.coords t) y = ix3 0 ⟨(y 1).val, hy1⟩ ⟨(y 2).val, hy2⟩ := by
    funext a; apply Fin.ext
    match a with
    | ⟨0, _⟩ => show (y 0).val = 0; omega
    | ⟨1, _⟩ => rfl
    | ⟨2, _⟩ => rfl
  have ey : ((cfg0.win 5).blk t).view.emb y = ix3 ⟨t.val % 4, by omega⟩ (tok ⟨t.val / 4, by omega⟩ ⟨(y 1).val, hy1⟩) ⟨(y 2).val, hy2⟩ := by
    funext a; apply Fin.ext
    match a with
    | ⟨0, _⟩ => show (((cfg0.win 5).blk t).view.emb y 0).val = t.val % 4; rw [hb0]; omega
    | ⟨1, _⟩ => show (((cfg0.win 5).blk t).view.emb y 1).val = 1024 * (t.val / 4) + (y 1).val; rw [hb1]; omega
    | ⟨2, _⟩ => show (((cfg0.win 5).blk t).view.emb y 2).val = (y 2).val; rw [hb2]; omega
  show (dats m 0 c).after 5 t ((cfg0.win 5).xinj (grid0.coords t) y) = val_main_v31 (F := Ideal) (m ((c : Thread nD τ).loc main_arg0)) (m ((c : Thread nD τ).loc main_arg1)) (m ((c : Thread nD τ).loc main_arg2)) (((cfg0.win 5).blk t).view.emb y)
  rw [ex, ey]
  exact dup_at m c t ⟨t.val / 4, by omega⟩ ⟨t.val % 4, by omega⟩ (by show t.val = 4 * (t.val / 4) + t.val % 4; omega) _ _

theorem mem_blk5 (t : Fin cfg0.N) (i : S4x4096x704.Idx) :
    i ∈ ((cfg0.win 5).blk t).view.set ↔ ∀ a : Fin 3, win0_5.index t a * S1x1024x704.size a ≤ (i a).val ∧ (i a).val < win0_5.index t a * S1x1024x704.size a + S1x1024x704.size a := by
  show i ∈ ((View.whole main_v0_1).slice (win0_5.rect t)).set ↔ _
  rw [View.set_slice_whole, Rect.mem_set_unit]
  exact Iff.rfl

theorem cover5 (i : S4x4096x704.Idx) : ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 704 := (i 2).isLt
  have ht : 4 * ((i 1).val / 1024) + (i 0).val < cfg0.N := by rw [show cfg0.N = 16 from N_0]; omega
  refine ⟨⟨_, ht⟩, flush0_5 _, ?_⟩
  rw [mem_blk5]
  have e := ix_5 ⟨_, ht⟩
  have h0 : win0_5.index ⟨_, ht⟩ (0 : Fin 3) = (4 * ((i 1).val / 1024) + (i 0).val) % 4 := congrFun e 0
  have h1 : win0_5.index ⟨_, ht⟩ (1 : Fin 3) = (4 * ((i 1).val / 1024) + (i 0).val) / 4 := congrFun e 1
  have h2 : win0_5.index ⟨_, ht⟩ (2 : Fin 3) = 0 := congrFun e 2
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 1024 ≤ (i 1).val ∧ (i 1).val < win0_5.index _ (1 : Fin 3) * 1024 + 1024; omega
  | ⟨2, _⟩ => show win0_5.index _ (2 : Fin 3) * 704 ≤ (i 2).val ∧ (i 2).val < win0_5.index _ (2 : Fin 3) * 704 + 704; omega

/-- The array after the run is the reference's. -/
theorem final5 (c : Dev nD) : (dats m 0 c).arrAt 5 cfg0.N = val_main_v31 (F := Ideal) (m ((c : Thread nD τ).loc main_arg0)) (m ((c : Thread nD τ).loc main_arg1)) (m ((c : Thread nD τ).loc main_arg2)) :=
  (dats m 0 c).arrAt_eq_of_cover 5 _ (fun t _ => flushed5_eq m c t) (fun i => cover5 i)

theorem act_at (c : Dev nD) (t : Fin cfg0.N) (b q : Fin 4) (hb : t.val = 4 * b.val + q.val) (r : Fin 1024) (n : Fin 704) :
    ((dats m 0 c).after 6 t (ix3 0 r n) : EReal) = val_main_v34 (F := Ideal) (m ((c : Thread nD τ).loc main_arg0)) (m ((c : Thread nD τ).loc main_arg1)) (m ((c : Thread nD τ).loc main_arg2)) (ix3 q (tok b r) n) := by
  rw [after0_6, act_apply, gate_at m c t b q hb, up_at m c t b q hb]
  exact (v34_apply _ _ _ _ _ _).symm

/-- What a point writes back is its block of the reference's result. -/
theorem flushed6_eq (c : Dev nD) (t : Fin cfg0.N) :
    (dats m 0 c).flushed 6 t = ((cfg0.win 6).blk t).view.read (Elt Ideal) (val_main_v34 (F := Ideal) (m ((c : Thread nD τ).loc main_arg0)) (m ((c : Thread nD τ).loc main_arg1)) (m ((c : Thread nD τ).loc main_arg2))) := by
  have hN : t.val < 16 := lt_of_lt_of_eq t.isLt N_0
  funext y
  have hy0 : (y 0).val < 1 := (y 0).isLt
  have hy1 : (y 1).val < 1024 := (y 1).isLt
  have hy2 : (y 2).val < 704 := (y 2).isLt
  have h0 : win0_6.index t (0 : Fin 3) = t.val % 4 := congrFun (ix_6 t) 0
  have h1 : win0_6.index t (1 : Fin 3) = t.val / 4 := congrFun (ix_6 t) 1
  have h2 : win0_6.index t (2 : Fin 3) = 0 := congrFun (ix_6 t) 2
  have hb0 : (((cfg0.win 6).blk t).view.emb y 0).val = win0_6.index t (0 : Fin 3) * 1 + 1 * (y 0).val := rfl
  have hb1 : (((cfg0.win 6).blk t).view.emb y 1).val = win0_6.index t (1 : Fin 3) * 1024 + 1 * (y 1).val := rfl
  have hb2 : (((cfg0.win 6).blk t).view.emb y 2).val = win0_6.index t (2 : Fin 3) * 704 + 1 * (y 2).val := rfl
  have ex : (cfg0.win 6).xinj (grid0.coords t) y = ix3 0 ⟨(y 1).val, hy1⟩ ⟨(y 2).val, hy2⟩ := by
    funext a; apply Fin.ext
    match a with
    | ⟨0, _⟩ => show (y 0).val = 0; omega
    | ⟨1, _⟩ => rfl
    | ⟨2, _⟩ => rfl
  have ey : ((cfg0.win 6).blk t).view.emb y = ix3 ⟨t.val % 4, by omega⟩ (tok ⟨t.val / 4, by omega⟩ ⟨(y 1).val, hy1⟩) ⟨(y 2).val, hy2⟩ := by
    funext a; apply Fin.ext
    match a with
    | ⟨0, _⟩ => show (((cfg0.win 6).blk t).view.emb y 0).val = t.val % 4; rw [hb0]; omega
    | ⟨1, _⟩ => show (((cfg0.win 6).blk t).view.emb y 1).val = 1024 * (t.val / 4) + (y 1).val; rw [hb1]; omega
    | ⟨2, _⟩ => show (((cfg0.win 6).blk t).view.emb y 2).val = (y 2).val; rw [hb2]; omega
  show (dats m 0 c).after 6 t ((cfg0.win 6).xinj (grid0.coords t) y) = val_main_v34 (F := Ideal) (m ((c : Thread nD τ).loc main_arg0)) (m ((c : Thread nD τ).loc main_arg1)) (m ((c : Thread nD τ).loc main_arg2)) (((cfg0.win 6).blk t).view.emb y)
  rw [ex, ey]
  exact act_at m c t ⟨t.val / 4, by omega⟩ ⟨t.val % 4, by omega⟩ (by show t.val = 4 * (t.val / 4) + t.val % 4; omega) _ _

theorem mem_blk6 (t : Fin cfg0.N) (i : S4x4096x704.Idx) :
    i ∈ ((cfg0.win 6).blk t).view.set ↔ ∀ a : Fin 3, win0_6.index t a * S1x1024x704.size a ≤ (i a).val ∧ (i a).val < win0_6.index t a * S1x1024x704.size a + S1x1024x704.size a := by
  show i ∈ ((View.whole main_v0_2).slice (win0_6.rect t)).set ↔ _
  rw [View.set_slice_whole, Rect.mem_set_unit]
  exact Iff.rfl

theorem cover6 (i : S4x4096x704.Idx) : ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 704 := (i 2).isLt
  have ht : 4 * ((i 1).val / 1024) + (i 0).val < cfg0.N := by rw [show cfg0.N = 16 from N_0]; omega
  refine ⟨⟨_, ht⟩, flush0_6 _, ?_⟩
  rw [mem_blk6]
  have e := ix_6 ⟨_, ht⟩
  have h0 : win0_6.index ⟨_, ht⟩ (0 : Fin 3) = (4 * ((i 1).val / 1024) + (i 0).val) % 4 := congrFun e 0
  have h1 : win0_6.index ⟨_, ht⟩ (1 : Fin 3) = (4 * ((i 1).val / 1024) + (i 0).val) / 4 := congrFun e 1
  have h2 : win0_6.index ⟨_, ht⟩ (2 : Fin 3) = 0 := congrFun e 2
  intro a
  match a with
  | ⟨0, _⟩ => show win0_6.index _ (0 : Fin 3) * 1 ≤ (i 0).val ∧ (i 0).val < win0_6.index _ (0 : Fin 3) * 1 + 1; omega
  | ⟨1, _⟩ => show win0_6.index _ (1 : Fin 3) * 1024 ≤ (i 1).val ∧ (i 1).val < win0_6.index _ (1 : Fin 3) * 1024 + 1024; omega
  | ⟨2, _⟩ => show win0_6.index _ (2 : Fin 3) * 704 ≤ (i 2).val ∧ (i 2).val < win0_6.index _ (2 : Fin 3) * 704 + 704; omega

/-- The array after the run is the reference's. -/
theorem final6 (c : Dev nD) : (dats m 0 c).arrAt 6 cfg0.N = val_main_v34 (F := Ideal) (m ((c : Thread nD τ).loc main_arg0)) (m ((c : Thread nD τ).loc main_arg1)) (m ((c : Thread nD τ).loc main_arg2)) :=
  (dats m 0 c).arrAt_eq_of_cover 6 _ (fun t _ => flushed6_eq m c t) (fun i => cover6 i)

theorem xnout_at (c : Dev nD) (t : Fin cfg0.N) (b q : Fin 4) (hb : t.val = 4 * b.val + q.val) (r n : Fin 1024) :
    ((dats m 0 c).after 7 t (ix2 r n) : EReal) = val_main_v35 (F := Ideal) (m ((c : Thread nD τ).loc main_arg0)) (m ((c : Thread nD τ).loc main_arg1)) (ix2 (tok b r) n) := by
  rw [after0_7, xn_at m c t b q hb]
  exact (v35_apply _ _ _ _).symm

/-- What a point writes back is its block of the reference's result. -/
theorem flushed7_eq (c : Dev nD) (t : Fin cfg0.N) :
    (dats m 0 c).flushed 7 t = ((cfg0.win 7).blk t).view.read (Elt Ideal) (val_main_v35 (F := Ideal) (m ((c : Thread nD τ).loc main_arg0)) (m ((c : Thread nD τ).loc main_arg1))) := by
  have hN : t.val < 16 := lt_of_lt_of_eq t.isLt N_0
  funext y
  have hy0 : (y 0).val < 1024 := (y 0).isLt
  have hy1 : (y 1).val < 1024 := (y 1).isLt
  have h0 : win0_7.index t (0 : Fin 2) = t.val / 4 := congrFun (ix_7 t) 0
  have h1 : win0_7.index t (1 : Fin 2) = 0 := congrFun (ix_7 t) 1
  have hb0 : (((cfg0.win 7).blk t).view.emb y 0).val = win0_7.index t (0 : Fin 2) * 1024 + 1 * (y 0).val := rfl
  have hb1 : (((cfg0.win 7).blk t).view.emb y 1).val = win0_7.index t (1 : Fin 2) * 1024 + 1 * (y 1).val := rfl
  have ex : (cfg0.win 7).xinj (grid0.coords t) y = ix2 ⟨(y 0).val, hy0⟩ ⟨(y 1).val, hy1⟩ := by
    funext a; apply Fin.ext
    match a with
    | ⟨0, _⟩ => rfl
    | ⟨1, _⟩ => rfl
  have ey : ((cfg0.win 7).blk t).view.emb y = ix2 (tok ⟨t.val / 4, by omega⟩ ⟨(y 0).val, hy0⟩) ⟨(y 1).val, hy1⟩ := by
    funext a; apply Fin.ext
    match a with
    | ⟨0, _⟩ => show (((cfg0.win 7).blk t).view.emb y 0).val = 1024 * (t.val / 4) + (y 0).val; rw [hb0]; omega
    | ⟨1, _⟩ => show (((cfg0.win 7).blk t).view.emb y 1).val = (y 1).val; rw [hb1]; omega
  show (dats m 0 c).after 7 t ((cfg0.win 7).xinj (grid0.coords t) y) = val_main_v35 (F := Ideal) (m ((c : Thread nD τ).loc main_arg0)) (m ((c : Thread nD τ).loc main_arg1)) (((cfg0.win 7).blk t).view.emb y)
  rw [ex, ey]
  exact xnout_at m c t ⟨t.val / 4, by omega⟩ ⟨t.val % 4, by omega⟩ (by show t.val = 4 * (t.val / 4) + t.val % 4; omega) _ _

theorem mem_blk7 (t : Fin cfg0.N) (i : S4096x1024.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v0_3).slice (win0_7.rect t)).set ↔ _
  rw [View.set_slice_whole, Rect.mem_set_unit]
  exact Iff.rfl

theorem cover7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  have ht : 4 * ((i 0).val / 1024) + 3 < cfg0.N := by rw [show cfg0.N = 16 from N_0]; omega
  refine ⟨⟨_, ht⟩, (flush0_7 _).mpr (by show (4 * ((i 0).val / 1024) + 3) % 4 = 3; omega), ?_⟩
  rw [mem_blk7]
  have e := ix_7 ⟨_, ht⟩
  have h0 : win0_7.index ⟨_, ht⟩ (0 : Fin 2) = (4 * ((i 0).val / 1024) + 3) / 4 := congrFun e 0
  have h1 : win0_7.index ⟨_, ht⟩ (1 : Fin 2) = 0 := congrFun e 1
  intro a
  match a with
  | ⟨0, _⟩ => show win0_7.index _ (0 : Fin 2) * 1024 ≤ (i 0).val ∧ (i 0).val < win0_7.index _ (0 : Fin 2) * 1024 + 1024; omega
  | ⟨1, _⟩ => show win0_7.index _ (1 : Fin 2) * 1024 ≤ (i 1).val ∧ (i 1).val < win0_7.index _ (1 : Fin 2) * 1024 + 1024; omega

/-- The array after the run is the reference's. -/
theorem final7 (c : Dev nD) : (dats m 0 c).arrAt 7 cfg0.N = val_main_v35 (F := Ideal) (m ((c : Thread nD τ).loc main_arg0)) (m ((c : Thread nD τ).loc main_arg1)) :=
  (dats m 0 c).arrAt_eq_of_cover 7 _ (fun t _ => flushed7_eq m c t) (fun i => cover7 i)

/-- The run, with every result and argument read. -/
theorem run_values (hg : ∀ (c : Dev nD) i, ∃ r : ℝ, (V m c main_arg1 i : EReal) = (r : EReal)) (hw : ∀ (c : Dev nD) i, ∃ r : ℝ, (V m c main_arg2 i : EReal) = (r : EReal)) :
    θ_run defs (onTc (τ := τ) (main (F := Ideal))) ⟨m, fun _ => 0, ρ⟩ fun r => ∀ c : Dev nD,
      r.2.mem ((c.tc : Thread nD τ).loc main_v0_0) = val_main_v28 (F := Ideal) (m ((c : Thread nD τ).loc main_arg0)) (m ((c : Thread nD τ).loc main_arg1)) (m ((c : Thread nD τ).loc main_arg2))
      ∧ r.2.mem ((c.tc : Thread nD τ).loc main_v0_1) = val_main_v31 (F := Ideal) (m ((c : Thread nD τ).loc main_arg0)) (m ((c : Thread nD τ).loc main_arg1)) (m ((c : Thread nD τ).loc main_arg2))
      ∧ r.2.mem ((c.tc : Thread nD τ).loc main_v0_2) = val_main_v34 (F := Ideal) (m ((c : Thread nD τ).loc main_arg0)) (m ((c : Thread nD τ).loc main_arg1)) (m ((c : Thread nD τ).loc main_arg2))
      ∧ r.2.mem ((c.tc : Thread nD τ).loc main_v0_3) = val_main_v35 (F := Ideal) (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 4).trans (final4 m c (hg c) (hw c)), ((h.1 c).1 5).trans (final5 m c), ((h.1 c).1 6).trans (final6 m c), ((h.1 c).1 7).trans (final7 m c), h.2 c⟩)
    (θ_run_and (run_main m ρ) (unchanged m ρ))

/-- The call's results are the reference's, for a finite gain and a finite weight. -/
theorem values [Cert.Pre_finite_ffn_in.Facts] : Cert.algebraic_FfnInIdeal_FfnInRefIdeal_pre_finite_ffn_in := by
  intro m g m' g' hp hargs
  have hr := fun c => Cert.Pre_finite_ffn_in.Hand.reals _ _ _ (hp c)
  refine ⟨fun c => val_main_v28 (F := Ideal) (m ((c : Thread nD τ).loc main_arg0)) (m ((c : Thread nD τ).loc main_arg1)) (m ((c : Thread nD τ).loc main_arg2)), fun c => val_main_v31 (F := Ideal) (m ((c : Thread nD τ).loc main_arg0)) (m ((c : Thread nD τ).loc main_arg1)) (m ((c : Thread nD τ).loc main_arg2)), fun c => val_main_v34 (F := Ideal) (m ((c : Thread nD τ).loc main_arg0)) (m ((c : Thread nD τ).loc main_arg1)) (m ((c : Thread nD τ).loc main_arg2)), fun c => val_main_v35 (F := Ideal) (m ((c : Thread nD τ).loc main_arg0)) (m ((c : Thread nD τ).loc main_arg1)), ?_, ?_⟩
  · exact run_values m g (fun c => (hr c).1) (fun c => (hr c).2)
  · refine (θ_run _ _ _).mono (fun r h c => ?_) (Cert.FfnInRefIdeal.Value.run (F := Ideal) m' g')
    obtain ⟨h0, h1, h2, h3, e⟩ := h c
    obtain ⟨a0, a1, a2⟩ := hargs c
    refine ⟨(h0.trans (Cert.FfnInRefIdeal.Read.val_main_v28_eq m' c)).trans ?_, (h1.trans (Cert.FfnInRefIdeal.Read.val_main_v31_eq _ _ _)).trans ?_, (h2.trans (Cert.FfnInRefIdeal.Read.val_main_v34_eq _ _ _)).trans ?_, (h3.trans (Cert.FfnInRefIdeal.Read.val_main_v35_eq _ _)).trans ?_, e⟩
    · rw [a0, a1, a2]
    · rw [a0, a1, a2]
    · rw [a0, a1, a2]
    · rw [a0, a1]

/-- The reference's frame: it declares no semaphore. -/
theorem frame_r (m : (ℓ : Loc Cert.FfnInRefIdeal.nD Cert.FfnInRefIdeal.τ Cert.FfnInRefIdeal.sig) → Buf (Elt Ideal) ℓ) (g : Dev Cert.FfnInRefIdeal.nD → PrngReg) :
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2))
      ∧ r.2.sem = fun _ => 0) :=
  (θ_run _ _ _).mono (fun r h => ⟨fun c => (h c).2.2.2.2, Idealize.ShloMosaic.sem_eq_zero_of_no_sems (by decide) r.2⟩) (Cert.FfnInRefIdeal.Value.run (F := Ideal) m g)

end Cert.FfnInIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Hand.KFrame
public import proofs.«01_k».proof.Proof.Hand.Frame
public import proofs.«01_k».proof.Proof.Hand.Results
public import proofs.«01_k».proof.Proof.Hand.Fin
public import proofs.«01_k».proof.Proof.Gen.WOut
public import proofs.«01_k».proof.Proof.Gen.WOut.Frame
public import proofs.«01_k».proof.Proof.Gen.WIn
public import proofs.«01_k».proof.Proof.Gen.WIn.Frame
public import proofs.«01_k».proof.Proof.Gen.FfnOut
public import proofs.«01_k».proof.Proof.Gen.FfnOut.Frame
public import proofs.«01_k».proof.Proof.Gen.BwdIn
public import proofs.«01_k».proof.Proof.Gen.BwdIn.Frame
public import proofs.«01_k».proof.Proof.Hand.WOut
public import proofs.«01_k».proof.Proof.Hand.WIn
public import proofs.«01_k».proof.Proof.Hand.FfnOut
public import proofs.«01_k».proof.Proof.Hand.BwdIn
public import proofs.«01_k».proof.Proof.Gen.FfnIn
public import proofs.«01_k».proof.Proof.Gen.FfnInIdeal
public import proofs.«01_k».proof.Proof.Hand.FfnInBitsFrame
public import proofs.«01_k».proof.Proof.Hand.FfnInFrame
public import proofs.«01_k».proof.Proof.Hand.FinIn
public import proofs.«01_k».proof.Proof.Hand.FfnIn
public import Idealize.ShloMosaic.Adequacy
public import Idealize.ShloMosaic.Init

@[expose] public section

noncomputable section

namespace Cert.Proof

open Idealize.ShloMosaic Idealize.SL.Sem Cert.Kernel

/-- The reference's frame: it declares no semaphore. -/
theorem frame_r (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2.2.2, Idealize.ShloMosaic.sem_eq_zero_of_no_sems (by decide) r.2⟩) (Cert.ReferenceIdeal.Value.run (F := Ideal) m g)

/-- The kernel's five results are the reference's, as functions of the arguments. -/
theorem values : Cert.algebraic_KernelIdeal_ReferenceIdeal_pre_finite (hPre_finite := Cert.Pre_finite.Hand.facts) := by
  intro m g m' g' hpre hargs
  have hr : ∀ c, ∃ a, Cert.KernelIdeal.Hand.KL m c a := fun c => by
    obtain ⟨h0, h1, h2, h3⟩ := Cert.Pre_finite.Hand.reals _ _ _ _ (hpre c)
    exact Cert.Soft.exists_lifts _ _ _ _ h0 h1 h2 h3
  refine ⟨fun c => Cert.ReferenceIdeal.Read.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Read.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Read.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Read.val_main_v92 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Read.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run _ _ _).mono (fun r h c => ?_) (θ_run_and (Cert.KernelIdeal.Hand.run_post m g) (Cert.KernelIdeal.Hand.frame_claim m g))
    obtain ⟨h1, h2⟩ := h
    obtain ⟨a, ha⟩ := hr c
    obtain ⟨e0, e1, e2, e3⟩ := h2.1 c
    exact ⟨Cert.KernelIdeal.Hand.res_10 m r h1 c a ha, Cert.KernelIdeal.Hand.res_11 m r h1 c a ha, Cert.KernelIdeal.Hand.res_12 m r h1 c a ha,
      Cert.KernelIdeal.Hand.res_13 m r h1 c a ha, Cert.KernelIdeal.Hand.res_14 m r h1 c a ha, e0, e1, e2, e3⟩
  · refine (θ_run _ _ _).mono (fun r h c => ?_) (Cert.ReferenceIdeal.Value.run (F := Ideal) m' g')
    obtain ⟨h0, h1, h2, h3, h4, e⟩ := h c
    obtain ⟨a0, a1, a2, a3⟩ := hargs c
    rw [Cert.ReferenceIdeal.Read.val_main_v86_eq, a0, a1, a2, a3] at h0
    rw [Cert.ReferenceIdeal.Read.val_main_v88_eq, a0, a1, a2, a3] at h1
    rw [Cert.ReferenceIdeal.Read.val_main_v90_eq, a0, a1, a2, a3] at h2
    rw [Cert.ReferenceIdeal.Read.val_main_v92_eq, a0, a1, a2, a3] at h3
    rw [Cert.ReferenceIdeal.Read.val_main_v94_eq, a0, a1, a2, a3] at h4
    exact ⟨h0, h1, h2, h3, h4, e⟩

theorem claim : Cert.Claim := ⟨Cert.Kernel.Gen.facts, Cert.KernelIdeal.Gen.facts, Cert.ReferenceIdeal.Gen.facts,
  Cert.WOut.Gen.facts, Cert.WOutIdeal.Gen.facts, Cert.WOutRefIdeal.Gen.facts, Cert.WIn.Gen.facts, Cert.WInIdeal.Gen.facts, Cert.WInRefIdeal.Gen.facts,
  Cert.FfnOut.Gen.facts, Cert.FfnOutIdeal.Gen.facts, Cert.FfnOutRefIdeal.Gen.facts, Cert.BwdIn.Gen.facts, Cert.BwdInIdeal.Gen.facts, Cert.BwdInRefIdeal.Gen.facts,
  Cert.FfnIn.Gen.facts, Cert.FfnInIdeal.Gen.facts, Cert.FfnInRefIdeal.Gen.facts, Cert.Pre_finite.Hand.facts, Cert.Pre_finite_ffn_in.Hand.facts,
  fun m g _ => Cert.Kernel.Quiet.frame (F := Bits) m g, fun m g _ => Cert.KernelIdeal.Hand.frame_claim m g, fun m g _ => Cert.KernelIdeal.Hand.frame_claim m g,
  fun m g _ => frame_r m g, fun m g _ => frame_r m g,
  fun m g _ => Cert.WOut.Gen.frame m g, fun m g _ => Cert.WOutIdeal.Gen.frame m g, fun m g _ => Cert.WOutIdeal.Hand.frame_r m g,
  fun m g _ => Cert.WIn.Gen.frame m g, fun m g _ => Cert.WInIdeal.Gen.frame m g, fun m g _ => Cert.WInIdeal.Hand.frame_r m g,
  fun m g _ => Cert.FfnOut.Gen.frame m g, fun m g _ => Cert.FfnOutIdeal.Gen.frame m g, fun m g _ => Cert.FfnOutIdeal.Hand.frame_r m g,
  fun m g _ => Cert.BwdIn.Gen.frame m g, fun m g _ => Cert.BwdInIdeal.Gen.frame m g, fun m g _ => Cert.BwdInIdeal.Hand.frame_r m g,
  fun m g _ => Cert.FfnIn.Hand.frame (F := Bits) m g, fun m g _ => Cert.FfnInIdeal.Hand.frame m g, fun m g _ => Cert.FfnInIdeal.Hand.frame m g,
  fun m g _ => Cert.FfnInIdeal.Hand.frame_r m g, fun m g _ => Cert.FfnInIdeal.Hand.frame_r m g,
  trivial, values, trivial, Cert.WOutIdeal.Hand.values, trivial, Cert.WInIdeal.Hand.values, trivial, Cert.FfnOutIdeal.Hand.values, trivial, Cert.BwdInIdeal.Hand.values,
  trivial, @Cert.FfnInIdeal.Hand.values Cert.Pre_finite_ffn_in.Hand.facts⟩

end Cert.Proof

end
